-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v55) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v15)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v56) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Proj_ProjIdeal : Prop :=
  IdealRules.named_const.Statement Cert.ProjIdeal.κ "root" .f32 0x3DB504F3#32 (((Real.sqrt 128)⁻¹ : ℝ) : EReal)
  ∧ IdealRules.named_const.Statement Cert.ProjIdeal.κ "scale" .f32 0x3DD53B95#32 ((((Real.sqrt 192) * (Real.log 2))⁻¹ : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v40_0)) (v1 : (c : Dev Cert.ProjIdeal.nD) → Buf (Elt Ideal) ((c.tc : Thread Cert.ProjIdeal.nD Cert.ProjIdeal.τ).loc Cert.ProjIdeal.main_v40_1)) (v2 : (c : Dev Cert.ProjIdeal.nD) → Buf (Elt Ideal) ((c.tc : Thread Cert.ProjIdeal.nD Cert.ProjIdeal.τ).loc Cert.ProjIdeal.main_v40_2)) (v3 : (c : Dev Cert.ProjIdeal.nD) → Buf (Elt Ideal) ((c.tc : Thread Cert.ProjIdeal.nD Cert.ProjIdeal.τ).loc Cert.ProjIdeal.main_v40_3)) (v4 : (c : Dev Cert.ProjIdeal.nD) → Buf (Elt Ideal) ((c.tc : Thread Cert.ProjIdeal.nD Cert.ProjIdeal.τ).loc Cert.ProjIdeal.main_v40_4)) (v5 : (c : Dev Cert.ProjIdeal.nD) → Buf (Elt Ideal) ((c.tc : Thread Cert.ProjIdeal.nD Cert.ProjIdeal.τ).loc Cert.ProjIdeal.main_v40_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v40_0) = v0 c
          ∧ r.2.mem ((c.tc : Thread Cert.ProjIdeal.nD Cert.ProjIdeal.τ).loc Cert.ProjIdeal.main_v40_1) = v1 c
          ∧ r.2.mem ((c.tc : Thread Cert.ProjIdeal.nD Cert.ProjIdeal.τ).loc Cert.ProjIdeal.main_v40_2) = v2 c
          ∧ r.2.mem ((c.tc : Thread Cert.ProjIdeal.nD Cert.ProjIdeal.τ).loc Cert.ProjIdeal.main_v40_3) = v3 c
          ∧ r.2.mem ((c.tc : Thread Cert.ProjIdeal.nD Cert.ProjIdeal.τ).loc Cert.ProjIdeal.main_v40_4) = v4 c
          ∧ r.2.mem ((c.tc : Thread Cert.ProjIdeal.nD Cert.ProjIdeal.τ).loc Cert.ProjIdeal.main_v40_7) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v24) = v0 c
          ∧ r.2.mem ((c.tc : Thread Cert.ProjRefIdeal.nD Cert.ProjRefIdeal.τ).loc Cert.ProjRefIdeal.main_v26) = v1 c
          ∧ r.2.mem ((c.tc : Thread Cert.ProjRefIdeal.nD Cert.ProjRefIdeal.τ).loc Cert.ProjRefIdeal.main_v28) = v2 c
          ∧ r.2.mem ((c.tc : Thread Cert.ProjRefIdeal.nD Cert.ProjRefIdeal.τ).loc Cert.ProjRefIdeal.main_v29) = v3 c
          ∧ r.2.mem ((c.tc : Thread Cert.ProjRefIdeal.nD Cert.ProjRefIdeal.τ).loc Cert.ProjRefIdeal.main_v30) = v4 c
          ∧ r.2.mem ((c.tc : Thread Cert.ProjRefIdeal.nD Cert.ProjRefIdeal.τ).loc Cert.ProjRefIdeal.main_v49) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
-- ==== Pre_finite_scores.lean ====
abbrev S32x2048x8x128 : Shape := ⟨4, ![32, 2048, 8, 128]⟩
abbrev S32x2048x8x64 : Shape := ⟨4, ![32, 2048, 8, 64]⟩
abbrev S32x2048x64 : Shape := ⟨3, ![32, 2048, 64]⟩
abbrev S_ : Shape := ⟨0, ![]⟩

class Facts : Prop where
  bcast_S_S32x2048x8x128 : S_.BroadcastsInDim S32x2048x8x128 (![] : Fin 0 → Fin S32x2048x8x128.rank)
  bcast_S_S32x2048x8x64 : S_.BroadcastsInDim S32x2048x8x64 (![] : Fin 0 → Fin S32x2048x8x64.rank)
  bcast_S_S32x2048x64 : S_.BroadcastsInDim S32x2048x64 (![] : Fin 0 → Fin S32x2048x64.rank)

variable [Facts]

def fn {F : FTy → Type} [FloatOps F] (main_arg0 : FVec F S32x2048x8x128 .f32) (main_arg1 : FVec F S32x2048x8x64 .f32) (main_arg2 : FVec F S32x2048x8x128 .f32) (main_arg3 : FVec F S32x2048x64 .f32) (main_arg4 : FVec F S32x2048x8x128 .f32) : IVec S32x2048x8x128 1 × IVec S32x2048x8x64 1 × IVec S32x2048x8x128 1 × IVec S32x2048x64 1 :=
  let main_v0 : FVec F S32x2048x8x128 .f32 := Host.absf main_arg0
  let main_cst : FVec F S_ .f32 := constant S_ .f32 0x7F800000#32
  let main_v1 : FVec F S32x2048x8x128 .f32 := broadcastInDim S32x2048x8x128 ![] bcast_S_S32x2048x8x128 main_cst
  let main_v2 : IVec S32x2048x8x128 1 := cmpf .olt main_v0 main_v1
  let main_v3 : FVec F S32x2048x8x64 .f32 := Host.absf main_arg1
  let main_cst_0 : FVec F S_ .f32 := constant S_ .f32 0x7F800000#32
  let main_v4 : FVec F S32x2048x8x64 .f32 := broadcastInDim S32x2048x8x64 ![] bcast_S_S32x2048x8x64 main_cst_0
  let main_v5 : IVec S32x2048x8x64 1 := cmpf .olt main_v3 main_v4
  let main_v6 : FVec F S32x2048x8x128 .f32 := Host.absf main_arg2
  let main_cst_1 : FVec F S_ .f32 := constant S_ .f32 0x7F800000#32
  let main_v7 : FVec F S32x2048x8x128 .f32 := broadcastInDim S32x2048x8x128 ![] bcast_S_S32x2048x8x128 main_cst_1
  let main_v8 : IVec S32x2048x8x128 1 := cmpf .olt main_v6 main_v7
  let main_v9 : FVec F S32x2048x64 .f32 := Host.absf main_arg3
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  (main_v2, main_v5, main_v8, main_v11)
-- ==== Kernel.lean ====
abbrev S32x2048x8x128 : Shape := ⟨4, ![32, 2048, 8, 128]⟩
abbrev S32x2048x8x64 : Shape := ⟨4, ![32, 2048, 8, 64]⟩
abbrev S32x2048x64 : Shape := ⟨3, ![32, 2048, 64]⟩
abbrev S_ : Shape := ⟨0, ![]⟩
abbrev S32x2048x8x256 : Shape := ⟨4, ![32, 2048, 8, 256]⟩
abbrev S32x2048x1x64 : Shape := ⟨4, ![32, 2048, 1, 64]⟩
abbrev S32x8x2048x256 : Shape := ⟨4, ![32, 8, 2048, 256]⟩
abbrev S32x4x512x8x128 : Shape := ⟨5, ![32, 4, 512, 8, 128]⟩
abbrev S32x8x4x128x512 : Shape := ⟨5, ![32, 8, 4, 128, 512]⟩
abbrev S65536x1024 : Shape := ⟨2, ![65536, 1024]⟩
abbrev S1x4x2048x256 : Shape := ⟨4, ![1, 4, 2048, 256]⟩
abbrev S1x4x4x128x512 : Shape := ⟨5, ![1, 4, 4, 128, 512]⟩
abbrev S2048x512 : Shape := ⟨2, ![2048, 512]⟩
abbrev S16x512 : Shape := ⟨2, ![16, 512]⟩
abbrev S1x512 : Shape := ⟨2, ![1, 512]⟩
abbrev S144x512 : Shape := ⟨2, ![144, 512]⟩
abbrev S1x1x512x256 : Shape := ⟨4, ![1, 1, 512, 256]⟩
abbrev S512x256 : Shape := ⟨2, ![512, 256]⟩
abbrev S512x512 : Shape := ⟨2, ![512, 512]⟩
abbrev S512 : Shape := ⟨1, ![512]⟩
abbrev S1x1x1x128x512 : Shape := ⟨5, ![1, 1, 1, 128, 512]⟩
abbrev S128x512 : Shape := ⟨2, ![128, 512]⟩
abbrev S512x128 : Shape := ⟨2, ![512, 128]⟩

abbrev nBuf : Space → Nat
  | .hbm => 32
  | .vmem => 8
  | .smem => 0
  | _ => 0

abbrev bufTy : (tb : Table) → Fin (tcTables nBuf tb) → BufTy
  | .hbm, ⟨0, _⟩ => ⟨S32x2048x8x128, .f32⟩
  | .hbm, ⟨1, _⟩ => ⟨S32x2048x8x64, .f32⟩
  | .hbm, ⟨2, _⟩ => ⟨S32x2048x8x128, .f32⟩
  | .hbm, ⟨3, _⟩ => ⟨S32x2048x64, .f32⟩
  | .hbm, ⟨4, _⟩ => ⟨S32x2048x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x2048x8x128, .f32⟩
  | .hbm, ⟨13, _⟩ => ⟨S32x2048x8x128, .f32⟩
  | .hbm, ⟨14, _⟩ => ⟨S32x2048x8x64, .f32⟩
  | .hbm, ⟨15, _⟩ => ⟨S32x2048x8x64, .f32⟩
  | .hbm, ⟨16, _⟩ => ⟨S_, .f32⟩
  | .hbm, ⟨17, _⟩ => ⟨S32x2048x8x64, .f32⟩
  | .hbm, ⟨18, _⟩ => ⟨S32x2048x8x256, .f32⟩
  | .hbm, ⟨19, _⟩ => ⟨S32x2048x1x64, .f32⟩
  | .hbm, ⟨20, _⟩ => ⟨S32x2048x8x64, .f32⟩
  | .hbm, ⟨21, _⟩ => ⟨S_, .f32⟩
  | .hbm, ⟨22, _⟩ => ⟨S32x2048x8x64, .f32⟩
  | .hbm, ⟨23, _⟩ => ⟨S32x2048x8x256, .f32⟩
  | .hbm, ⟨24, _⟩ => ⟨S32x8x2048x256, .f32⟩
  | .hbm, ⟨25, _⟩ => ⟨S32x8x2048x256, .bf16⟩
  | .hbm, ⟨26, _⟩ => ⟨S32x8x2048x256, .f32⟩
  | .hbm, ⟨27, _⟩ => ⟨S32x8x2048x256, .bf16⟩
  | .hbm, ⟨28, _⟩ => ⟨S32x4x512x8x128, .f32⟩
  | .hbm, ⟨29, _⟩ => ⟨S32x8x4x128x512, .f32⟩
  | .hbm, ⟨30, _⟩ => ⟨S32x8x4x128x512, .bf16⟩
  | .hbm, ⟨31, _⟩ => ⟨S65536x1024, .bf16⟩
  | .local _ .vmem, ⟨0, _⟩ => ⟨S1x4x2048x256, .bf16⟩
  | .local _ .vmem, ⟨1, _⟩ => ⟨S1x4x2048x256, .bf16⟩
  | .local _ .vmem, ⟨2, _⟩ => ⟨S1x4x2048x256, .bf16⟩
  | .local _ .vmem, ⟨3, _⟩ => ⟨S1x4x2048x256, .bf16⟩
  | .local _ .vmem, ⟨4, _⟩ => ⟨S1x4x4x128x512, .bf16⟩
  | .local _ .vmem, ⟨5, _⟩ => ⟨S1x4x4x128x512, .bf16⟩
  | .local _ .vmem, ⟨6, _⟩ => ⟨S2048x512, .bf16⟩
  | .local _ .vmem, ⟨7, _⟩ => ⟨S2048x512, .bf16⟩
  | _, _ => ⟨S32x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x4x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32x2048x8x128 : Shape := ⟨4, ![32, 2048, 8, 128]⟩
abbrev S32x2048x8x64 : Shape := ⟨4, ![32, 2048, 8, 64]⟩
abbrev S32x2048x64 : Shape := ⟨3, ![32, 2048, 64]⟩
abbrev S32x8x2048x2048 : Shape := ⟨4, ![32, 8, 2048, 2048]⟩
abbrev S32x2048x2048x8 : Shape := ⟨4, ![32, 2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x8x2048 : Shape := ⟨3, ![32, 8, 2048]⟩
abbrev S32x8x2048x1 : Shape := ⟨4, ![32, 8, 2048, 1]⟩
abbrev S32x8x128x2048 : Shape := ⟨4, ![32, 8, 128, 2048]⟩
abbrev S65536x1024 : Shape := ⟨2, ![65536, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x8x128, .f32⟩
  | .hbm, ⟨1, _⟩ => ⟨S32x2048x8x64, .f32⟩
  | .hbm, ⟨2, _⟩ => ⟨S32x2048x8x128, .f32⟩
  | .hbm, ⟨3, _⟩ => ⟨S32x2048x64, .f32⟩
  | .hbm, ⟨4, _⟩ => ⟨S32x2048x8x128, .f32⟩
  | .hbm, ⟨5, _⟩ => ⟨S32x8x2048x2048, .f32⟩
  | .hbm, ⟨6, _⟩ => ⟨S32x2048x2048x8, .f32⟩
  | .hbm, ⟨7, _⟩ => ⟨S32x8x2048x2048, .f32⟩
  | .hbm, ⟨8, _⟩ => ⟨S32x8x2048x2048, .f32⟩
  | .hbm, ⟨9, _⟩ => ⟨S_, .f32⟩
  | .hbm, ⟨10, _⟩ => ⟨S_, .f32⟩
  | .hbm, ⟨11, _⟩ => ⟨S32x8x2048x2048, .f32⟩
  | .hbm, ⟨12, _⟩ => ⟨S32x8x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S32x8x2048x2048, .i1⟩
  | .hbm, ⟨22, _⟩ => ⟨S32x8x2048x2048, .f32⟩
  | .hbm, ⟨23, _⟩ => ⟨S32x8x2048x2048, .f32⟩
  | .hbm, ⟨24, _⟩ => ⟨S_, .f32⟩
  | .hbm, ⟨25, _⟩ => ⟨S32x8x2048, .f32⟩
  | .hbm, ⟨26, _⟩ => ⟨S_, .f32⟩
  | .hbm, ⟨27, _⟩ => ⟨S32x8x2048, .f32⟩
  | .hbm, ⟨28, _⟩ => ⟨S32x8x2048, .f32⟩
  | .hbm, ⟨29, _⟩ => ⟨S32x8x2048x1, .f32⟩
  | .hbm, ⟨30, _⟩ => ⟨S32x8x2048x2048, .f32⟩
  | .hbm, ⟨31, _⟩ => ⟨S32x8x2048x2048, .f32⟩
  | .hbm, ⟨32, _⟩ => ⟨S32x8x2048x2048, .f32⟩
  | .hbm, ⟨33, _⟩ => ⟨S_, .f32⟩
  | .hbm, ⟨34, _⟩ => ⟨S32x8x2048, .f32⟩
  | .hbm, ⟨35, _⟩ => ⟨S32x8x2048x1, .f32⟩
  | .hbm, ⟨36, _⟩ => ⟨S32x8x2048x2048, .f32⟩
  | .hbm, ⟨37, _⟩ => ⟨S32x8x2048x2048, .f32⟩
  | .hbm, ⟨38, _⟩ => ⟨S32x8x128x2048, .f32⟩
  | .hbm, ⟨39, _⟩ => ⟨S32x2048x8x128, .f32⟩
  | .hbm, ⟨40, _⟩ => ⟨S65536x1024, .f32⟩
  | .hbm, ⟨41, _⟩ => ⟨S65536x1024, .bf16⟩
  | _, _ => ⟨S32x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Ffn.lean ====
abbrev S32x2048x1024 : Shape := ⟨3, ![32, 2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S65536x1024 : Shape := ⟨2, ![65536, 1024]⟩
abbrev S1x5632 : Shape := ⟨2, ![1, 5632]⟩
abbrev S1x1024 : Shape := ⟨2, ![1, 1024]⟩
abbrev S1024x1024 : Shape := ⟨2, ![1024, 1024]⟩
abbrev S16x1024 : Shape := ⟨2, ![16, 1024]⟩
abbrev S2x528x1024 : Shape := ⟨3, ![2, 528, 1024]⟩
abbrev S2x512x2816 : Shape := ⟨3, ![2, 512, 2816]⟩
abbrev S2x528x256 : Shape := ⟨3, ![2, 528, 256]⟩
abbrev S1x16x1024 : Shape := ⟨3, ![1, 16, 1024]⟩
abbrev S512x1024 : Shape := ⟨2, ![512, 1024]⟩
abbrev S1x512x1024 : Shape := ⟨3, ![1, 512, 1024]⟩
abbrev S1x528x1024 : Shape := ⟨3, ![1, 528, 1024]⟩
abbrev S528x1024 : Shape := ⟨2, ![528, 1024]⟩
abbrev S1024x256 : Shape := ⟨2, ![1024, 256]⟩
abbrev S528x256 : Shape := ⟨2, ![528, 256]⟩
abbrev S1x528x256 : Shape := ⟨3, ![1, 528, 256]⟩
abbrev S3x256 : Shape := ⟨2, ![3, 256]⟩
abbrev S1x256 : Shape := ⟨2, ![1, 256]⟩
abbrev S1x512x256 : Shape := ⟨3, ![1, 512, 256]⟩
abbrev S512x256 : Shape := ⟨2, ![512, 256]⟩
abbrev S1x512x2816 : Shape := ⟨3, ![1, 512, 2816]⟩
abbrev S512x2816 : Shape := ⟨2, ![512, 2816]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S65536x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S2x528x1024, .bf16⟩
  | .local _ .vmem, ⟨13, _⟩ => ⟨S2x512x2816, .bf16⟩
  | .local _ .vmem, ⟨14, _⟩ => ⟨S2x528x256, .f32⟩
  | .local _ .vmem, ⟨15, _⟩ => ⟨S2x528x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S32x2048x1024 : Shape := ⟨3, ![32, 2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S32x2048x5632 : Shape := ⟨3, ![32, 2048, 5632]⟩
abbrev S_ : Shape := ⟨0, ![]⟩
abbrev S32x2050x5632 : Shape := ⟨3, ![32, 2050, 5632]⟩
abbrev S1x5632 : Shape := ⟨2, ![1, 5632]⟩
abbrev S1x1x5632 : Shape := ⟨3, ![1, 1, 5632]⟩
abbrev S32x2048x2816 : Shape := ⟨3, ![32, 2048, 2816]⟩
abbrev S32x2048 : Shape := ⟨2, ![32, 2048]⟩
abbrev S32x2048x1 : Shape := ⟨3, ![32, 2048, 1]⟩
abbrev S1x1x1024 : Shape := ⟨3, ![1, 1, 1024]⟩
abbrev S65536x1024 : Shape := ⟨2, ![65536, 1024]⟩

abbrev nBuf : Space → Nat
  | .hbm => 79
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S32x2048x5632, .f32⟩
  | .hbm, ⟨8, _⟩ => ⟨S_, .i32⟩
  | .hbm, ⟨9, _⟩ => ⟨S_, .f32⟩
  | .hbm, ⟨10, _⟩ => ⟨S32x2050x5632, .f32⟩
  | .hbm, ⟨11, _⟩ => ⟨S1x5632, .f32⟩
  | .hbm, ⟨12, _⟩ => ⟨S5632, .f32⟩
  | .hbm, ⟨13, _⟩ => ⟨S32x2048x5632, .f32⟩
  | .hbm, ⟨14, _⟩ => ⟨S1x1x5632, .f32⟩
  | .hbm, ⟨15, _⟩ => ⟨S32x2048x5632, .f32⟩
  | .hbm, ⟨16, _⟩ => ⟨S32x2048x5632, .f32⟩
  | .hbm, ⟨17, _⟩ => ⟨S1x5632, .f32⟩
  | .hbm, ⟨18, _⟩ => ⟨S5632, .f32⟩
  | .hbm, ⟨19, _⟩ => ⟨S32x2048x5632, .f32⟩
  | .hbm, ⟨20, _⟩ => ⟨S1x1x5632, .f32⟩
  | .hbm, ⟨21, _⟩ => ⟨S32x2048x5632, .f32⟩
  | .hbm, ⟨22, _⟩ => ⟨S32x2048x5632, .f32⟩
  | .hbm, ⟨23, _⟩ => ⟨S32x2048x5632, .f32⟩
  | .hbm, ⟨24, _⟩ => ⟨S1x5632, .f32⟩
  | .hbm, ⟨25, _⟩ => ⟨S5632, .f32⟩
  | .hbm, ⟨26, _⟩ => ⟨S32x2048x5632, .f32⟩
  | .hbm, ⟨27, _⟩ => ⟨S1x1x5632, .f32⟩
  | .hbm, ⟨28, _⟩ => ⟨S32x2048x5632, .f32⟩
  | .hbm, ⟨29, _⟩ => ⟨S32x2048x5632, .f32⟩
  | .hbm, ⟨30, _⟩ => ⟨S32x2048x5632, .f32⟩
  | .hbm, ⟨31, _⟩ => ⟨S1x1x5632, .f32⟩
  | .hbm, ⟨32, _⟩ => ⟨S32x2048x5632, .f32⟩
  | .hbm, ⟨33, _⟩ => ⟨S32x2048x5632, .f32⟩
  | .hbm, ⟨34, _⟩ => ⟨S32x2048x2816, .f32⟩
  | .hbm, ⟨35, _⟩ => ⟨S32x2048x2816, .f32⟩
  | .hbm, ⟨36, _⟩ => ⟨S32x2048x2816, .f32⟩
  | .hbm, ⟨37, _⟩ => ⟨S32x2048x2816, .f32⟩
  | .hbm, ⟨38, _⟩ => ⟨S_, .f32⟩
  | .hbm, ⟨39, _⟩ => ⟨S32x2048x2816, .f32⟩
  | .hbm, ⟨40, _⟩ => ⟨S32x2048x2816, .f32⟩
  | .hbm, ⟨41, _⟩ => ⟨S_, .f32⟩
  | .hbm, ⟨42, _⟩ => ⟨S32x2048x2816, .f32⟩
  | .hbm, ⟨43, _⟩ => ⟨S32x2048x2816, .f32⟩
  | .hbm, ⟨44, _⟩ => ⟨S32x2048x2816, .f32⟩
  | .hbm, ⟨45, _⟩ => ⟨S32x2048x2816, .f32⟩
  | .hbm, ⟨46, _⟩ => ⟨S32x2048x1024, .f32⟩
  | .hbm, ⟨47, _⟩ => ⟨S_, .f32⟩
  | .hbm, ⟨48, _⟩ => ⟨S32x2048x1024, .f32⟩
  | .hbm, ⟨49, _⟩ => ⟨S32x2048x1024, .f32⟩
  | .hbm, ⟨50, _⟩ => ⟨S32x2048x1024, .f32⟩
  | .hbm, ⟨51, _⟩ => ⟨S_, .f32⟩
  | .hbm, ⟨52, _⟩ => ⟨S32x2048, .f32⟩
  | .hbm, ⟨53, _⟩ => ⟨S32x2048x1, .f32⟩
  | .hbm, ⟨54, _⟩ => ⟨S_, .f32⟩
  | .hbm, ⟨55, _⟩ => ⟨S32x2048x1, .f32⟩
  | .hbm, ⟨56, _⟩ => ⟨S32x2048x1, .f32⟩
  | .hbm, ⟨57, _⟩ => ⟨S32x2048x1024, .f32⟩
  | .hbm, ⟨58, _⟩ => ⟨S32x2048x1024, .f32⟩
  | .hbm, ⟨59, _⟩ => ⟨S32x2048x1024, .f32⟩
  | .hbm, ⟨60, _⟩ => ⟨S_, .f32⟩
  | .hbm, ⟨61, _⟩ => ⟨S32x2048, .f32⟩
  | .hbm, ⟨62, _⟩ => ⟨S32x2048x1, .f32⟩
  | .hbm, ⟨63, _⟩ => ⟨S_, .f32⟩
  | .hbm, ⟨64, _⟩ => ⟨S32x2048x1, .f32⟩
  | .hbm, ⟨65, _⟩ => ⟨S32x2048x1, .f32⟩
  | .hbm, ⟨66, _⟩ => ⟨S_, .f32⟩
  | .hbm, ⟨67, _⟩ => ⟨S32x2048x1, .f32⟩
  | .hbm, ⟨68, _⟩ => ⟨S32x2048x1, .f32⟩
  | .hbm, ⟨69, _⟩ => ⟨S32x2048x1, .f32⟩
  | .hbm, ⟨70, _⟩ => ⟨S32x2048x1024, .f32⟩
  | .hbm, ⟨71, _⟩ => ⟨S32x2048x1024, .f32⟩
  | .hbm, ⟨72, _⟩ => ⟨S1x1x1024, .f32⟩
  | .hbm, ⟨73, _⟩ => ⟨S32x2048x1024, .f32⟩
  | .hbm, ⟨74, _⟩ => ⟨S32x2048x1024, .f32⟩
  | .hbm, ⟨75, _⟩ => ⟨S1x1x1024, .f32⟩
  | .hbm, ⟨76, _⟩ => ⟨S32x2048x1024, .f32⟩
  | .hbm, ⟨77, _⟩ => ⟨S32x2048x1024, .f32⟩
  | .hbm, ⟨78, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_0 : Ref sig .tc := ⟨.hbm, 51, rfl⟩
abbrev main_v33 : Ref sig .tc := ⟨.hbm, 52, rfl⟩
abbrev main_v34 : Ref sig .tc := ⟨.hbm, 53, rfl⟩
abbrev main_cst_1 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_2 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Merge.lean ====
abbrev S32x2048x1024 : Shape := ⟨3, ![32, 2048, 1024]⟩
abbrev S1024x5840 : Shape := ⟨2, ![1024, 5840]⟩
abbrev S1024x1024 : Shape := ⟨2, ![1024, 1024]⟩
abbrev S1024 : Shape := ⟨1, ![1024]⟩
abbrev S1024x3072 : Shape := ⟨2, ![1024, 3072]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 25
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S1024x5840, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x5840, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x3072, .bf16⟩
  | .hbm, ⟨14, _⟩ => ⟨S65536x1024, .f32⟩
  | .hbm, ⟨15, _⟩ => ⟨S65536x1024, .f32⟩
  | .hbm, ⟨16, _⟩ => ⟨S65536x1024, .bf16⟩
  | .hbm, ⟨17, _⟩ => ⟨S65536x1024, .f32⟩
  | .hbm, ⟨18, _⟩ => ⟨S65536x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x3072, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S32x2048x1024 : Shape := ⟨3, ![32, 2048, 1024]⟩
abbrev S1024x5840 : Shape := ⟨2, ![1024, 5840]⟩
abbrev S1024x1024 : Shape := ⟨2, ![1024, 1024]⟩
abbrev S1024 : Shape := ⟨1, ![1024]⟩
abbrev S32x2048x5840 : Shape := ⟨3, ![32, 2048, 5840]⟩
abbrev S32x2048x512 : Shape := ⟨3, ![32, 2048, 512]⟩
abbrev S32x2048x16 : Shape := ⟨3, ![32, 2048, 16]⟩
abbrev S32x2048x384 : Shape := ⟨3, ![32, 2048, 384]⟩
abbrev S32x2048x256 : Shape := ⟨3, ![32, 2048, 256]⟩
abbrev S32x2048x64 : Shape := ⟨3, ![32, 2048, 64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S65536x1024 : Shape := ⟨2, ![65536, 1024]⟩

abbrev nBuf : Space → Nat
  | .hbm => 84
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S1024x5840, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S32x2048x5840, .f32⟩
  | .hbm, ⟨10, _⟩ => ⟨S32x2048x512, .f32⟩
  | .hbm, ⟨11, _⟩ => ⟨S32x2048x512, .f32⟩
  | .hbm, ⟨12, _⟩ => ⟨S32x2048x1024, .f32⟩
  | .hbm, ⟨13, _⟩ => ⟨S32x2048x16, .f32⟩
  | .hbm, ⟨14, _⟩ => ⟨S32x2048x1024, .f32⟩
  | .hbm, ⟨15, _⟩ => ⟨S32x2048x384, .f32⟩
  | .hbm, ⟨16, _⟩ => ⟨S32x2048x256, .f32⟩
  | .hbm, ⟨17, _⟩ => ⟨S32x2048x64, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S_, .f32⟩
  | .hbm, ⟨23, _⟩ => ⟨S32x2048x1024, .f32⟩
  | .hbm, ⟨24, _⟩ => ⟨S32x2048x1024, .f32⟩
  | .hbm, ⟨25, _⟩ => ⟨S_, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S_, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x2048x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S_, .f32⟩
  | .hbm, ⟨44, _⟩ => ⟨S32x2048x1024, .f32⟩
  | .hbm, ⟨45, _⟩ => ⟨S32x2048x1024, .f32⟩
  | .hbm, ⟨46, _⟩ => ⟨S_, .f32⟩
  | .hbm, ⟨47, _⟩ => ⟨S32x2048x1024, .f32⟩
  | .hbm, ⟨48, _⟩ => ⟨S32x2048x1024, .f32⟩
  | .hbm, ⟨49, _⟩ => ⟨S32x2048x1024, .f32⟩
  | .hbm, ⟨50, _⟩ => ⟨S32x2048x1024, .f32⟩
  | .hbm, ⟨51, _⟩ => ⟨S32x2048x1024, .f32⟩
  | .hbm, ⟨52, _⟩ => ⟨S_, .f32⟩
  | .hbm, ⟨53, _⟩ => ⟨S32x2048x1024, .f32⟩
  | .hbm, ⟨54, _⟩ => ⟨S32x2048x1024, .f32⟩
  | .hbm, ⟨55, _⟩ => ⟨S32x2048x1024, .f32⟩
  | .hbm, ⟨56, _⟩ => ⟨S_, .f32⟩
  | .hbm, ⟨57, _⟩ => ⟨S32x2048, .f32⟩
  | .hbm, ⟨58, _⟩ => ⟨S32x2048x1, .f32⟩
  | .hbm, ⟨59, _⟩ => ⟨S_, .f32⟩
  | .hbm, ⟨60, _⟩ => ⟨S32x2048x1, .f32⟩
  | .hbm, ⟨61, _⟩ => ⟨S32x2048x1, .f32⟩
  | .hbm, ⟨62, _⟩ => ⟨S32x2048x1024, .f32⟩
  | .hbm, ⟨63, _⟩ => ⟨S32x2048x1024, .f32⟩
  | .hbm, ⟨64, _⟩ => ⟨S32x2048x1024, .f32⟩
  | .hbm, ⟨65, _⟩ => ⟨S_, .f32⟩
  | .hbm, ⟨66, _⟩ => ⟨S32x2048, .f32⟩
  | .hbm, ⟨67, _⟩ => ⟨S32x2048x1, .f32⟩
  | .hbm, ⟨68, _⟩ => ⟨S_, .f32⟩
  | .hbm, ⟨69, _⟩ => ⟨S32x2048x1, .f32⟩
  | .hbm, ⟨70, _⟩ => ⟨S32x2048x1, .f32⟩
  | .hbm, ⟨71, _⟩ => ⟨S_, .f32⟩
  | .hbm, ⟨72, _⟩ => ⟨S32x2048x1, .f32⟩
  | .hbm, ⟨73, _⟩ => ⟨S32x2048x1, .f32⟩
  | .hbm, ⟨74, _⟩ => ⟨S32x2048x1, .f32⟩
  | .hbm, ⟨75, _⟩ => ⟨S32x2048x1024, .f32⟩
  | .hbm, ⟨76, _⟩ => ⟨S32x2048x1024, .f32⟩
  | .hbm, ⟨77, _⟩ => ⟨S1x1x1024, .f32⟩
  | .hbm, ⟨78, _⟩ => ⟨S32x2048x1024, .f32⟩
  | .hbm, ⟨79, _⟩ => ⟨S32x2048x1024, .f32⟩
  | .hbm, ⟨80, _⟩ => ⟨S1x1x1024, .f32⟩
  | .hbm, ⟨81, _⟩ => ⟨S32x2048x1024, .f32⟩
  | .hbm, ⟨82, _⟩ => ⟨S32x2048x1024, .f32⟩
  | .hbm, ⟨83, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Proj.lean ====
abbrev S32x2048x1024 : Shape := ⟨3, ![32, 2048, 1024]⟩
abbrev S32x2048 : Shape := ⟨2, ![32, 2048]⟩
abbrev S1024x5840 : Shape := ⟨2, ![1024, 5840]⟩
abbrev S16x512 : Shape := ⟨2, ![16, 512]⟩
abbrev S512 : Shape := ⟨1, ![512]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S65536x1 : Shape := ⟨2, ![65536, 1]⟩
abbrev S65536x128 : Shape := ⟨2, ![65536, 128]⟩
abbrev S1024x512 : Shape := ⟨2, ![1024, 512]⟩
abbrev S1024x1024 : Shape := ⟨2, ![1024, 1024]⟩
abbrev S1024x16 : Shape := ⟨2, ![1024, 16]⟩
abbrev S1024x384 : Shape := ⟨2, ![1024, 384]⟩
abbrev S1024x256 : Shape := ⟨2, ![1024, 256]⟩
abbrev S1024x64 : Shape := ⟨2, ![1024, 64]⟩
abbrev S1024x32 : Shape := ⟨2, ![1024, 32]⟩
abbrev S1024x128 : Shape := ⟨2, ![1024, 128]⟩
abbrev S1024x2816 : Shape := ⟨2, ![1024, 2816]⟩
abbrev S384x8x192 : Shape := ⟨3, ![384, 8, 192]⟩
abbrev S384x8x128 : Shape := ⟨3, ![384, 8, 128]⟩
abbrev S384x1024 : Shape := ⟨2, ![384, 1024]⟩
abbrev S384x8x64 : Shape := ⟨3, ![384, 8, 64]⟩
abbrev S384x512 : Shape := ⟨2, ![384, 512]⟩
abbrev S128x512 : Shape := ⟨2, ![128, 512]⟩
abbrev S65536x1024 : Shape := ⟨2, ![65536, 1024]⟩
abbrev S1x512 : Shape := ⟨2, ![1, 512]⟩
abbrev S1x384 : Shape := ⟨2, ![1, 384]⟩
abbrev S1x256 : Shape := ⟨2, ![1, 256]⟩
abbrev S65536x512 : Shape := ⟨2, ![65536, 512]⟩
abbrev S32x4x256x2048 : Shape := ⟨4, ![32, 4, 256, 2048]⟩
abbrev S32x8x2048x256 : Shape := ⟨4, ![32, 8, 2048, 256]⟩
abbrev S32x8x4x128x512 : Shape := ⟨5, ![32, 8, 4, 128, 512]⟩
abbrev S512x1024 : Shape := ⟨2, ![512, 1024]⟩
abbrev S512x128 : Shape := ⟨2, ![512, 128]⟩
abbrev S512x512 : Shape := ⟨2, ![512, 512]⟩
abbrev S1x4x256x512 : Shape := ⟨4, ![1, 4, 256, 512]⟩
abbrev S1x8x512x256 : Shape := ⟨4, ![1, 8, 512, 256]⟩
abbrev S1x8x1x128x512 : Shape := ⟨5, ![1, 8, 1, 128, 512]⟩
abbrev S256x1024 : Shape := ⟨2, ![256, 1024]⟩
abbrev S256x512 : Shape := ⟨2, ![256, 512]⟩
abbrev S256x256 : Shape := ⟨2, ![256, 256]⟩
abbrev S256x128 : Shape := ⟨2, ![256, 128]⟩
abbrev S256x384 : Shape := ⟨2, ![256, 384]⟩
abbrev S256x1 : Shape := ⟨2, ![256, 1]⟩
abbrev S1x1x256x256 : Shape := ⟨4, ![1, 1, 256, 256]⟩
abbrev S256x1536 : Shape := ⟨2, ![256, 1536]⟩
abbrev S1x1x256x128 : Shape := ⟨4, ![1, 1, 256, 128]⟩
abbrev S128x256 : Shape := ⟨2, ![128, 256]⟩
abbrev S1x1x1x128x256 : Shape := ⟨5, ![1, 1, 1, 128, 256]⟩

abbrev nBuf : Space → Nat
  | .hbm => 63
  | .vmem => 28
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S1024x5840, .f32⟩
  | .hbm, ⟨3, _⟩ => ⟨S16x512, .f32⟩
  | .hbm, ⟨4, _⟩ => ⟨S512, .f32⟩
  | .hbm, ⟨5, _⟩ => ⟨S384, .f32⟩
  | .hbm, ⟨6, _⟩ => ⟨S384x1536, .f32⟩
  | .hbm, ⟨7, _⟩ => ⟨S256, .f32⟩
  | .hbm, ⟨8, _⟩ => ⟨S256x2048, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S1x32, .f32⟩
  | .hbm, ⟨18, _⟩ => ⟨S4x32, .f32⟩
  | .hbm, ⟨19, _⟩ => ⟨S128, .f32⟩
  | .hbm, ⟨20, _⟩ => ⟨S1x128, .f32⟩
  | .hbm, ⟨21, _⟩ => ⟨S32x2048, .f32⟩
  | .hbm, ⟨22, _⟩ => ⟨S65536x1, .f32⟩
  | .hbm, ⟨23, _⟩ => ⟨S65536x128, .f32⟩
  | .hbm, ⟨24, _⟩ => ⟨S1024x5840, .bf16⟩
  | .hbm, ⟨25, _⟩ => ⟨S1024x512, .bf16⟩
  | .hbm, ⟨26, _⟩ => ⟨S1024x512, .bf16⟩
  | .hbm, ⟨27, _⟩ => ⟨S1024x1024, .bf16⟩
  | .hbm, ⟨28, _⟩ => ⟨S1024x16, .bf16⟩
  | .hbm, ⟨29, _⟩ => ⟨S1024x1024, .bf16⟩
  | .hbm, ⟨30, _⟩ => ⟨S1024x384, .bf16⟩
  | .hbm, ⟨31, _⟩ => ⟨S1024x256, .bf16⟩
  | .hbm, ⟨32, _⟩ => ⟨S1024x64, .bf16⟩
  | .hbm, ⟨33, _⟩ => ⟨S_, .i32⟩
  | .hbm, ⟨34, _⟩ => ⟨S_, .bf16⟩
  | .hbm, ⟨35, _⟩ => ⟨S1024x32, .bf16⟩
  | .hbm, ⟨36, _⟩ => ⟨S1024x32, .bf16⟩
  | .hbm, ⟨37, _⟩ => ⟨S1024x128, .bf16⟩
  | .hbm, ⟨38, _⟩ => ⟨S1024x2816, .bf16⟩
  | .hbm, ⟨39, _⟩ => ⟨S384x8x192, .f32⟩
  | .hbm, ⟨40, _⟩ => ⟨S384x8x128, .f32⟩
  | .hbm, ⟨41, _⟩ => ⟨S384x1024, .f32⟩
  | .hbm, ⟨42, _⟩ => ⟨S384x8x64, .f32⟩
  | .hbm, ⟨43, _⟩ => ⟨S384x512, .f32⟩
  | .hbm, ⟨44, _⟩ => ⟨S384x1536, .f32⟩
  | .hbm, ⟨45, _⟩ => ⟨S384x1536, .bf16⟩
  | .hbm, ⟨46, _⟩ => ⟨S_, .i32⟩
  | .hbm, ⟨47, _⟩ => ⟨S_, .f32⟩
  | .hbm, ⟨48, _⟩ => ⟨S128x512, .f32⟩
  | .hbm, ⟨49, _⟩ => ⟨S128x512, .bf16⟩
  | .hbm, ⟨50, _⟩ => ⟨S256x2048, .bf16⟩
  | .hbm, ⟨51, _⟩ => ⟨S65536x1024, .f32⟩
  | .hbm, ⟨52, _⟩ => ⟨S1x512, .f32⟩
  | .hbm, ⟨53, _⟩ => ⟨S1x384, .f32⟩
  | .hbm, ⟨54, _⟩ => ⟨S1x256, .f32⟩
  | .hbm, ⟨55, _⟩ => ⟨S65536x512, .bf16⟩
  | .hbm, ⟨56, _⟩ => ⟨S65536x512, .bf16⟩
  | .hbm, ⟨57, _⟩ => ⟨S65536x1024, .bf16⟩
  | .hbm, ⟨58, _⟩ => ⟨S32x4x256x2048, .bf16⟩
  | .hbm, ⟨59, _⟩ => ⟨S65536x512, .f32⟩
  | .hbm, ⟨60, _⟩ => ⟨S32x8x2048x256, .bf16⟩
  | .hbm, ⟨61, _⟩ => ⟨S32x8x2048x256, .bf16⟩
  | .hbm, ⟨62, _⟩ => ⟨S32x8x4x128x512, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1024x2816, .bf16⟩
  | .local _ .vmem, ⟨6, _⟩ => ⟨S384x1536, .bf16⟩
  | .local _ .vmem, ⟨7, _⟩ => ⟨S256x2048, .bf16⟩
  | .local _ .vmem, ⟨8, _⟩ => ⟨S128x512, .bf16⟩
  | .local _ .vmem, ⟨9, _⟩ => ⟨S1x512, .f32⟩
  | .local _ .vmem, ⟨10, _⟩ => ⟨S1x384, .f32⟩
  | .local _ .vmem, ⟨11, _⟩ => ⟨S1x256, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S1x4x256x512, .bf16⟩
  | .local _ .vmem, ⟨19, _⟩ => ⟨S1x4x256x512, .bf16⟩
  | .local _ .vmem, ⟨20, _⟩ => ⟨S512x512, .f32⟩
  | .local _ .vmem, ⟨21, _⟩ => ⟨S512x512, .f32⟩
  | .local _ .vmem, ⟨22, _⟩ => ⟨S1x8x512x256, .bf16⟩
  | .local _ .vmem, ⟨23, _⟩ => ⟨S1x8x512x256, .bf16⟩
  | .local _ .vmem, ⟨24, _⟩ => ⟨S1x8x512x256, .bf16⟩
  | .local _ .vmem, ⟨25, _⟩ => ⟨S1x8x512x256, .bf16⟩
  | .local _ .vmem, ⟨26, _⟩ => ⟨S1x8x1x128x512, .bf16⟩
  | .local _ .vmem, ⟨27, _⟩ => ⟨S1x8x1x128x512, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_1 : Ref sig .tc := ⟨.hbm, 46, rfl⟩
abbrev main_call1_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40_0 : Ref sig .tc := ⟨.hbm, 55, rfl⟩
abbrev main_v40_1 : Ref sig .tc := ⟨.hbm, 56, rfl⟩
abbrev main_v40_2 : Ref sig .tc := ⟨.hbm, 57, rfl⟩
abbrev main_v40_3 : Ref sig .tc := ⟨.hbm, 58, rfl⟩
abbrev main_v40_4 : Ref sig .tc := ⟨.hbm, 59, rfl⟩
abbrev main_v40_5 : Ref sig .tc := ⟨.hbm, 60, rfl⟩
abbrev main_v40_6 : Ref sig .tc := ⟨.hbm, 61, rfl⟩
abbrev main_v40_7 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_16 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_17 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.divsi v26 c1_i32_10
  let c0_i32_11 : BitVec 32 := 0#32
  let v28 : BitVec 1 := Scalar.cmpi .sgt v26 c0_i32_11
  let v29 : BitVec 32 := Scalar.extui v28
  let c0_i32_12 : BitVec 32 := 0#32
  let v30 : BitVec 1 := Scalar.cmpi .slt v26 c0_i32_12
  let v31 : BitVec 32 := Scalar.extui v30
  let v32 : BitVec 32 := Scalar.subi v29 v31
  let c0_i32_13 : BitVec 32 := 0#32
  let v33 : BitVec 1 := Scalar.cmpi .sgt c1_i32_10 c0_i32_13
  let v34 : BitVec 32 := Scalar.extui v33
  let c0_i32_14 : BitVec 32 := 0#32
  let v35 : BitVec 1 := Scalar.cmpi .slt c1_i32_10 c0_i32_14
  let v36 : BitVec 32 := Scalar.extui v35
  let v37 : BitVec 32 := Scalar.subi v34 v36
  let v38 : BitVec 1 := Scalar.cmpi .ne v32 v37
  let v39 : BitVec 32 := Scalar.remsi v26 c1_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c4_i32_17 : BitVec 32 := 4#32
  let c0_i32_18 : BitVec 32 := 0#32
  let v44 : BitVec 1 := Scalar.cmpi .eq c4_i32_17 c0_i32_18
  let c1_i32_19 : BitVec 32 := 1#32
  let v45 : BitVec 32 := Scalar.select v44 c1_i32_19 c4_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c1_i32_23 : BitVec 32 := 1#32
  let c0_i32_24 : BitVec 32 := 0#32
  let v54 : BitVec 1 := Scalar.cmpi .eq c1_i32_23 c0_i32_24
  let c1_i32_25 : BitVec 32 := 1#32
  let v55 : BitVec 32 := Scalar.select v54 c1_i32_25 c1_i32_23
  let v56 : BitVec 32 := Scalar.remsi v53 v55
  let c0_i32_26 : BitVec 32 := 0#32
  let v57 : BitVec 1 := Scalar.cmpi .ne v56 c0_i32_26
  let c0_i32_27 : BitVec 32 := 0#32
  let v58 : BitVec 1 := Scalar.cmpi .slt v56 c0_i32_27
  let c0_i32_28 : BitVec 32 := 0#32
  let v59 : BitVec 1 := Scalar.cmpi .slt v55 c0_i32_28
  let v60 : BitVec 1 := Scalar.xori v58 v59
  let v61 : BitVec 1 := Scalar.andi v60 v57
  let v62 : BitVec 32 := Scalar.addi v56 v55
  let v63 : BitVec 32 := Scalar.select v61 v62 v56
  let c0_i32_29 : BitVec 32 := 0#32
  let c0_i32_30 : BitVec 32 := 0#32
  let c0_i32_31 : BitVec 32 := 0#32
  ![v16.toNat, c0_i32_29.toNat, v43.toNat, c0_i32_30.toNat, v63.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x1x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjIdeal.lean ====
variable {F : FTy → Type} [FloatOps F] [Named F]
def κ : String → Option EReal := fun
  | "root" => some (((Real.sqrt 128)⁻¹ : ℝ) : EReal)
  | "scale" => some ((((Real.sqrt 192) * (Real.log 2))⁻¹ : ℝ) : EReal)
  | _ => none
-- ==== ProjRefIdeal.lean ====
abbrev S32x2048x1024 : Shape := ⟨3, ![32, 2048, 1024]⟩
abbrev S32x2048 : Shape := ⟨2, ![32, 2048]⟩
abbrev S1024x5840 : Shape := ⟨2, ![1024, 5840]⟩
abbrev S16x512 : Shape := ⟨2, ![16, 512]⟩
abbrev S512 : Shape := ⟨1, ![512]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S32x2048x5840 : Shape := ⟨3, ![32, 2048, 5840]⟩
abbrev S32x2048x512 : Shape := ⟨3, ![32, 2048, 512]⟩
abbrev S32x2048x16 : Shape := ⟨3, ![32, 2048, 16]⟩
abbrev S32x2048x384 : Shape := ⟨3, ![32, 2048, 384]⟩
abbrev S32x2048x256 : Shape := ⟨3, ![32, 2048, 256]⟩
abbrev S32x2048x64 : Shape := ⟨3, ![32, 2048, 64]⟩
abbrev S1x1x512 : Shape := ⟨3, ![1, 1, 512]⟩
abbrev S_ : Shape := ⟨0, ![]⟩
abbrev S32x2048x4x256 : Shape := ⟨4, ![32, 2048, 4, 256]⟩
abbrev S32x4x256x2048 : Shape := ⟨4, ![32, 4, 256, 2048]⟩
abbrev S65536x512 : Shape := ⟨2, ![65536, 512]⟩
abbrev S65536x1024 : Shape := ⟨2, ![65536, 1024]⟩
abbrev S32x2048x1 : Shape := ⟨3, ![32, 2048, 1]⟩
abbrev S1x1x256 : Shape := ⟨3, ![1, 1, 256]⟩
abbrev S32x2048x2048 : Shape := ⟨3, ![32, 2048, 2048]⟩
abbrev S32x2048x8x256 : Shape := ⟨4, ![32, 2048, 8, 256]⟩
abbrev S32x2048x8x128 : Shape := ⟨4, ![32, 2048, 8, 128]⟩
abbrev S32x4x512x8x128 : Shape := ⟨5, ![32, 4, 512, 8, 128]⟩
abbrev S32x8x4x128x512 : Shape := ⟨5, ![32, 8, 4, 128, 512]⟩

abbrev nBuf : Space → Nat
  | .hbm => 79
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S1024x5840, .f32⟩
  | .hbm, ⟨3, _⟩ => ⟨S16x512, .f32⟩
  | .hbm, ⟨4, _⟩ => ⟨S512, .f32⟩
  | .hbm, ⟨5, _⟩ => ⟨S384, .f32⟩
  | .hbm, ⟨6, _⟩ => ⟨S384x1536, .f32⟩
  | .hbm, ⟨7, _⟩ => ⟨S256, .f32⟩
  | .hbm, ⟨8, _⟩ => ⟨S256x2048, .f32⟩
  | .hbm, ⟨9, _⟩ => ⟨S32x2048x5840, .f32⟩
  | .hbm, ⟨10, _⟩ => ⟨S32x2048x512, .f32⟩
  | .hbm, ⟨11, _⟩ => ⟨S32x2048x512, .f32⟩
  | .hbm, ⟨12, _⟩ => ⟨S32x2048x1024, .f32⟩
  | .hbm, ⟨13, _⟩ => ⟨S32x2048x16, .f32⟩
  | .hbm, ⟨14, _⟩ => ⟨S32x2048x1024, .f32⟩
  | .hbm, ⟨15, _⟩ => ⟨S32x2048x384, .f32⟩
  | .hbm, ⟨16, _⟩ => ⟨S32x2048x256, .f32⟩
  | .hbm, ⟨17, _⟩ => ⟨S32x2048x64, .f32⟩
  | .hbm, ⟨18, _⟩ => ⟨S32x2048x1024, .f32⟩
  | .hbm, ⟨19, _⟩ => ⟨S32x2048x1024, .f32⟩
  | .hbm, ⟨20, _⟩ => ⟨S32x2048x512, .f32⟩
  | .hbm, ⟨21, _⟩ => ⟨S1x1x512, .f32⟩
  | .hbm, ⟨22, _⟩ => ⟨S32x2048x512, .f32⟩
  | .hbm, ⟨23, _⟩ => ⟨S32x2048x512, .f32⟩
  | .hbm, ⟨24, _⟩ => ⟨S32x2048x512, .f32⟩
  | .hbm, ⟨25, _⟩ => ⟨S_, .f32⟩
  | .hbm, ⟨26, _⟩ => ⟨S32x2048x512, .f32⟩
  | .hbm, ⟨27, _⟩ => ⟨S32x2048x512, .f32⟩
  | .hbm, ⟨28, _⟩ => ⟨S32x2048x512, .f32⟩
  | .hbm, ⟨29, _⟩ => ⟨S32x2048x512, .f32⟩
  | .hbm, ⟨30, _⟩ => ⟨S32x2048x512, .i1⟩
  | .hbm, ⟨31, _⟩ => ⟨S32x2048x512, .f32⟩
  | .hbm, ⟨32, _⟩ => ⟨S32x2048x512, .f32⟩
  | .hbm, ⟨33, _⟩ => ⟨S32x2048x512, .f32⟩
  | .hbm, ⟨34, _⟩ => ⟨S32x2048x512, .f32⟩
  | .hbm, ⟨35, _⟩ => ⟨S32x2048x512, .f32⟩
  | .hbm, ⟨36, _⟩ => ⟨S32x2048x512, .f32⟩
  | .hbm, ⟨37, _⟩ => ⟨S32x2048x512, .f32⟩
  | .hbm, ⟨38, _⟩ => ⟨S32x2048x512, .f32⟩
  | .hbm, ⟨39, _⟩ => ⟨S32x2048x512, .f32⟩
  | .hbm, ⟨40, _⟩ => ⟨S_, .f32⟩
  | .hbm, ⟨41, _⟩ => ⟨S32x2048x512, .f32⟩
  | .hbm, ⟨42, _⟩ => ⟨S32x2048x512, .f32⟩
  | .hbm, ⟨43, _⟩ => ⟨S32x2048x4x256, .f32⟩
  | .hbm, ⟨44, _⟩ => ⟨S32x4x256x2048, .f32⟩
  | .hbm, ⟨45, _⟩ => ⟨S_, .f32⟩
  | .hbm, ⟨46, _⟩ => ⟨S_, .f32⟩
  | .hbm, ⟨47, _⟩ => ⟨S32x2048x512, .f32⟩
  | .hbm, ⟨48, _⟩ => ⟨S32x2048x512, .f32⟩
  | .hbm, ⟨49, _⟩ => ⟨S65536x512, .f32⟩
  | .hbm, ⟨50, _⟩ => ⟨S65536x512, .bf16⟩
  | .hbm, ⟨51, _⟩ => ⟨S65536x512, .f32⟩
  | .hbm, ⟨52, _⟩ => ⟨S65536x512, .bf16⟩
  | .hbm, ⟨53, _⟩ => ⟨S65536x1024, .f32⟩
  | .hbm, ⟨54, _⟩ => ⟨S65536x1024, .bf16⟩
  | .hbm, ⟨55, _⟩ => ⟨S32x4x256x2048, .bf16⟩
  | .hbm, ⟨56, _⟩ => ⟨S65536x512, .f32⟩
  | .hbm, ⟨57, _⟩ => ⟨S32x2048x256, .f32⟩
  | .hbm, ⟨58, _⟩ => ⟨S_, .f32⟩
  | .hbm, ⟨59, _⟩ => ⟨S32x2048, .f32⟩
  | .hbm, ⟨60, _⟩ => ⟨S32x2048x1, .f32⟩
  | .hbm, ⟨61, _⟩ => ⟨S_, .f32⟩
  | .hbm, ⟨62, _⟩ => ⟨S32x2048x1, .f32⟩
  | .hbm, ⟨63, _⟩ => ⟨S32x2048x1, .f32⟩
  | .hbm, ⟨64, _⟩ => ⟨S_, .f32⟩
  | .hbm, ⟨65, _⟩ => ⟨S32x2048x1, .f32⟩
  | .hbm, ⟨66, _⟩ => ⟨S32x2048x1, .f32⟩
  | .hbm, ⟨67, _⟩ => ⟨S32x2048x1, .f32⟩
  | .hbm, ⟨68, _⟩ => ⟨S32x2048x256, .f32⟩
  | .hbm, ⟨69, _⟩ => ⟨S32x2048x256, .f32⟩
  | .hbm, ⟨70, _⟩ => ⟨S1x1x256, .f32⟩
  | .hbm, ⟨71, _⟩ => ⟨S32x2048x256, .f32⟩
  | .hbm, ⟨72, _⟩ => ⟨S32x2048x256, .f32⟩
  | .hbm, ⟨73, _⟩ => ⟨S32x2048x2048, .f32⟩
  | .hbm, ⟨74, _⟩ => ⟨S32x2048x8x256, .f32⟩
  | .hbm, ⟨75, _⟩ => ⟨S32x2048x8x128, .f32⟩
  | .hbm, ⟨76, _⟩ => ⟨S32x4x512x8x128, .f32⟩
  | .hbm, ⟨77, _⟩ => ⟨S32x8x4x128x512, .f32⟩
  | .hbm, ⟨78, _⟩ => ⟨S32x8x4x128x512, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v15 : Ref sig .tc := ⟨.hbm, 39, rfl⟩
abbrev main_cst : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_0 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_1 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_cst_3 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== Proof.Row.lean ====
/-
  What the certificates share: a product of two matrices, a sum of a row and the layout operations around them, each read at
  an index over the extended reals, and the normalised row that two of the kernels end with.
-/
module

public import Idealize.ShloMosaic.Lib.Pipeline.Value
public import Idealize.ShloMosaic.Lib.ValueIdx
public import Idealize.ShloMosaic.Lib.ValueIdxCoords
public import Idealize.ShloMosaic.PureOps.Ideal.Laws

@[expose] public section

noncomputable section

namespace Cert.Row

open Idealize.ShloMosaic Idealize.ShloMosaic.ValueIdx
open scoped BigOperators

variable {M K N : Nat} {φ φ₁ φ₂ : FTy}

/-- Rows times columns, into the zero splat: at row `r` and column `c` the sum over the shared axis. -/
theorem rows_times (prec : Option ContractPrecision) (a : FVec Ideal ⟨2, ![M, K]⟩ φ₁) (b : FVec Ideal ⟨2, ![K, N]⟩ φ₂)
    (r : Fin M) (c : Fin N) :
    matmul (DotDims.plain M K N) prec a b (constant ⟨2, ![M, N]⟩ .f32 0x00000000#32) (ix2 r c)
      = ∑ k : Fin K, a (ix2 r k) * b (ix2 k c) := by
  simp only [matmul]
  refine (Ideal.matmul_constant_zero_apply _ prec _ _ _).trans ?_
  rw [← Equiv.sum_comp (contrEquiv1 (DotDims.plain M K N) K rfl rfl).symm]
  refine Finset.sum_congr rfl fun k _ => ?_
  congr 2
  · funext x
    match x with
    | ⟨0, _⟩ => rfl
    | ⟨1, _⟩ => exact Fin.ext (contrEquiv1_symm_val (DotDims.plain M K N) K rfl rfl k)
  · funext x
    match x with
    | ⟨0, _⟩ => exact Fin.ext (contrEquiv1_symm_val (DotDims.plain M K N) K rfl rfl k)
    | ⟨1, _⟩ => rfl

/-- Rows times rows (the right operand contracted on its last axis). -/
theorem rows_times_rows (prec : Option ContractPrecision) (a : FVec Ideal ⟨2, ![M, K]⟩ φ₁) (b : FVec Ideal ⟨2, ![N, K]⟩ φ₂)
    (r : Fin M) (c : Fin N) :
    matmul (DotDims.transposedRhs M K N) prec a b (constant ⟨2, ![M, N]⟩ .f32 0x00000000#32) (ix2 r c)
      = ∑ k : Fin K, a (ix2 r k) * b (ix2 c k) := by
  simp only [matmul]
  refine (Ideal.matmul_constant_zero_apply _ prec _ _ _).trans ?_
  rw [← Equiv.sum_comp (contrEquiv1 (DotDims.transposedRhs M K N) K rfl rfl).symm]
  refine Finset.sum_congr rfl fun k _ => ?_
  congr 2
  · funext x
    match x with
    | ⟨0, _⟩ => rfl
    | ⟨1, _⟩ => exact Fin.ext (contrEquiv1_symm_val (DotDims.transposedRhs M K N) K rfl rfl k)
  · funext x
    match x with
    | ⟨0, _⟩ => rfl
    | ⟨1, _⟩ => exact Fin.ext (contrEquiv1_symm_val (DotDims.transposedRhs M K N) K rfl rfl k)

/-- The sum of each row, read at a row. -/
theorem row_sum (v : FVec Ideal ⟨2, ![M, N]⟩ .f32) (h : (⟨2, ![M, N]⟩ : Shape).Reduces [1] ⟨1, ![M]⟩)
    (hφ : FKind.Formats .f32) (hacc : (0x00000000#32 : BitVec 32) = FKind.add.neutral .f32 hφ) (r : Fin M) :
    multiReduction .add [1] ⟨1, ![M]⟩ v 0x00000000#32 h hφ hacc (ix1 r) = ∑ k : Fin N, v (ix2 r k) := by
  refine (Ideal.multiReduction_add_single v _ h hφ hacc _).trans ?_
  refine Finset.sum_congr rfl fun k _ => congrArg v ?_
  funext x
  match x with
  | ⟨0, _⟩ => rfl
  | ⟨1, _⟩ => rfl

/-- A column vector made of a vector, read at a row. -/
theorem column (v : FVec Ideal ⟨1, ![M]⟩ φ) (h : (⟨1, ![M]⟩ : Shape).ShapeCasts ⟨2, ![M, 1]⟩) (r : Fin M) (z : Fin 1) :
    shapeCast ⟨2, ![M, 1]⟩ v h (ix2 r z) = v (ix1 r) := by
  refine shapeCast_apply v h _ _ ?_
  simp only [Shape.rowMajor_val_one, Shape.rowMajor_val_two]
  show (r : ℕ) = (r : ℕ) * 1 + z
  omega

/-- A column spread over the columns, read at an index. -/
theorem spread_column (v : FVec Ideal ⟨2, ![M, 1]⟩ φ) (h : (⟨2, ![M, 1]⟩ : Shape).Broadcasts ⟨2, ![M, N]⟩) (r : Fin M) (c : Fin N) :
    broadcastTo ⟨2, ![M, N]⟩ v h (ix2 r c) = v (ix2 r 0) := by
  refine broadcastTo_apply v h _ _ ?_
  intro a
  match a with
  | ⟨0, _⟩ => by_cases hM : M = 1 <;> simp [hM] <;> omega
  | ⟨1, _⟩ => simp

/-- A row spread over the rows, read at an index. -/
theorem spread_row (v : FVec Ideal ⟨2, ![1, N]⟩ φ) (h : (⟨2, ![1, N]⟩ : Shape).Broadcasts ⟨2, ![M, N]⟩) (r : Fin M) (c : Fin N) :
    broadcastTo ⟨2, ![M, N]⟩ v h (ix2 r c) = v (ix2 0 c) := by
  refine broadcastTo_apply v h _ _ ?_
  intro a
  match a with
  | ⟨0, _⟩ => simp
  | ⟨1, _⟩ => by_cases hN : N = 1 <;> simp [hN] <;> omega

/-- Where a rectangle of a matrix puts an index. -/
theorem place {A B h w o p : Nat} (inb : ∀ a, (![o, p] : Fin 2 → Nat) a + (![h, w] : Fin 2 → Nat) a ≤ (⟨2, ![A, B]⟩ : Shape).size a)
    (r : Fin h) (d : Fin w) (i : Fin A) (j : Fin B) (hi : i.val = o + r) (hj : j.val = p + d) :
    (Rect.unit (s := ⟨2, ![A, B]⟩) ![o, p] ![h, w] inb).emb (ix2 r d) = ix2 i j := by
  funext a
  match a with
  | ⟨0, _⟩ => exact Fin.ext ((congrArg (o + ·) (Nat.one_mul r.val)).trans hi.symm)
  | ⟨1, _⟩ => exact Fin.ext ((congrArg (p + ·) (Nat.one_mul d.val)).trans hj.symm)

/-- One as the programs write it. -/
abbrev one : EReal := Ideal.ofBits .f32 0x3F800000#32
/-- The logistic gate. -/
def gate (u : EReal) : EReal := Ideal.div one (one + Ideal.exp (-u))
/-- A value times its logistic gate. -/
def silu (u : EReal) : EReal := u * gate u

/-- The mean of a row of 1024. -/
def mean (y : Fin 1024 → EReal) : EReal := Ideal.div (∑ k, y k) (Ideal.ofBits .f32 0x44800000#32)
/-- The row minus its mean, over the root of its variance, scaled and shifted. -/
def norm (y g b : Fin 1024 → EReal) (d : Fin 1024) : EReal :=
  (y d - mean y) * Ideal.rsqrt (mean (fun k => (y k - mean y) * (y k - mean y)) + Ideal.ofBits .f32 0x3727C5AC#32) * g d + b d

/-- An array minus its rows' means as the programs write it, read at an index. -/
theorem centre (y : FVec Ideal ⟨2, ![M, 1024]⟩ .f32) (h : (⟨2, ![M, 1024]⟩ : Shape).Reduces [1] ⟨1, ![M]⟩)
    (hφ : FKind.Formats .f32) (hacc : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, 1024]⟩) (r : Fin M) (d : Fin 1024) :
    subf y (broadcastTo ⟨2, ![M, 1024]⟩ (divf (shapeCast ⟨2, ![M, 1]⟩ (multiReduction .add [1] ⟨1, ![M]⟩ y 0x00000000#32 h hφ hacc) hc)
      (broadcast ⟨2, ![M, 1]⟩ (Scalar.ofBits .f32 0x44800000#32))) hb) (ix2 r d)
      = y (ix2 r d) - mean (fun k => y (ix2 r k)) := by
  refine congrArg (y (ix2 r d) - ·) ((spread_column _ _ r d).trans ?_)
  exact congrArg (fun s => Ideal.div s (Ideal.ofBits .f32 0x44800000#32)) ((column _ _ r 0).trans (row_sum _ _ _ _ r))

/-- The factor of a row from its centred entries as the programs write it, read at a row. -/
theorem factor (z : FVec Ideal ⟨2, ![M, 1024]⟩ .f32) (h : (⟨2, ![M, 1024]⟩ : Shape).Reduces [1] ⟨1, ![M]⟩)
    (hφ : FKind.Formats .f32) (hacc : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, 1024]⟩) (r : Fin M) (d : Fin 1024) :
    broadcastTo ⟨2, ![M, 1024]⟩ (rsqrt (addf (divf (shapeCast ⟨2, ![M, 1]⟩ (multiReduction .add [1] ⟨1, ![M]⟩ (mulf z z) 0x00000000#32 h hφ hacc) hc)
      (broadcast ⟨2, ![M, 1]⟩ (Scalar.ofBits .f32 0x44800000#32))) (broadcast ⟨2, ![M, 1]⟩ (Scalar.ofBits .f32 0x3727C5AC#32)))) hb (ix2 r d)
      = Ideal.rsqrt (mean (fun k => z (ix2 r k) * z (ix2 r k)) + Ideal.ofBits .f32 0x3727C5AC#32) := by
  refine (spread_column _ _ r d).trans ?_
  exact congrArg (fun s => Ideal.rsqrt (Ideal.div s (Ideal.ofBits .f32 0x44800000#32) + Ideal.ofBits .f32 0x3727C5AC#32))
    ((column _ _ r 0).trans (row_sum _ _ _ _ r))

/-- Nought as the programs write it, less a value. -/
theorem zero_minus (u : EReal) : Ideal.ofBits .f32 0x00000000#32 - u = -u := by
  rw [Ideal.ofBits_zero_f32, zero_sub]

/-- A row kept as it is and the mixed row added to it, weighted as the programs weight them. -/
def blend (x y : Fin 1024 → EReal) (d : Fin 1024) : EReal := Ideal.ofBits .f32 0x3F9837F0#32 * x d + y d

end Cert.Row

end
-- ==== Proof.MlaTile.lean ====
/-
  The attention kernel's tiles: each of the sixteen it stores is one running softmax over the blocks of keys up to the tile's
  own, the last of them masked.
-/
module

public import proofs.«01_k».proof.Proof.Row
public import proofs.«01_k».proof.Proof.Gen.KernelIdeal.Value
public import Idealize.ShloMosaic.Lib.Pipeline.ValueKit
public import Idealize.ShloMosaic.Lib.Pointwise

@[expose] public section

noncomputable section

namespace Cert.KernelIdeal.Tile

open Cert.KernelIdeal Cert.KernelIdeal.Gen Cert.Row Idealize.ShloMosaic.ValueIdx Idealize.ShloMosaic.TcCoe
open Idealize.ShloMosaic hiding ix1 ix2 ix3 ix4 ix5
open scoped BigOperators

abbrev Qb := FVec Ideal S1x4x2048x256 .bf16
abbrev Vb := FVec Ideal S1x4x4x128x512 .bf16
abbrev Qt := FVec Ideal S1x1x512x256 .bf16
abbrev Vt := FVec Ideal S1x1x1x128x512 .bf16
abbrev Sc := FVec Ideal S512x512 .f32
abbrev Mx := FVec Ideal S1x512 .f32
abbrev Ac := FVec Ideal S144x512 .f32

/-- The scores of a block of keys (rows) against a tile of queries (columns). -/
def score (k q : Qt) : Sc := k0_pay4 k q

/-- The scores of keys after the query, within the diagonal block, masked. -/
def masked (s : Sc) : Sc :=
  select (cmpi .sle (iota .tc S512x512 32 [0] iota_S512x512_d0_w32) (iota .tc S512x512 32 [1] iota_S512x512_d1_w32)) s
    (broadcast S512x512 (Named.named κ "mask" 0xF149F2CA#32 : Ideal .f32))

/-- The running maximum after a block. -/
def newMax (m : Mx) (s : Sc) : Mx :=
  maximumf m (shapeCast S1x512 (multiReduction .maximumf [0] S512 s 0xFF800000#32 reduces_S512x512_S512 (.inl rfl) rfl) shapeCasts_S512_S1x512)

/-- The running sums after a block, from the maximum before it and after it. -/
def grow (m m' : Mx) (a : Ac) (s : Sc) (v : Vt) : Ac :=
  addf (mulf (broadcastTo S144x512 (exp2 (subf m m')) broadcasts_S1x512_S144x512) a)
    (matmul dot_S144x512_S512x512_S144x512_1_0_0_1_n_n none
      (concatenate S144x512 0 [⟨S128x512, shapeCast S128x512 v shapeCasts_S1x1x1x128x512_S128x512⟩, ⟨S16x512, k0_pay1 (F := Ideal)⟩]
        concatenates_S128x512_S16x512_S144x512_d0)
      (truncf .bf16 (exp2 (subf s (broadcastTo S512x512 m' broadcasts_S1x512_S512x512))) bitsLt_bf16_f32 : FVec Ideal S512x512 .bf16)
      (constant S144x512 .f32 0x00000000#32))

/-- The tile stored: the weighted values over the sum of the weights, queries as rows. -/
def finish (a : Ac) : FVec Ideal S512x128 .bf16 :=
  truncf .bf16 (transpose S512x128 [1, 0] (divf (extractStridedSlice S128x512 ![0, 0] a slices_S144x512_o0_0_S128x512)
    (broadcastTo S128x512 (extractStridedSlice S1x512 ![128, 0] a slices_S144x512_o128_0_S1x512) broadcasts_S1x512_S128x512))
    transposes_S128x512_p1_0_S512x128) bitsLt_bf16_f32

/-- The maximum after `n` blocks. -/
def maxAt (q : Qt) (k : Nat → Qt) : Nat → Mx
  | 0 => k0_pay2
  | n + 1 => newMax (maxAt q k n) (score (k n) q)

/-- The sums after `n` blocks. -/
def sumAt (q : Qt) (k : Nat → Qt) (v : Nat → Vt) : Nat → Ac
  | 0 => k0_pay3
  | n + 1 => grow (maxAt q k n) (newMax (maxAt q k n) (score (k n) q)) (sumAt q k v n) (score (k n) q) (v n)

/-- The tile of queries whose own block of keys is block `n`. -/
def tile (q : Qt) (k : Nat → Qt) (v : Nat → Vt) (n : Nat) : FVec Ideal S512x128 .bf16 :=
  finish (grow (maxAt q k n) (newMax (maxAt q k n) (masked (score (k n) q))) (sumAt q k v n) (masked (score (k n) q)) (v n))

theorem in_q (h b : Fin 4) (a : Fin 4) : (![0, h.val, 512 * b.val, 0] : Fin 4 → Nat) a + S1x1x512x256.size a ≤ S1x4x2048x256.size a := by
  revert h b a; decide

theorem in_v (h b : Fin 4) (a : Fin 5) : (![0, h.val, b.val, 0, 0] : Fin 5 → Nat) a + S1x1x1x128x512.size a ≤ S1x4x4x128x512.size a := by
  revert h b a; decide

theorem in_o (h b : Fin 4) (a : Fin 2) : (![512 * b.val, 128 * h.val] : Fin 2 → Nat) a + S512x128.size a ≤ S2048x512.size a := by
  revert h b a; decide

/-- Head `h`'s rows of block `b`, of the queries or of the keys. -/
abbrev rq (h b : Fin 4) : Rect S1x4x2048x256 := Rect.unit (s := S1x4x2048x256) ![0, h.val, 512 * b.val, 0] S1x1x512x256.size (in_q h b)
/-- Head `h`'s values of block `b`. -/
abbrev rv (h b : Fin 4) : Rect S1x4x4x128x512 := Rect.unit (s := S1x4x4x128x512) ![0, h.val, b.val, 0, 0] S1x1x1x128x512.size (in_v h b)
/-- Where head `h`'s tile of block `b` is stored. -/
abbrev ro (h b : Fin 4) : Rect S2048x512 := Rect.unit (s := S2048x512) ![512 * b.val, 128 * h.val] S512x128.size (in_o h b)

/-- A block of four, by a number. -/
abbrev blk4 (n : Nat) : Fin 4 := ⟨n % 4, Nat.mod_lt _ (by decide)⟩

def qTile (x : Qb) (h b : Fin 4) : Qt := View.ld (Val := Elt Ideal) (e' := .bf16) x (rq h b)
def vTile (x : Vb) (h b : Fin 4) : Vt := View.ld (Val := Elt Ideal) (e' := .bf16) x (rv h b)

/-- The tile stored for head `h`, block `b`. -/
def stored (x0 x1 : Qb) (x2 : Vb) (h b : Fin 4) : FVec Ideal S512x128 .bf16 :=
  tile (qTile x0 h b) (fun n => qTile x1 h (blk4 n)) (fun n => vTile x2 h (blk4 n)) b.val

/-- The stores of the kernel, last first. -/
def pieces (x0 x1 : Qb) (x2 : Vb) : List (View.Piece (Elt Ideal) S2048x512 .bf16) :=
  [⟨ro 3 3, stored x0 x1 x2 3 3⟩, ⟨ro 2 3, stored x0 x1 x2 2 3⟩, ⟨ro 1 3, stored x0 x1 x2 1 3⟩, ⟨ro 0 3, stored x0 x1 x2 0 3⟩,
    ⟨ro 3 2, stored x0 x1 x2 3 2⟩, ⟨ro 2 2, stored x0 x1 x2 2 2⟩, ⟨ro 1 2, stored x0 x1 x2 1 2⟩, ⟨ro 0 2, stored x0 x1 x2 0 2⟩,
    ⟨ro 3 1, stored x0 x1 x2 3 1⟩, ⟨ro 2 1, stored x0 x1 x2 2 1⟩, ⟨ro 1 1, stored x0 x1 x2 1 1⟩, ⟨ro 0 1, stored x0 x1 x2 0 1⟩,
    ⟨ro 3 0, stored x0 x1 x2 3 0⟩, ⟨ro 2 0, stored x0 x1 x2 2 0⟩, ⟨ro 1 0, stored x0 x1 x2 1 0⟩, ⟨ro 0 0, stored x0 x1 x2 0 0⟩]

set_option maxHeartbeats 4000000 in
theorem out_pieces (x0 x1 : Qb) (x2 : Vb) : out0_3 (F := Ideal) x0 x1 x2 = View.canon (pieces x0 x1 x2) := by
  rfl

end Cert.KernelIdeal.Tile

end
-- ==== Proof.Softmax.lean ====
/-
  The running softmax over the extended reals: a maximum and a weighted sum carried from block to block, each block rescaling
  what came before, end as the whole row's maximum and weighted sum.
-/
module

public import Idealize.ShloMosaic.PureOps.Ideal.Laws

@[expose] public section

noncomputable section

namespace Cert.Softmax

open Idealize.ShloMosaic
open scoped BigOperators

/-- The extended real is a real number. -/
def Real1 (x : EReal) : Prop := ∃ r : ℝ, x = (r : EReal)

theorem Real1.mul {x y : EReal} (hx : Real1 x) (hy : Real1 y) : Real1 (x * y) := by
  obtain ⟨a, rfl⟩ := hx; obtain ⟨b, rfl⟩ := hy; exact ⟨a * b, (EReal.coe_mul a b).symm⟩

theorem Real1.add {x y : EReal} (hx : Real1 x) (hy : Real1 y) : Real1 (x + y) := by
  obtain ⟨a, rfl⟩ := hx; obtain ⟨b, rfl⟩ := hy; exact ⟨a + b, (EReal.coe_add a b).symm⟩

theorem Real1.sum {ι : Type} (s : Finset ι) (f : ι → EReal) (h : ∀ i, Real1 (f i)) : Real1 (∑ i ∈ s, f i) := by
  classical
  induction s using Finset.induction_on with
  | empty => exact ⟨0, by simp⟩
  | insert a s ha ih => rw [Finset.sum_insert ha]; exact (h a).add ih

theorem real_of_abs_lt {x : EReal} (h : max x (-x) < ⊤) : Real1 x := by
  induction x with
  | bot => simp at h
  | top => simp at h
  | coe r => exact ⟨r, rfl⟩

/-- A factor that is neither negative nor infinite goes through a sum. -/
theorem mul_sum {ι : Type} (s : Finset ι) (f : ι → EReal) {c : EReal} (h0 : 0 ≤ c) (ht : c ≠ ⊤) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

theorem exp2_nonneg (x : EReal) : 0 ≤ Ideal.exp2 x := by
  induction x with
  | bot => exact le_refl _
  | top => exact le_top
  | coe r => exact EReal.coe_nonneg.2 (Real.rpow_nonneg (by norm_num) r)

theorem exp2_ne_top {x : EReal} (h : x ≠ ⊤) : Ideal.exp2 x ≠ ⊤ := by
  induction x with
  | bot => exact EReal.zero_ne_top
  | top => exact absurd rfl h
  | coe r => exact EReal.coe_ne_top _

theorem sub_ne_top {x y : EReal} (h : x ≤ y) (hy : y < ⊤) : x - y ≠ ⊤ := by
  induction x with
  | bot => simp
  | top => exact absurd (lt_of_le_of_lt h hy) (lt_irrefl _)
  | coe a =>
    induction y with
    | bot => simp at h
    | top => exact absurd hy (lt_irrefl _)
    | coe b => rw [← EReal.coe_sub]; exact EReal.coe_ne_top _

/-- A weight under one maximum, rescaled to a later one. -/
theorem rescale {s m m' : EReal} (w : EReal) (h : s ≤ m) (h' : m ≤ m') (ht : m' < ⊤) :
    Ideal.exp2 (m - m') * (w * Ideal.exp2 (s - m)) = w * Ideal.exp2 (s - m') := by
  have key : Ideal.exp2 (m - m') * Ideal.exp2 (s - m) = Ideal.exp2 (s - m') := by
    induction s with
    | bot => rw [EReal.bot_sub, EReal.bot_sub]; exact mul_zero _
    | top => exact absurd (lt_of_le_of_lt (h.trans h') ht) (lt_irrefl _)
    | coe a =>
      induction m with
      | bot => simp at h
      | top => exact absurd (lt_of_le_of_lt h' ht) (lt_irrefl _)
      | coe b =>
        induction m' with
        | bot => simp at h'
        | top => exact absurd ht (lt_irrefl _)
        | coe c =>
          rw [← EReal.coe_sub, ← EReal.coe_sub, ← EReal.coe_sub]
          show ((Real.rpow 2 (b - c) : ℝ) : EReal) * ((Real.rpow 2 (a - b) : ℝ) : EReal) = ((Real.rpow 2 (a - c) : ℝ) : EReal)
          rw [← EReal.coe_mul]
          refine congrArg _ ((Real.rpow_add (by norm_num : (0 : ℝ) < 2) _ _).symm.trans ?_)
          show (2 : ℝ) ^ (b - c + (a - b)) = (2 : ℝ) ^ (a - c)
          congr 1; ring
  rw [mul_left_comm, key]

variable {J : Type} [Fintype J]

/-- The running maximum over blocks of scores. -/
def runMax (s : Nat → J → EReal) : Nat → EReal
  | 0 => ⊥
  | n + 1 => max (runMax s n) (Finset.univ.sup (s n))

/-- The running weighted sum. -/
def runSum (s w : Nat → J → EReal) : Nat → EReal
  | 0 => 0
  | n + 1 => Ideal.exp2 (runMax s n - runMax s (n + 1)) * runSum s w n + ∑ j, w n j * Ideal.exp2 (s n j - runMax s (n + 1))

theorem runMax_le (s : Nat → J → EReal) (n : Nat) (B : EReal) : runMax s n ≤ B ↔ ∀ b < n, ∀ j, s b j ≤ B := by
  induction n with
  | zero => simp [runMax]
  | succ n ih =>
    rw [runMax, max_le_iff, ih, Finset.sup_le_iff]
    constructor
    · rintro ⟨h, h'⟩ b hb j
      rcases Nat.lt_succ_iff_lt_or_eq.1 hb with hb | rfl
      · exact h b hb j
      · exact h' j (Finset.mem_univ j)
    · intro h
      exact ⟨fun b hb j => h b (Nat.lt_succ_of_lt hb) j, fun j _ => h n (Nat.lt_succ_self n) j⟩

/-- The running sum is the whole sum under the maximum reached. -/
theorem runSum_eq (s w : Nat → J → EReal) (n : Nat) (ht : runMax s n < ⊤) :
    runSum s w n = ∑ b ∈ Finset.range n, ∑ j, w b j * Ideal.exp2 (s b j - runMax s n) := by
  induction n with
  | zero => simp [runSum]
  | succ n ih =>
    have hm : runMax s n ≤ runMax s (n + 1) := le_max_left _ _
    have hn : runMax s n < ⊤ := lt_of_le_of_lt hm ht
    rw [runSum, ih hn, Finset.sum_range_succ, mul_sum _ _ (exp2_nonneg _) (exp2_ne_top (sub_ne_top hm ht))]
    congr 1
    refine Finset.sum_congr rfl fun b hb => ?_
    rw [mul_sum _ _ (exp2_nonneg _) (exp2_ne_top (sub_ne_top hm ht))]
    exact Finset.sum_congr rfl fun j _ => rescale _ ((runMax_le s n _).1 le_rfl b (Finset.mem_range.1 hb) j) hm ht

/-- A quotient by a positive real is each term's. -/
theorem div_sum {ι : Type} (t : Finset ι) (w p : ι → EReal) {l : ℝ} (hl : 0 < l) :
    Ideal.div (∑ i ∈ t, w i * p i) (l : EReal) = ∑ i ∈ t, w i * Ideal.div (p i) (l : EReal) := by
  have h0 : (l : EReal) ≠ 0 := by exact_mod_cast hl.ne'
  have hi : (l : EReal)⁻¹ = ((l⁻¹ : ℝ) : EReal) := (EReal.coe_inv l).symm
  have hd (x : EReal) : Ideal.div x (l : EReal) = (l : EReal)⁻¹ * x := by rw [Ideal.div, if_neg h0, mul_comm]
  rw [hd, mul_sum _ _ (by rw [hi]; exact EReal.coe_nonneg.2 (inv_nonneg.2 hl.le)) (by rw [hi]; exact EReal.coe_ne_top _)]
  refine Finset.sum_congr rfl fun i _ => ?_
  rw [hd, mul_left_comm]

end Cert.Softmax

end
-- ==== Proof.MlaRow.lean ====
/-
  The attention kernel's tiles read at a query and a value channel: the running softmax of the query's scores.
-/
module

public import proofs.«01_k».proof.Proof.MlaTile
public import proofs.«01_k».proof.Proof.Softmax

@[expose] public section

noncomputable section

namespace Cert.KernelIdeal.Tile

open Cert.KernelIdeal Cert.KernelIdeal.Gen Cert.Row Cert.Softmax Idealize.ShloMosaic.ValueIdx Idealize.ShloMosaic.TcCoe
open Idealize.ShloMosaic hiding ix1 ix2 ix3 ix4 ix5
open scoped BigOperators

theorem flat_q (k : Qt) (j : Fin 512) (e : Fin 256) :
    shapeCast S512x256 k shapeCasts_S1x1x512x256_S512x256 (ix2 j e) = k (ix4 0 0 j e) := by
  refine shapeCast_apply k _ _ _ ?_
  simp only [Shape.rowMajor_val_four, Shape.rowMajor_val_two]
  show ((0 * 1 + 0) * 512 + (j : ℕ)) * 256 + e = (j : ℕ) * 256 + e
  omega

theorem flat_v (v : Vt) (d : Fin 128) (j : Fin 512) :
    shapeCast S128x512 v shapeCasts_S1x1x1x128x512_S128x512 (ix2 d j) = v (ix5 0 0 0 d j) := by
  refine shapeCast_apply v _ _ _ ?_
  simp only [Shape.rowMajor_val_five, Shape.rowMajor_val_two]
  show (((0 * 1 + 0) * 1 + 0) * 128 + (d : ℕ)) * 512 + j = (d : ℕ) * 512 + j
  omega

theorem score_at (k q : Qt) (j c : Fin 512) : score k q (ix2 j c) = ∑ e : Fin 256, k (ix4 0 0 j e) * q (ix4 0 0 c e) := by
  refine (rows_times_rows (M := 512) (K := 256) (N := 512) none _ _ j c).trans ?_
  exact Finset.sum_congr rfl fun e _ => congrArg₂ (· * ·) (flat_q k j e) (flat_q q c e)

theorem masked_at (s : Sc) (j c : Fin 512) : masked s (ix2 j c) = if j ≤ c then s (ix2 j c) else ⊥ := by
  have hw : (cmpi .sle (iota .tc S512x512 32 [0] iota_S512x512_d0_w32) (iota .tc S512x512 32 [1] iota_S512x512_d1_w32) : IVec S512x512 1) (ix2 j c)
      = BitVec.ofBool (decide (j ≤ c)) := by
    show BitVec.ofBool ((BitVec.ofNat 32 (0 * 512 + j.val)).sle (BitVec.ofNat 32 (0 * 512 + c.val))) = _
    have e (i : Fin 512) : (BitVec.ofNat 32 (0 * 512 + i.val)).toInt = i.val := by
      rw [Nat.zero_mul, Nat.zero_add, BitVec.toInt_ofNat']
      exact Int.bmod_eq_of_le (by omega) (by omega)
    congr 1
    rw [BitVec.sle_eq_decide, e, e]
    exact decide_eq_decide.2 (by rw [Fin.le_def]; omega)
  show Scalar.select (cmpi .sle (iota .tc S512x512 32 [0] iota_S512x512_d0_w32) (iota .tc S512x512 32 [1] iota_S512x512_d1_w32) (ix2 j c))
    (s (ix2 j c)) (⊥ : EReal) = _
  rw [hw]
  by_cases h : j ≤ c
  · rw [if_pos h, decide_eq_true h]; rfl
  · rw [if_neg h, decide_eq_false h]; rfl

theorem newMax_at (m : Mx) (s : Sc) (c : Fin 512) :
    newMax m s (ix2 0 c) = max (m (ix2 0 c)) (Finset.univ.sup fun j : Fin 512 => s (ix2 j c)) := by
  refine congrArg (max (m (ix2 0 c))) ?_
  refine (shapeCast_apply (s := S512) (t := S1x512) _ shapeCasts_S512_S1x512 (ix2 0 c) (ix1 c) ?_).trans ?_
  · simp only [Shape.rowMajor_val_one, Shape.rowMajor_val_two]
    show (c : ℕ) = 0 * 512 + c
    omega
  · refine (Ideal.multiReduction_maximumf_single s _ reduces_S512x512_S512 _ _ (ix1 c)).trans ?_
    show Finset.univ.fold max (Ideal.ofBits .f32 0xFF800000#32) (fun j : Fin 512 => s (reduces_S512x512_S512.lift (ix1 c) j)) = _
    rw [show Ideal.ofBits .f32 0xFF800000#32 = (⊥ : EReal) by simp [Ideal.ofBits, Ideal.ieee]]
    refine congrArg (Finset.univ.fold max ⊥) (funext fun j => congrArg s ?_)
    funext x
    match x with
    | ⟨0, _⟩ => rfl
    | ⟨1, _⟩ => rfl

/-- The values of a block with the rows of ones below. -/
def withOnes (v : Vt) (d : Fin 144) (j : Fin 512) : EReal := if h : d.val < 128 then v (ix5 0 0 0 ⟨d.val, h⟩ j) else 1

theorem withOnes_at (v : Vt) (d : Fin 144) (j : Fin 512) :
    concatenate S144x512 0 [⟨S128x512, shapeCast S128x512 v shapeCasts_S1x1x1x128x512_S128x512⟩, ⟨S16x512, k0_pay1 (F := Ideal)⟩]
      concatenates_S128x512_S16x512_S144x512_d0 (ix2 d j) = withOnes v d j := by
  unfold withOnes
  by_cases h : d.val < 128
  · rw [dif_pos h]
    refine Eq.trans ?_ (flat_v v ⟨d.val, h⟩ j)
    exact concatenate_apply_piece (t := S144x512) (0 : Fin 2) [⟨S128x512, shapeCast S128x512 v shapeCasts_S1x1x1x128x512_S128x512⟩, ⟨S16x512, k0_pay1 (F := Ideal)⟩]
      _ _ 0 (show 0 < 2 by decide) S128x512 _ rfl rfl 0 rfl (ix2 ⟨d.val, h⟩ j)
      (by intro b hb; match b with | ⟨0, _⟩ => exact absurd rfl hb | ⟨1, _⟩ => rfl) (Nat.zero_add _)
  · rw [dif_neg h]
    refine (concatenate_apply_piece (t := S144x512) (0 : Fin 2) [⟨S128x512, shapeCast S128x512 v shapeCasts_S1x1x1x128x512_S128x512⟩, ⟨S16x512, k0_pay1 (F := Ideal)⟩]
      _ _ 1 (show 1 < 2 by decide) S16x512 _ rfl rfl 128 rfl (ix2 ⟨d.val - 128, by omega⟩ j)
      (by intro b hb; match b with | ⟨0, _⟩ => exact absurd rfl hb | ⟨1, _⟩ => rfl)
      (by show 128 + (d.val - 128) = d.val; omega)).trans ?_
    exact Ideal.ofBits_one_bf16

theorem grow_at (m m' : Mx) (a : Ac) (s : Sc) (v : Vt) (d : Fin 144) (c : Fin 512) :
    grow m m' a s v (ix2 d c) = Ideal.exp2 (m (ix2 0 c) - m' (ix2 0 c)) * a (ix2 d c)
      + ∑ j : Fin 512, withOnes v d j * Ideal.exp2 (s (ix2 j c) - m' (ix2 0 c)) := by
  refine congrArg₂ (· + ·) (congrArg (· * a (ix2 d c)) ?_) ?_
  · exact spread_row (M := 144) (N := 512) (exp2 (subf m m')) _ d c
  · refine (rows_times (M := 144) (K := 512) (N := 512) none _ _ d c).trans ?_
    refine Finset.sum_congr rfl fun j _ => congrArg₂ (· * ·) (withOnes_at v d j) ?_
    exact congrArg (fun z => Ideal.exp2 (s (ix2 j c) - z)) (spread_row (M := 512) (N := 512) m' _ j c)

theorem finish_at (a : Ac) (c : Fin 512) (d : Fin 128) :
    finish a (ix2 c d) = Ideal.div (a (ix2 ⟨d, by omega⟩ c)) (a (ix2 ⟨128, by omega⟩ c)) := by
  show transpose S512x128 [1, 0] (divf (extractStridedSlice S128x512 ![0, 0] a slices_S144x512_o0_0_S128x512)
    (broadcastTo S128x512 (extractStridedSlice S1x512 ![128, 0] a slices_S144x512_o128_0_S1x512) broadcasts_S1x512_S128x512))
    transposes_S128x512_p1_0_S512x128 (ix2 c d) = _
  refine (transpose_apply (s := S128x512) (t := S512x128) _ _ transposes_S128x512_p1_0_S512x128 (ix2 c d) (ix2 d c)
    (by intro b; match b with | ⟨0, _⟩ => rfl | ⟨1, _⟩ => rfl)).trans ?_
  refine congrArg₂ Ideal.div ?_ ?_
  · exact extractStridedSlice_apply _ _ _ _ _ (by intro b; match b with | ⟨0, _⟩ => exact (Nat.zero_add _).symm | ⟨1, _⟩ => exact (Nat.zero_add _).symm)
  · refine (spread_row (M := 128) (N := 512) _ _ d c).trans ?_
    exact extractStridedSlice_apply _ _ _ _ _ (by intro b; match b with | ⟨0, _⟩ => rfl | ⟨1, _⟩ => exact (Nat.zero_add _).symm)

variable (q : Qt) (k : Nat → Qt) (v : Nat → Vt) (n : Nat) (c : Fin 512) (s : Nat → Fin 512 → EReal)

theorem maxAt_at (hs : ∀ b < n, ∀ j, score (k b) q (ix2 j c) = s b j) (i : Nat) (hi : i ≤ n) : maxAt q k i (ix2 0 c) = runMax s i := by
  induction i with
  | zero => rfl
  | succ i ih =>
    rw [maxAt, newMax_at, runMax, ih (by omega)]
    exact congrArg _ (congrArg (Finset.univ.sup) (funext fun j => hs i (by omega) j))

theorem sumAt_at (hs : ∀ b < n, ∀ j, score (k b) q (ix2 j c) = s b j) (d : Fin 144) (i : Nat) (hi : i ≤ n) :
    sumAt q k v i (ix2 d c) = runSum s (fun b => withOnes (v b) d) i := by
  induction i with
  | zero => exact Ideal.ofBits_zero_f32
  | succ i ih =>
    rw [sumAt, grow_at, runSum, ih (by omega), maxAt_at q k n c s hs i (by omega), show newMax (maxAt q k i) (score (k i) q) = maxAt q k (i + 1) from rfl,
      maxAt_at q k n c s hs (i + 1) hi]
    exact congrArg _ (Finset.sum_congr rfl fun j _ => by rw [hs i (by omega) j])

theorem last_at (hs : ∀ b < n, ∀ j, score (k b) q (ix2 j c) = s b j) (hn : ∀ j, masked (score (k n) q) (ix2 j c) = s n j) (d : Fin 144) :
    grow (maxAt q k n) (newMax (maxAt q k n) (masked (score (k n) q))) (sumAt q k v n) (masked (score (k n) q)) (v n) (ix2 d c)
      = runSum s (fun b => withOnes (v b) d) (n + 1) := by
  have hm : newMax (maxAt q k n) (masked (score (k n) q)) (ix2 0 c) = runMax s (n + 1) := by
    rw [newMax_at, runMax, maxAt_at q k n c s hs n le_rfl]
    exact congrArg _ (congrArg (Finset.univ.sup) (funext hn))
  rw [grow_at, runSum, hm, maxAt_at q k n c s hs n le_rfl, sumAt_at q k v n c s hs d n le_rfl]
  exact congrArg _ (Finset.sum_congr rfl fun j _ => by rw [hn j])

/-- A tile at a query and a channel: the running sum of the values over the running sum of the weights. -/
theorem tile_at (hs : ∀ b < n, ∀ j, score (k b) q (ix2 j c) = s b j) (hn : ∀ j, masked (score (k n) q) (ix2 j c) = s n j) (d : Fin 128) :
    tile q k v n (ix2 c d) = Ideal.div (runSum s (fun b j => v b (ix5 0 0 0 d j)) (n + 1)) (runSum s (fun _ _ => 1) (n + 1)) := by
  have h1 : (fun b => withOnes (v b) ⟨d, by omega⟩) = fun b j => v b (ix5 0 0 0 d j) := by
    funext b j; unfold withOnes; exact dif_pos d.isLt
  have h2 : (fun b => withOnes (v b) ⟨128, by omega⟩) = fun _ _ => 1 := by
    funext b j; unfold withOnes; exact dif_neg (lt_irrefl 128)
  rw [tile, finish_at, last_at q k v n c s hs hn, last_at q k v n c s hs hn, h1, h2]

end Cert.KernelIdeal.Tile

end
-- ==== Proof.MlaValue.lean ====
/-
  What the attention kernel leaves in its result: at a query, head and channel, the running softmax of the query's scores
  against the keys up to it.
-/
module

public import proofs.«01_k».proof.Proof.MlaRow

@[expose] public section

noncomputable section

namespace Cert.KernelIdeal.Tile

open Cert.KernelIdeal Cert.KernelIdeal.Gen Cert.Row Cert.Softmax Idealize.ShloMosaic.ValueIdx Idealize.ShloMosaic.TcCoe
open Idealize.ShloMosaic hiding ix1 ix2 ix3 ix4 ix5
open scoped BigOperators

/-- Position `j` of block `b`. -/
abbrev at4 (b : Nat) (j : Fin 512) : Fin 2048 := ⟨512 * (b % 4) + j, by have : b % 4 < 4 := Nat.mod_lt _ (by decide); omega⟩

/-- The running softmax of query `r`: values `w` and scores `f`, by position, seen up to `r`. -/
def attend (f w : Fin 2048 → EReal) (r : Fin 2048) : EReal :=
  Ideal.div (runSum (fun b j => if at4 b j ≤ r then f (at4 b j) else ⊥) (fun b j => w (at4 b j)) (r.val / 512 + 1))
    (runSum (fun b j => if at4 b j ≤ r then f (at4 b j) else ⊥) (fun _ _ => 1) (r.val / 512 + 1))

theorem attend_congr {f f' w w' : Fin 2048 → EReal} (hf : ∀ p, f p = f' p) (hw : ∀ p, w p = w' p) (r : Fin 2048) :
    attend f w r = attend f' w' r := by
  rw [funext hf, funext hw]

theorem place_q (h b : Fin 4) (c : Fin 512) (e : Fin 256) : (rq h b).emb (ix4 0 0 c e) = ix4 0 h (at4 b.val c) e := by
  have hb : b.val % 4 = b.val := Nat.mod_eq_of_lt b.isLt
  funext a
  match a with
  | ⟨0, _⟩ => rfl
  | ⟨1, _⟩ => exact Fin.ext (show h.val + 1 * 0 = h.val by omega)
  | ⟨2, _⟩ => exact Fin.ext (show 512 * b.val + 1 * c.val = 512 * (b.val % 4) + c.val by omega)
  | ⟨3, _⟩ => exact Fin.ext (show 0 + 1 * e.val = e.val by omega)

theorem place_v (h b : Fin 4) (d : Fin 128) (j : Fin 512) : (rv h b).emb (ix5 0 0 0 d j) = ix5 0 h b d j := by
  funext a
  match a with
  | ⟨0, _⟩ => rfl
  | ⟨1, _⟩ => exact Fin.ext (show h.val + 1 * 0 = h.val by omega)
  | ⟨2, _⟩ => exact Fin.ext (show b.val + 1 * 0 = b.val by omega)
  | ⟨3, _⟩ => exact Fin.ext (show 0 + 1 * d.val = d.val by omega)
  | ⟨4, _⟩ => exact Fin.ext (show 0 + 1 * j.val = j.val by omega)

/-- The score of a query and a key of head `h`. -/
def dot (x0 x1 : Qb) (h : Fin 4) (r p : Fin 2048) : EReal := ∑ e : Fin 256, x1 (ix4 0 h p e) * x0 (ix4 0 h r e)

theorem score_tile (x0 x1 : Qb) (h b b' : Fin 4) (j c : Fin 512) :
    score (qTile x1 h b') (qTile x0 h b) (ix2 j c) = dot x0 x1 h (at4 b.val c) (at4 b'.val j) := by
  rw [score_at]
  exact Finset.sum_congr rfl fun e _ => congrArg₂ (fun u w => x1 u * x0 w) (place_q h b' j e) (place_q h b c e)

theorem stored_at (x0 x1 : Qb) (x2 : Vb) (h b : Fin 4) (c : Fin 512) (d : Fin 128) :
    stored x0 x1 x2 h b (ix2 c d) = attend (dot x0 x1 h (at4 b.val c))
      (fun p => x2 (ix5 0 h ⟨p.val / 512, by omega⟩ d ⟨p.val % 512, Nat.mod_lt _ (by decide)⟩)) (at4 b.val c) := by
  have hb : b.val % 4 = b.val := Nat.mod_eq_of_lt b.isLt
  have hq : (at4 b.val c).val / 512 = b.val := by show (512 * (b.val % 4) + c.val) / 512 = b.val; omega
  have hv : (fun (i : Nat) (j : Fin 512) => vTile x2 h (blk4 i) (ix5 0 0 0 d j))
      = fun i j => x2 (ix5 0 h ⟨(at4 i j).val / 512, by omega⟩ d ⟨(at4 i j).val % 512, Nat.mod_lt _ (by decide)⟩) := by
    funext i j
    have hi : i % 4 < 4 := Nat.mod_lt _ (by decide)
    refine congrArg x2 ((place_v h (blk4 i) d j).trans ?_)
    have e1 : blk4 i = (⟨(at4 i j).val / 512, by omega⟩ : Fin 4) := Fin.ext (show i % 4 = (512 * (i % 4) + j.val) / 512 by omega)
    have e2 : j = (⟨(at4 i j).val % 512, Nat.mod_lt _ (by decide)⟩ : Fin 512) := Fin.ext (show j.val = (512 * (i % 4) + j.val) % 512 by omega)
    exact congrArg₂ (fun u w => ix5 0 h u d w) e1 e2
  unfold attend
  rw [hq, ← hv]
  refine tile_at _ _ _ b.val c _ (fun i hi j => ?_) (fun j => ?_) d
  · refine (score_tile x0 x1 h b (blk4 i) j c).trans ?_
    have hm : at4 (blk4 i).val j = at4 i j := Fin.ext (by show 512 * (i % 4 % 4) + j.val = 512 * (i % 4) + j.val; omega)
    rw [hm]
    exact (if_pos (Fin.le_def.2 (by show 512 * (i % 4) + j.val ≤ 512 * (b.val % 4) + c.val; omega))).symm
  · rw [masked_at]
    have hm : at4 (blk4 b.val).val j = at4 b.val j := Fin.ext (by show 512 * (b.val % 4 % 4) + j.val = 512 * (b.val % 4) + j.val; omega)
    refine if_congr (by rw [Fin.le_def, Fin.le_def]; show _ ↔ 512 * (b.val % 4) + j.val ≤ 512 * (b.val % 4) + c.val; omega) ?_ rfl
    exact (score_tile x0 x1 h b (blk4 b.val) j c).trans (by rw [hm])

/-- A block of the result, read at an index. -/
def blockOut (x0 x1 : Qb) (x2 : Vb) (r : Fin 2048) (h : Fin 4) (d : Fin 128) : EReal :=
  attend (dot x0 x1 h r) (fun p => x2 (ix5 0 h ⟨p.val / 512, by omega⟩ d ⟨p.val % 512, Nat.mod_lt _ (by decide)⟩)) r

theorem place_o (h b : Fin 4) (c : Fin 512) (d : Fin 128) : (ro h b).emb (ix2 c d) = ix2 (at4 b.val c) ⟨128 * h.val + d.val, by omega⟩ := by
  have hb : b.val % 4 = b.val := Nat.mod_eq_of_lt b.isLt
  funext a
  match a with
  | ⟨0, _⟩ => exact Fin.ext (show 512 * b.val + 1 * c.val = 512 * (b.val % 4) + c.val by omega)
  | ⟨1, _⟩ => exact Fin.ext (show 128 * h.val + 1 * d.val = 128 * h.val + d.val by omega)

/-- The same, by the column of the block. -/
def blockAt (x0 x1 : Qb) (x2 : Vb) (y : S2048x512.Idx) : EReal :=
  blockOut x0 x1 x2 (y 0) ⟨(y 1).val / 128, by have : (y 1).val < 512 := (y 1).isLt; omega⟩ ⟨(y 1).val % 128, Nat.mod_lt _ (by decide)⟩

theorem piece_at (x0 x1 : Qb) (x2 : Vb) (h b : Fin 4) (x : S512x128.Idx) :
    stored x0 x1 x2 h b x = blockAt x0 x1 x2 ((ro h b).emb x) := by
  obtain ⟨c, d, rfl⟩ : ∃ c d, x = ix2 c d := ⟨x 0, x 1, ValueIdx.eq_ix2 x⟩
  rw [place_o, stored_at]
  have eh : h = (⟨(128 * h.val + d.val) / 128, by omega⟩ : Fin 4) := Fin.ext (show h.val = (128 * h.val + d.val) / 128 by omega)
  have ed : d = (⟨(128 * h.val + d.val) % 128, Nat.mod_lt _ (by decide)⟩ : Fin 128) := Fin.ext (show d.val = (128 * h.val + d.val) % 128 by omega)
  exact congrArg₂ (fun u w => blockOut x0 x1 x2 (at4 b.val c) u w) eh ed

theorem out_at (x0 x1 : Qb) (x2 : Vb) (y : S2048x512.Idx) : out0_3 (F := Ideal) x0 x1 x2 y = blockAt x0 x1 x2 y := by
  rw [out_pieces]
  have hc : ∃ pc ∈ pieces x0 x1 x2, y ∈ pc.1.set := cover0_3 _ _ _ _ _ _ _ _ _ _ _ _ _ _ _ _ y
  have hp : ∀ p ∈ pieces x0 x1 x2, ∀ x, p.2 x = blockAt x0 x1 x2 (p.1.emb x) := by
    intro p hp
    simp only [pieces, List.mem_cons, List.not_mem_nil, or_false] at hp
    rcases hp with rfl | rfl | rfl | rfl | rfl | rfl | rfl | rfl | rfl | rfl | rfl | rfl | rfl | rfl | rfl | rfl <;>
      exact piece_at x0 x1 x2 _ _
  generalize pieces x0 x1 x2 = L at hc hp ⊢
  exact View.canon_apply_of_pieces _ L hp y hc

end Cert.KernelIdeal.Tile

end
-- ==== Proof.MlaMath.lean ====
/-
  The running softmax of a query is the plain softmax over all the keys, the later ones given no weight.
-/
module

public import proofs.«01_k».proof.Proof.MlaValue

@[expose] public section

noncomputable section

namespace Cert.KernelIdeal.Tile

open Cert.KernelIdeal Cert.Softmax
open Idealize.ShloMosaic hiding ix1 ix2 ix3 ix4 ix5
open scoped BigOperators

/-- The positions by block. -/
theorem sum_blocks (G : Fin 2048 → EReal) (n : Nat) (hn : n ≤ 4) (h0 : ∀ b, n ≤ b → b < 4 → ∀ j, G (at4 b j) = 0) :
    ∑ b ∈ Finset.range n, ∑ j : Fin 512, G (at4 b j) = ∑ p, G p := by
  have h4 : ∑ b ∈ Finset.range 4, ∑ j : Fin 512, G (at4 b j) = ∑ p, G p := by
    rw [Finset.sum_range (fun b => ∑ j : Fin 512, G (at4 b j)), ← Fintype.sum_prod_type' (fun (b : Fin 4) (j : Fin 512) => G (at4 b.val j))]
    refine Fintype.sum_equiv (finProdFinEquiv (m := 4) (n := 512)) _ (fun p : Fin (4 * 512) => G p) fun x => congrArg G (Fin.ext ?_)
    obtain ⟨b, j⟩ := x
    have hb : b.val % 4 = b.val := Nat.mod_eq_of_lt b.isLt
    show 512 * (b.val % 4) + j.val = j.val + 512 * b.val
    omega
  rw [← h4]
  refine Finset.sum_subset (fun b hb => Finset.mem_range.2 (lt_of_lt_of_le (Finset.mem_range.1 hb) hn)) fun b hb hb' => ?_
  exact Finset.sum_eq_zero fun j _ => h0 b (not_lt.1 fun h => hb' (Finset.mem_range.2 h)) (Finset.mem_range.1 hb) j

/-- A query's logits, those of later keys at minus infinity. -/
def seen (x : Fin 2048 → ℝ) (r p : Fin 2048) : EReal := if p ≤ r then (x p : EReal) else ⊥

theorem later (r : Fin 2048) (b : Nat) (hb : r.val / 512 + 1 ≤ b) (h4 : b < 4) (j : Fin 512) : ¬ at4 b j ≤ r := by
  rw [Fin.le_def]
  show ¬ 512 * (b % 4) + j.val ≤ r.val
  rw [Nat.mod_eq_of_lt h4]
  omega

/-- The extended real of a sum of reals. -/
theorem coe_total {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum of a query's logits, of which its own is one, is a real number. -/
theorem max_real (x : Fin 2048 → ℝ) (r : Fin 2048) (M : EReal) (h : ∀ B, M ≤ B ↔ ∀ p, seen x r p ≤ B) : Real1 M := by
  obtain ⟨u, hu⟩ := (Set.finite_range x).bddAbove
  have h1 : M ≤ (u : EReal) := (h _).2 fun p => by
    unfold seen
    split
    · exact EReal.coe_le_coe_iff.2 (hu ⟨p, rfl⟩)
    · exact bot_le
  have h2 : (x r : EReal) ≤ M := by
    have := (h M).1 le_rfl r
    rwa [seen, if_pos le_rfl] at this
  induction M with
  | bot => exact absurd h2 (by simp)
  | top => exact absurd h1 (by simp)
  | coe a => exact ⟨a, rfl⟩

theorem log2_pos : 0 < Real.log 2 := Real.log_pos (by norm_num)

/-- The weights, by their logarithms to base two or to base e. -/
theorem weight (x : Fin 2048 → ℝ) (r p : Fin 2048) (μ : ℝ) :
    Ideal.exp2 (seen (fun p => x p / Real.log 2) r p - ((μ / Real.log 2 : ℝ) : EReal)) = Ideal.exp (seen x r p - (μ : EReal)) := by
  unfold seen
  split
  · rw [← EReal.coe_sub, ← EReal.coe_sub]
    refine congrArg ((↑) : ℝ → EReal) ?_
    show (2 : ℝ) ^ (x p / Real.log 2 - μ / Real.log 2) = Real.exp (x p - μ)
    rw [Real.rpow_def_of_pos (by norm_num)]
    congr 1
    have := log2_pos.ne'
    field_simp
  · rw [EReal.bot_sub, EReal.bot_sub]; rfl

theorem weight_real (x : Fin 2048 → ℝ) (r p : Fin 2048) (μ : ℝ) :
    Ideal.exp (seen x r p - (μ : EReal)) = ((if p ≤ r then Real.exp (x p - μ) else 0 : ℝ) : EReal) := by
  unfold seen
  split
  · rw [← EReal.coe_sub]; rfl
  · rw [EReal.bot_sub]; rfl

/-- The plain softmax of a query's logits, applied to the values. -/
def softmaxed (x : Fin 2048 → ℝ) (w : Fin 2048 → EReal) (r : Fin 2048) : EReal :=
  ∑ p, w p * Ideal.div (Ideal.exp (seen x r p - Finset.univ.sup (seen x r))) (∑ p, Ideal.exp (seen x r p - Finset.univ.sup (seen x r)))

theorem attend_eq (x : Fin 2048 → ℝ) (w : Fin 2048 → EReal) (r : Fin 2048) :
    attend (fun p => ((x p / Real.log 2 : ℝ) : EReal)) w r = softmaxed x w r := by
  have hn : r.val / 512 + 1 ≤ 4 := by omega
  set n := r.val / 512 + 1 with hnd
  set y : Fin 2048 → ℝ := fun p => x p / Real.log 2 with hy
  set S : Nat → Fin 512 → EReal := fun b j => seen y r (at4 b j) with hS
  -- both maxima bound the same scores
  have hM (B : EReal) : runMax S n ≤ B ↔ ∀ p, seen y r p ≤ B := by
    rw [runMax_le]
    constructor
    · intro h p
      by_cases hp : p ≤ r
      · have hpr : p.val ≤ r.val := hp
        have := h (p.val / 512) (by omega) ⟨p.val % 512, Nat.mod_lt _ (by decide)⟩
        have e : at4 (p.val / 512) ⟨p.val % 512, Nat.mod_lt _ (by decide)⟩ = p :=
          Fin.ext (show 512 * (p.val / 512 % 4) + p.val % 512 = p.val by omega)
        rwa [hS, show (fun b j => seen y r (at4 b j)) (p.val / 512) ⟨p.val % 512, Nat.mod_lt _ (by decide)⟩ = seen y r p from congrArg _ e] at this
      · rw [seen, if_neg hp]; exact bot_le
    · exact fun h b _ j => h _
  have hX (B : EReal) : Finset.univ.sup (seen x r) ≤ B ↔ ∀ p, seen x r p ≤ B := by
    rw [Finset.sup_le_iff]; exact ⟨fun h p => h p (Finset.mem_univ p), fun h p _ => h p⟩
  obtain ⟨ν, hν⟩ := max_real y r _ hM
  obtain ⟨μ, hμ⟩ := max_real x r _ hX
  have hνμ : ν = μ / Real.log 2 := by
    refine le_antisymm ?_ ?_
    · refine EReal.coe_le_coe_iff.1 (hν ▸ (hM _).2 fun p => ?_)
      have := (hX _).1 hμ.le p
      unfold seen at this ⊢
      split at this
      · rename_i hp
        rw [if_pos hp]
        exact EReal.coe_le_coe_iff.2 (div_le_div_of_nonneg_right (EReal.coe_le_coe_iff.1 this) log2_pos.le)
      · rename_i hp
        rw [if_neg hp]; exact bot_le
    · rw [div_le_iff₀ log2_pos]
      refine EReal.coe_le_coe_iff.1 (hμ ▸ (hX _).2 fun p => ?_)
      have := (hM _).1 hν.le p
      unfold seen at this ⊢
      split at this
      · rename_i hp
        rw [if_pos hp]
        exact EReal.coe_le_coe_iff.2 ((div_le_iff₀ log2_pos).1 (EReal.coe_le_coe_iff.1 this))
      · rename_i hp
        rw [if_neg hp]; exact bot_le
  have ht : runMax S n < ⊤ := by rw [hν]; exact EReal.coe_lt_top ν
  -- a sum over the blocks seen is one over all the keys
  have hall (u : Fin 2048 → EReal) : runSum S (fun b j => u (at4 b j)) n = ∑ p, u p * Ideal.exp (seen x r p - (μ : EReal)) := by
    rw [runSum_eq S _ n ht, hν, hνμ]
    refine Eq.trans (Finset.sum_congr rfl fun b _ => Finset.sum_congr rfl fun j _ => congrArg (u (at4 b j) * ·) (weight x r (at4 b j) μ)) ?_
    refine sum_blocks (fun p => u p * Ideal.exp (seen x r p - (μ : EReal))) n hn fun b hb h4 j => ?_
    show u (at4 b j) * Ideal.exp (seen x r (at4 b j) - (μ : EReal)) = 0
    rw [weight_real, if_neg (later r b hb h4 j), EReal.coe_zero, mul_zero]
  set l : ℝ := ∑ p, (if p ≤ r then Real.exp (x p - μ) else 0) with hl
  have hpos : 0 < l := by
    refine Finset.sum_pos' (fun p _ => ?_) ⟨r, Finset.mem_univ r, ?_⟩
    · split
      · exact (Real.exp_pos _).le
      · exact le_rfl
    · rw [if_pos le_rfl]; exact Real.exp_pos _
  have hL : ∑ p, Ideal.exp (seen x r p - (μ : EReal)) = (l : EReal) := by
    rw [hl, coe_total]; exact Finset.sum_congr rfl fun p _ => weight_real x r p μ
  have h1 : runSum S (fun _ _ => 1) n = (l : EReal) := by
    refine (hall fun _ => 1).trans ?_
    simp only [one_mul]
    exact hL
  show Ideal.div (runSum S (fun b j => w (at4 b j)) n) (runSum S (fun _ _ => 1) n) = _
  rw [h1, hall w, div_sum _ _ _ hpos, softmaxed, hμ, hL]

end Cert.KernelIdeal.Tile

end
-- ==== Proof.MlaOut.lean ====
/-
  The attention kernel's blocks as the arguments: the queries scaled and the rotary part laid beside the other, the values
  transposed, and the array the kernel leaves.
-/
module

public import proofs.«01_k».proof.Proof.MlaValue

@[expose] public section

noncomputable section

namespace Cert.KernelIdeal.Tile

open Cert.KernelIdeal Cert.KernelIdeal.Gen Cert.Row Cert.Softmax Idealize.ShloMosaic.ValueIdx Idealize.ShloMosaic.TcCoe
open Idealize.ShloMosaic hiding ix1 ix2 ix3 ix4 ix5
open scoped BigOperators

abbrev Nope := FVec Ideal S32x2048x8x128 .f32
abbrev Rope := FVec Ideal S32x2048x8x64 .f32
abbrev Key := FVec Ideal S32x2048x64 .f32

/-- The factor of the queries: one over the root of 192 and the logarithm of two. -/
def scale : EReal := Ideal.div (Ideal.ofBits .f32 0x3F800000#32)
  (Ideal.sqrt (Ideal.ofBits .f32 0x43400000#32) * Ideal.log (Ideal.ofBits .f32 0x40000000#32))

/-- The factor as the program computes it. -/
def scaleVec : FVec Ideal S_ .f32 := Host.divf (constant S_ .f32 0x3F800000#32)
  (mulf (Host.sqrt (constant S_ .f32 0x43400000#32)) (Host.log (constant S_ .f32 0x40000000#32)))

def zeros : Rope := broadcastInDim S32x2048x8x64 ![] bcast_S_S32x2048x8x64 (constant (F := Ideal) S_ .f32 0x00000000#32)

/-- Three arrays side by side on the last axis, heads before positions. -/
def beside (u : Nope) (v w : Rope) : FVec Ideal S32x8x2048x256 .bf16 :=
  truncf .bf16 (transpose S32x8x2048x256 [0, 2, 1, 3] (concatenate S32x2048x8x256 3 [⟨S32x2048x8x128, u⟩, ⟨S32x2048x8x64, v⟩, ⟨S32x2048x8x64, w⟩]
    concatenates_S32x2048x8x128_S32x2048x8x64_S32x2048x8x64_S32x2048x8x256_d3) transposes_S32x2048x8x256_S32x8x2048x256_0_2_1_3) bitsLt_bf16_f32

theorem turn (x : FVec Ideal S32x2048x8x256 .f32) (b : Fin 32) (h : Fin 8) (p : Fin 2048) (e : Fin 256) :
    (truncf .bf16 (transpose S32x8x2048x256 [0, 2, 1, 3] x transposes_S32x2048x8x256_S32x8x2048x256_0_2_1_3) bitsLt_bf16_f32 : FVec Ideal S32x8x2048x256 .bf16)
      (ix4 b h p e) = x (ix4 b p h e) :=
  transpose_apply (s := S32x2048x8x256) (t := S32x8x2048x256) _ _ transposes_S32x2048x8x256_S32x8x2048x256_0_2_1_3 (ix4 b h p e) (ix4 b p h e)
    (by intro a; match a with | ⟨0, _⟩ => rfl | ⟨1, _⟩ => rfl | ⟨2, _⟩ => rfl | ⟨3, _⟩ => rfl)

variable (u : Nope) (v w : Rope) (b : Fin 32) (h : Fin 8) (p : Fin 2048)

theorem beside0 (e : Fin 128) : beside u v w (ix4 b h p ⟨e, by omega⟩) = u (ix4 b p h e) :=
  (turn _ b h p _).trans (concatenate_apply_piece (t := S32x2048x8x256) (3 : Fin 4) [⟨S32x2048x8x128, u⟩, ⟨S32x2048x8x64, v⟩, ⟨S32x2048x8x64, w⟩] _ _ 0
    (show 0 < 3 by decide) S32x2048x8x128 u rfl rfl 0 rfl (ix4 b p h e)
    (by intro a ha; match a with | ⟨0, _⟩ => rfl | ⟨1, _⟩ => rfl | ⟨2, _⟩ => rfl | ⟨3, _⟩ => exact absurd rfl ha) (Nat.zero_add _))

theorem beside1 (e : Fin 64) : beside u v w (ix4 b h p ⟨128 + e, by omega⟩) = v (ix4 b p h e) :=
  (turn _ b h p _).trans (concatenate_apply_piece (t := S32x2048x8x256) (3 : Fin 4) [⟨S32x2048x8x128, u⟩, ⟨S32x2048x8x64, v⟩, ⟨S32x2048x8x64, w⟩] _ _ 1
    (show 1 < 3 by decide) S32x2048x8x64 v rfl rfl 128 rfl (ix4 b p h e)
    (by intro a ha; match a with | ⟨0, _⟩ => rfl | ⟨1, _⟩ => rfl | ⟨2, _⟩ => rfl | ⟨3, _⟩ => exact absurd rfl ha) rfl)

theorem beside2 (e : Fin 64) : beside u v w (ix4 b h p ⟨192 + e, by omega⟩) = w (ix4 b p h e) :=
  (turn _ b h p _).trans (concatenate_apply_piece (t := S32x2048x8x256) (3 : Fin 4) [⟨S32x2048x8x128, u⟩, ⟨S32x2048x8x64, v⟩, ⟨S32x2048x8x64, w⟩] _ _ 2
    (show 2 < 3 by decide) S32x2048x8x64 w rfl rfl 192 rfl (ix4 b p h e)
    (by intro a ha; match a with | ⟨0, _⟩ => rfl | ⟨1, _⟩ => rfl | ⟨2, _⟩ => rfl | ⟨3, _⟩ => exact absurd rfl ha) rfl)

/-- The queries the kernel is given. -/
def queries (a0 : Nope) (a1 : Rope) : FVec Ideal S32x8x2048x256 .bf16 :=
  beside (mulf a0 (broadcastInDim S32x2048x8x128 ![] bcast_S_S32x2048x8x128 scaleVec))
    (mulf a1 (broadcastInDim S32x2048x8x64 ![] bcast_S_S32x2048x8x64 scaleVec)) zeros

/-- The keys. -/
def keys (a2 : Nope) (a3 : Key) : FVec Ideal S32x8x2048x256 .bf16 :=
  beside a2 (broadcastInDim S32x2048x8x64 ![0, 1, 2, 3] bcast_S32x2048x1x64_S32x2048x8x64_0_1_2_3
    (broadcastInDim S32x2048x1x64 ![0, 1, 3] bcast_S32x2048x64_S32x2048x1x64_0_1_3 a3)) zeros

/-- A sum over 256 as its three stretches. -/
theorem sum_stretches (f : Fin 256 → EReal) :
    ∑ e, f e = (∑ e : Fin 128, f ⟨e, by omega⟩) + (∑ e : Fin 64, f ⟨128 + e, by omega⟩) + ∑ e : Fin 64, f ⟨192 + e, by omega⟩ := by
  refine (Fin.sum_univ_add (a := 192) (b := 64) f).trans (congrArg₂ (· + ·) ?_ rfl)
  exact Fin.sum_univ_add (a := 128) (b := 64) (fun i : Fin 192 => f ⟨i, by omega⟩)

/-- The score of a query and a key, from the arguments. -/
def scoreOf (a0 : Nope) (a1 : Rope) (a2 : Nope) (a3 : Key) (b : Fin 32) (h : Fin 8) (r p : Fin 2048) : EReal :=
  (∑ e : Fin 128, a2 (ix4 b p h e) * (a0 (ix4 b r h e) * scale)) + ∑ e : Fin 64, a3 (ix3 b p e) * (a1 (ix4 b r h e) * scale)

theorem rope_at (a3 : Key) (e : Fin 64) : broadcastInDim S32x2048x8x64 ![0, 1, 2, 3] bcast_S32x2048x1x64_S32x2048x8x64_0_1_2_3
    (broadcastInDim S32x2048x1x64 ![0, 1, 3] bcast_S32x2048x64_S32x2048x1x64_0_1_3 a3) (ix4 b p h e) = a3 (ix3 b p e) :=
  (broadcastInDim_apply _ _ _ _ (ix4 b p (0 : Fin 1) e)
    (by intro a; match a with | ⟨0, _⟩ => rfl | ⟨1, _⟩ => rfl | ⟨2, _⟩ => rfl | ⟨3, _⟩ => rfl)).trans
  (broadcastInDim_apply _ _ _ _ (ix3 b p e) (by intro a; match a with | ⟨0, _⟩ => rfl | ⟨1, _⟩ => rfl | ⟨2, _⟩ => rfl))

theorem product (a0 : Nope) (a1 : Rope) (a2 : Nope) (a3 : Key) (r : Fin 2048) :
    ∑ e : Fin 256, keys a2 a3 (ix4 b h p e) * queries a0 a1 (ix4 b h r e) = scoreOf a0 a1 a2 a3 b h r p := by
  have z (q : Fin 2048) (e : Fin 64) : zeros (ix4 b q h e) = 0 := Ideal.ofBits_zero_f32
  unfold queries keys scoreOf
  rw [sum_stretches]
  simp only [beside0, beside1, beside2, z, mul_zero, Finset.sum_const_zero, add_zero]
  refine congrArg₂ (· + ·) rfl (Finset.sum_congr rfl fun e _ => ?_)
  exact congrArg (· * (a1 (ix4 b r h e) * scale)) (rope_at b h p a3 e)

variable (m : (ℓ : Loc nD τ sig) → Buf (Elt Ideal) ℓ)

theorem entry_q (c : Dev nD) : V m c main_v15 = queries (m ((c : Thread nD τ).loc main_arg0)) (m ((c : Thread nD τ).loc main_arg1)) := by
  unfold_abbrev_sides
  after_results
  all_goals rfl

theorem entry_k (c : Dev nD) : V m c main_v17 = keys (m ((c : Thread nD τ).loc main_arg2)) (m ((c : Thread nD τ).loc main_arg3)) := by
  unfold_abbrev_sides
  after_results
  all_goals rfl

theorem idx (t : Fin cfg0.N) : win0_0.index t = ![t.val / 2, t.val % 2, 0, 0] ∧ win0_1.index t = ![t.val / 2, t.val % 2, 0, 0]
    ∧ win0_2.index t = ![t.val / 2, t.val % 2, 0, 0, 0] ∧ win0_3.index t = ![t.val / 2, t.val % 2] := by
  revert t; decide +kernel

/-- The sequence and the head that head `h` of block `t` is. -/
abbrev seq (t : Fin cfg0.N) : Fin 32 := ⟨t.val / 2, by have : t.val < 64 := t.isLt; omega⟩
abbrev head (t : Fin cfg0.N) (h : Fin 4) : Fin 8 := ⟨t.val % 2 * 4 + h, by omega⟩

theorem place_in0 (t : Fin cfg0.N) (h : Fin 4) (r : Fin 2048) (e : Fin 256) : (win0_0.blk t).view.emb (ix4 0 h r e) = ix4 (seq t) (head t h) r e := by
  blk_ext [idx t]

theorem place_in1 (t : Fin cfg0.N) (h : Fin 4) (r : Fin 2048) (e : Fin 256) : (win0_1.blk t).view.emb (ix4 0 h r e) = ix4 (seq t) (head t h) r e := by
  blk_ext [idx t]

theorem v_at (c : Dev nD) (t : Fin cfg0.N) (h g : Fin 4) (d : Fin 128) (j : Fin 512) :
    iblk m c 2 t (ix5 0 h g d j) = m ((c : Thread nD τ).loc main_arg4) (ix4 (seq t) ⟨g.val * 512 + j, by omega⟩ (head t h) d) := by
  blk_ext! [iblk, V, idx t]

theorem place_out (t : Fin cfg0.N) (r : Fin 2048) (d : Fin 512) :
    (win0_3.blk t).view.emb (ix2 r d) = ix2 ⟨t.val / 2 * 2048 + r, by have : t.val < 64 := t.isLt; omega⟩ ⟨t.val % 2 * 512 + d, by omega⟩ := by
  blk_ext [idx t]

theorem dot_at (c : Dev nD) (t : Fin cfg0.N) (h : Fin 4) (r p : Fin 2048) : dot (iblk m c 0 t) (iblk m c 1 t) h r p
    = scoreOf (m ((c : Thread nD τ).loc main_arg0)) (m ((c : Thread nD τ).loc main_arg1)) (m ((c : Thread nD τ).loc main_arg2))
        (m ((c : Thread nD τ).loc main_arg3)) (seq t) (head t h) r p := by
  rw [← product, ← entry_q, ← entry_k]
  exact Finset.sum_congr rfl fun e _ => congrArg₂ (· * ·) (congrArg (V m c main_v17) (place_in1 t h p e)) (congrArg (V m c main_v15) (place_in0 t h r e))

/-- The kernel's result at a query, head and channel. -/
def result (a0 : Nope) (a1 : Rope) (a2 : Nope) (a3 : Key) (a4 : Nope) (b : Fin 32) (r : Fin 2048) (h : Fin 8) (d : Fin 128) : EReal :=
  attend (scoreOf a0 a1 a2 a3 b h r) (fun p => a4 (ix4 b p h d)) r

def resultArr (a0 : Nope) (a1 : Rope) (a2 : Nope) (a3 : Key) (a4 : Nope) : FVec Ideal S65536x1024 .bf16 := fun y =>
  result a0 a1 a2 a3 a4 ⟨(y 0).val / 2048, by have : (y 0).val < 65536 := (y 0).isLt; omega⟩ ⟨(y 0).val % 2048, Nat.mod_lt _ (by decide)⟩
    ⟨(y 1).val / 128, by have : (y 1).val < 1024 := (y 1).isLt; omega⟩ ⟨(y 1).val % 128, Nat.mod_lt _ (by decide)⟩

theorem final (c : Dev nD) : (dats m 0 c).arrAt 3 cfg0.N
    = resultArr (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 3 _ (by decide +kernel) fun t hf y => ?_
  obtain ⟨r, d, rfl⟩ : ∃ r d, y = ix2 r d := ⟨y 0, y 1, ValueIdx.eq_ix2 y⟩
  blk_simp
  rw [after0_3, show ((cfg0.win 3).blk t).view.emb (ix2 r d) = _ from place_out t r d]
  refine (out_at (iblk m c 0 t) (iblk m c 1 t) (iblk m c 2 t) (ix2 r d)).trans ?_
  have ht : t.val < 64 := t.isLt
  show attend (dot (iblk m c 0 t) (iblk m c 1 t) (⟨d.val / 128, by omega⟩ : Fin 4) r) (fun p => iblk m c 2 t (ix5 0 (⟨d.val / 128, by omega⟩ : Fin 4)
    ⟨p.val / 512, by omega⟩ ⟨d.val % 128, Nat.mod_lt _ (by decide)⟩ ⟨p.val % 512, Nat.mod_lt _ (by decide)⟩)) r = _
  have e1 : (⟨(t.val / 2 * 2048 + r.val) / 2048, by omega⟩ : Fin 32) = seq t := Fin.ext (show (t.val / 2 * 2048 + r.val) / 2048 = t.val / 2 by omega)
  have e2 : (⟨(t.val / 2 * 2048 + r.val) % 2048, Nat.mod_lt _ (by decide)⟩ : Fin 2048) = r := Fin.ext (show (t.val / 2 * 2048 + r.val) % 2048 = r.val by omega)
  have e3 : (⟨(t.val % 2 * 512 + d.val) / 128, by omega⟩ : Fin 8) = head t ⟨d.val / 128, by omega⟩ :=
    Fin.ext (show (t.val % 2 * 512 + d.val) / 128 = t.val % 2 * 4 + d.val / 128 by omega)
  have e4 : (⟨(t.val % 2 * 512 + d.val) % 128, Nat.mod_lt _ (by decide)⟩ : Fin 128) = ⟨d.val % 128, Nat.mod_lt _ (by decide)⟩ :=
    Fin.ext (show (t.val % 2 * 512 + d.val) % 128 = d.val % 128 by omega)
  show _ = result _ _ _ _ _ (⟨(t.val / 2 * 2048 + r.val) / 2048, by omega⟩ : Fin 32) (⟨(t.val / 2 * 2048 + r.val) % 2048, Nat.mod_lt _ (by decide)⟩ : Fin 2048)
    (⟨(t.val % 2 * 512 + d.val) / 128, by omega⟩ : Fin 8) (⟨(t.val % 2 * 512 + d.val) % 128, Nat.mod_lt _ (by decide)⟩ : Fin 128)
  rw [e1, e2, e3, e4]
  refine attend_congr (dot_at m c t _ r) (fun p => ?_) r
  refine (v_at m c t _ _ _ _).trans (congrArg _ ?_)
  exact congrArg (fun q => ix4 (seq t) q (head t ⟨d.val / 128, by omega⟩) (⟨d.val % 128, Nat.mod_lt _ (by decide)⟩ : Fin 128))
    (Fin.ext (show p.val / 512 * 512 + p.val % 512 = p.val by omega))

end Cert.KernelIdeal.Tile

end
-- ==== Proof.MlaRef.lean ====
/-
  The attention's reference read at an index: the plain softmax, and with finite queries and keys the kernel's function of the
  arguments.
-/
module

public import proofs.«01_k».proof.Proof.Gen.ReferenceIdeal.Read
public import proofs.«01_k».proof.Proof.MlaMath
public import proofs.«01_k».proof.Proof.MlaOut
public import Idealize.ShloMosaic.Lib.KernelVsHost

@[expose] public section

noncomputable section

namespace Cert.ReferenceIdeal.Rows

open Cert.ReferenceIdeal Cert.ReferenceIdeal.Gen Cert.ReferenceIdeal.Read Cert.Softmax Idealize.ShloMosaic.ValueIdx
open Idealize.ShloMosaic hiding ix1 ix2 ix3 ix4 ix5
open Cert.KernelIdeal.Tile (seen softmaxed attend attend_eq attend_congr scoreOf scale result resultArr log2_pos)
open scoped BigOperators

variable (x0 : FVec Ideal S32x2048x8x128 .f32) (x1 : FVec Ideal S32x2048x8x64 .f32) (x2 : FVec Ideal S32x2048x8x128 .f32)
  (x3 : FVec Ideal S32x2048x64 .f32) (x4 : FVec Ideal S32x2048x8x128 .f32)

theorem bits_192 : Ideal.ofBits .f32 0x43400000#32 = ((192 : ℝ) : EReal) := by
  simp [Ideal.ofBits, Ideal.ieee, -EReal.coe_mul]; norm_num

theorem bits_2 : Ideal.ofBits .f32 0x40000000#32 = ((2 : ℝ) : EReal) := by
  simp [Ideal.ofBits, Ideal.ieee, -EReal.coe_mul]; norm_num

theorem bits_least : Ideal.ofBits .f32 0xFF800000#32 = (⊥ : EReal) := by simp [Ideal.ofBits, Ideal.ieee]

theorem root_pos : 0 < Real.sqrt 192 := Real.sqrt_pos.2 (by norm_num)

theorem root : Ideal.sqrt (Ideal.ofBits .f32 0x43400000#32) = ((Real.sqrt 192 : ℝ) : EReal) := by
  rw [bits_192]; exact if_neg (by norm_num)

theorem div_real {a b : ℝ} (hb : b ≠ 0) : Ideal.div (a : EReal) (b : EReal) = ((a / b : ℝ) : EReal) := by
  rw [Ideal.div, if_neg (by exact_mod_cast hb), ← EReal.coe_inv, ← EReal.coe_mul]; rfl

theorem scale_real : scale = ((1 / (Real.sqrt 192 * Real.log 2) : ℝ) : EReal) := by
  have hlog : Ideal.log (Ideal.ofBits .f32 0x40000000#32) = ((Real.log 2 : ℝ) : EReal) := by
    rw [bits_2]; exact if_neg (by norm_num)
  rw [scale, root, hlog, ← EReal.coe_mul, Ideal.ofBits_one_f32]
  exact div_real (mul_pos root_pos log2_pos).ne'

/-- The product of a query and a key, before the division by the root. -/
def raw (b : Fin 32) (h : Fin 8) (r p : Fin 2048) : EReal :=
  (∑ e : Fin 128, x0 (ix4 b r h e) * x2 (ix4 b p h e)) + ∑ e : Fin 64, x3 (ix3 b p e) * x1 (ix4 b r h e)

/-- The logit of a query and a key. -/
def logit (b : Fin 32) (h : Fin 8) (r p : Fin 2048) : ℝ := (raw x0 x1 x2 x3 b h r p).toReal / Real.sqrt 192

/-- Queries and keys that are real numbers. -/
def Finite : Prop := (∀ i, Real1 (x0 i)) ∧ (∀ i, Real1 (x1 i)) ∧ (∀ i, Real1 (x2 i)) ∧ ∀ i, Real1 (x3 i)

variable (hf : Finite x0 x1 x2 x3) (b : Fin 32) (h : Fin 8) (r p : Fin 2048) (d : Fin 128)

include hf in
theorem raw_real : raw x0 x1 x2 x3 b h r p = (((raw x0 x1 x2 x3 b h r p).toReal : ℝ) : EReal) := by
  obtain ⟨h0, h1, h2, h3⟩ := hf
  obtain ⟨a, ha⟩ : Real1 (raw x0 x1 x2 x3 b h r p) :=
    (Real1.sum _ _ fun e => (h0 _).mul (h2 _)).add (Real1.sum _ _ fun e => (h3 _).mul (h1 _))
  rw [ha, EReal.toReal_coe]

include hf in
/-- The kernel's score is the logit to base two. -/
theorem score_eq : scoreOf x0 x1 x2 x3 b h r p = ((logit x0 x1 x2 x3 b h r p / Real.log 2 : ℝ) : EReal) := by
  have hc : 0 ≤ scale := by
    rw [scale_real]; exact EReal.coe_nonneg.2 (div_nonneg zero_le_one (mul_pos root_pos log2_pos).le)
  have ht : scale ≠ ⊤ := by rw [scale_real]; exact EReal.coe_ne_top _
  have e : scoreOf x0 x1 x2 x3 b h r p = scale * raw x0 x1 x2 x3 b h r p := by
    rw [scoreOf, raw, EReal.left_distrib_of_nonneg_of_ne_top hc ht, mul_sum _ _ hc ht, mul_sum _ _ hc ht]
    refine congrArg₂ (· + ·) (Finset.sum_congr rfl fun e _ => ?_) (Finset.sum_congr rfl fun e _ => ?_)
    · rw [mul_comm scale, ← mul_assoc, mul_comm (x2 _)]
    · rw [mul_comm scale, ← mul_assoc]
  rw [e, raw_real x0 x1 x2 x3 hf, scale_real, ← EReal.coe_mul]
  refine congrArg _ ?_
  have := root_pos.ne'
  have := log2_pos.ne'
  rw [logit]
  field_simp

theorem v3_at : val_main_v3 (F := Ideal) x0 x1 x2 x3 (ix4 b h r p) = raw x0 x1 x2 x3 b h r p := by
  rw [val_main_v3_apply, val_main_v0_apply, val_main_v2_apply, val_main_v1_apply]
  refine congrArg₂ (· + ·) ?_ ?_
  · exact Finset.sum_congr rfl fun e _ => congrArg₂ (fun u w => x0 u * x2 w) (ValueIdx.eq_ix4 _) (ValueIdx.eq_ix4 _)
  · exact Finset.sum_congr rfl fun e _ => congrArg₂ (fun u w => x3 u * x1 w) (ValueIdx.eq_ix3 _) (ValueIdx.eq_ix4 _)

theorem v12_at : val_main_v12 (F := Ideal) (ix2 r p) = BitVec.ofBool (decide (p ≤ r)) := by
  rw [val_main_v12_apply, val_main_v10_apply, val_main_v11_apply, val_main_v8_apply, val_main_v9_apply, val_main_v7_apply, val_main_v7_apply]
  show BitVec.ofBool ((BitVec.ofNat 32 p.val).sle (BitVec.ofNat 32 r.val)) = _
  have e (i : Fin 2048) : (BitVec.ofNat 32 i.val).toInt = i.val := by
    rw [BitVec.toInt_ofNat']
    exact Int.bmod_eq_of_le (by omega) (by omega)
  congr 1
  rw [BitVec.sle_eq_decide, e, e]
  exact decide_eq_decide.2 (by rw [Fin.le_def]; omega)

include hf in
theorem v13_at : val_main_v13 (F := Ideal) x0 x1 x2 x3 (ix4 b h r p) = seen (logit x0 x1 x2 x3 b h r) r p := by
  have h6 : val_main_v6 (F := Ideal) x0 x1 x2 x3 (ix4 b h r p) = ((logit x0 x1 x2 x3 b h r p : ℝ) : EReal) := by
    rw [val_main_v6_apply, v3_at]
    refine (congrArg (Ideal.div _) (root : val_main_v5 (F := Ideal) (ix4 b h r p) = _)).trans ?_
    rw [raw_real x0 x1 x2 x3 hf]
    exact div_real root_pos.ne'
  rw [val_main_v13_apply, h6, val_main_call0_v1_apply, val_main_call0_v2_apply, val_main_call0_v0_apply,
    show idx_main_call0_v1 (ix4 b h r p) = ix2 r p from ValueIdx.eq_ix2 _, v12_at, seen]
  by_cases hp : p ≤ r
  · rw [if_pos hp, decide_eq_true hp]; rfl
  · rw [if_neg hp, decide_eq_false hp]; exact bits_least

theorem least_named : (0xFF800000#32 : BitVec FTy.f32.bits) = FKind.maximumf.neutral .f32 (.inl rfl) := rfl

/-- The maximum of a row of an array. -/
theorem greatest (v : FVec Ideal S32x8x2048x2048 .f32) :
    Host.reduce FloatOps.maximumf v (constant (F := Ideal) S_ .f32 0xFF800000#32) reducesTo_S32x8x2048x2048_S32x8x2048_d3 h_S_ (ix3 b h r)
      = Finset.univ.sup fun p : Fin 2048 => (v (ix4 b h r p) : EReal) := by
  have red : S32x8x2048x2048.Reduces [3] S32x8x2048 := by decide
  have e := hostReduce_maximumf_eq_multiReduction (F := Ideal) v (0xFF800000#32) reducesTo_S32x8x2048x2048_S32x8x2048_d3 h_S_ red
    (.inl rfl) least_named
  rw [e, Ideal.multiReduction_maximumf_single]
  show Finset.univ.fold max (Ideal.ofBits .f32 0xFF800000#32) (fun p : Fin 2048 => v (red.lift (ix3 b h r) p)) = _
  rw [bits_least]
  refine congrArg (Finset.univ.fold max ⊥) (funext fun p => congrArg v ?_)
  exact ValueIdx.eq_ix4 _

include hf in
theorem v16_at : val_main_v16 (F := Ideal) x0 x1 x2 x3 (ix3 b h r) = Finset.univ.sup (seen (logit x0 x1 x2 x3 b h r) r) := by
  have e : val_main_v14 (F := Ideal) x0 x1 x2 x3 (ix3 b h r) = Finset.univ.sup (seen (logit x0 x1 x2 x3 b h r) r) :=
    (greatest b h r (val_main_v13 (F := Ideal) x0 x1 x2 x3)).trans
      (congrArg (Finset.univ.sup) (funext fun p => v13_at x0 x1 x2 x3 hf b h r p))
  rw [val_main_v16_apply, e, val_main_v15_apply, val_main_cst_2_apply]
  exact (congrArg (max · _) bits_least).trans (max_eq_right bot_le)

include hf in
theorem v20_at : val_main_v20 (F := Ideal) x0 x1 x2 x3 (ix4 b h r p)
    = Ideal.exp (seen (logit x0 x1 x2 x3 b h r) r p - Finset.univ.sup (seen (logit x0 x1 x2 x3 b h r) r)) := by
  rw [val_main_v20_apply, val_main_v19_apply, v13_at x0 x1 x2 x3 hf, val_main_v18_apply, val_main_v17_apply,
    show idx_main_v17 (idx_main_v18 (ix4 b h r p)) = ix3 b h r from ValueIdx.eq_ix3 _, v16_at x0 x1 x2 x3 hf]
  rfl

include hf in
theorem v24_at : val_main_v24 (F := Ideal) x0 x1 x2 x3 (ix4 b h r p)
    = Ideal.div (Ideal.exp (seen (logit x0 x1 x2 x3 b h r) r p - Finset.univ.sup (seen (logit x0 x1 x2 x3 b h r) r)))
        (∑ p, Ideal.exp (seen (logit x0 x1 x2 x3 b h r) r p - Finset.univ.sup (seen (logit x0 x1 x2 x3 b h r) r))) := by
  rw [val_main_v24_apply, v20_at x0 x1 x2 x3 hf, val_main_v23_apply, val_main_v22_apply,
    show idx_main_v22 (idx_main_v23 (ix4 b h r p)) = ix3 b h r from ValueIdx.eq_ix3 _, val_main_v21_apply,
    show val_main_cst_3 (F := Ideal) _ = (0 : EReal) from Ideal.ofBits_zero_f32, zero_add]
  refine congrArg (Ideal.div _) (Finset.sum_congr rfl fun p _ => ?_)
  rw [← v20_at x0 x1 x2 x3 hf]
  exact congrArg _ (ValueIdx.eq_ix4 _)

include hf in
/-- The reference at a query, head and channel is the kernel's function. -/
theorem v25_at : val_main_v25 (F := Ideal) x0 x1 x2 x3 x4 (ix4 b h d r) = result x0 x1 x2 x3 x4 b r h d := by
  rw [val_main_v25_apply, result, attend_congr (fun p => score_eq x0 x1 x2 x3 hf b h r p) (fun _ => rfl), attend_eq, softmaxed]
  refine Finset.sum_congr rfl fun p _ => congrArg₂ (· * ·) (congrArg x4 (ValueIdx.eq_ix4 _)) ?_
  exact (congrArg _ (ValueIdx.eq_ix4 _)).trans (v24_at x0 x1 x2 x3 hf b h r p)

include hf in
theorem result_eq : val_main_v28 (F := Ideal) x0 x1 x2 x3 x4 = resultArr x0 x1 x2 x3 x4 := by
  funext y
  obtain ⟨R, C, rfl⟩ : ∃ R C, y = ix2 R C := ⟨y 0, y 1, ValueIdx.eq_ix2 y⟩
  rw [val_main_v28_apply]
  show val_main_v27 (F := Ideal) x0 x1 x2 x3 x4 (ix2 R C) = _
  rw [val_main_v27_apply, val_main_v26_apply]
  refine Eq.trans (congrArg _ (ValueIdx.eq_ix4 _)) ((v25_at x0 x1 x2 x3 x4 hf _ _ _ _).trans ?_)
  show result x0 x1 x2 x3 x4 ⟨(R.val * 1024 + C.val) / 2097152, _⟩ ⟨(R.val * 1024 + C.val) / 1024 % 2048, _⟩
    ⟨(R.val * 1024 + C.val) / 128 % 8, _⟩ ⟨(R.val * 1024 + C.val) % 128, _⟩
    = result x0 x1 x2 x3 x4 ⟨R.val / 2048, by omega⟩ ⟨R.val % 2048, _⟩ ⟨C.val / 128, by omega⟩ ⟨C.val % 128, _⟩
  congr 1 <;> (try congr 1) <;> omega

end Cert.ReferenceIdeal.Rows

end
-- ==== Proof.MlaClaim.lean ====
/-
  The latent attention's claim: for finite queries and keys the tiled kernel and the reference compute the same array.
-/
module

public import proofs.«01_k».proof.Defs
public import proofs.«01_k».proof.Proof.Gen.KernelIdeal.Value
public import proofs.«01_k».proof.Proof.Gen.ReferenceIdeal.Run
public import proofs.«01_k».proof.Proof.MlaRef

@[expose] public section

noncomputable section

namespace Cert.MlaClaim

open Idealize.ShloMosaic Idealize.SL.Sem Cert.Softmax

/-- The precondition's shapes broadcast. -/
theorem pre_facts : Cert.Pre_finite_scores.Facts := ⟨by decide, by decide, by decide⟩

/-- The reference declares no semaphore, so its run is its frame. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

theorem bits_top : Ideal.ofBits .f32 0x7F800000#32 = (⊤ : EReal) := by simp [Ideal.ofBits, Ideal.ieee]

/-- A value whose size compares below infinity is a real number. -/
theorem real_of_test {x : EReal} (h : BitVec.ofBool (decide (max x (-x) < Ideal.ofBits .f32 0x7F800000#32)) = 1#1) : Real1 x := by
  rw [bits_top] at h
  refine real_of_abs_lt ?_
  by_contra hn
  rw [decide_eq_false hn] at h
  exact absurd h (by decide)

/-- The precondition says that the queries and keys are real numbers. -/
theorem finite_of_pre (m : (ℓ : Loc Cert.KernelIdeal.nD Cert.KernelIdeal.τ Cert.KernelIdeal.sig) → Buf (Elt Ideal) ℓ)
    (h : Cert.Pre_KernelIdeal_finite_scores (hPre_finite_scores := pre_facts) m) (c : Dev Cert.KernelIdeal.nD) :
    Cert.ReferenceIdeal.Rows.Finite
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) := by
  obtain ⟨h0, h1, h2, h3⟩ := h c
  exact ⟨fun i => real_of_test (congrFun h0 i), fun i => real_of_test (congrFun h1 i), fun i => real_of_test (congrFun h2 i),
    fun i => real_of_test (congrFun h3 i)⟩

/-- Over the extended reals the attention kernel and its reference leave the same array, for finite queries and keys. -/
theorem equal : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hpre hargs
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨h0, h1, h2, h3, h4⟩ := hargs c
  refine (Cert.ReferenceIdeal.Read.val_main_v28_eq m' c).trans ?_
  rw [h0, h1, h2, h3, h4]
  exact (Cert.ReferenceIdeal.Rows.result_eq _ _ _ _ _ (finite_of_pre m hpre c)).trans (Cert.KernelIdeal.Tile.final m c).symm

end Cert.MlaClaim
-- ==== Proof.MergeTile.lean ====
/-
  The merge kernel's two stored tiles, read at an index: each row of a tile is one function of the row's inputs and the weights.
-/
module

public import proofs.«01_k».proof.Proof.Gen.MergeIdeal.Value
public import proofs.«01_k».proof.Proof.Row

@[expose] public section

noncomputable section

namespace Cert.MergeIdeal.Tile

open Cert.MergeIdeal Cert.MergeIdeal.Gen Cert.Row Idealize.ShloMosaic Idealize.ShloMosaic.ValueIdx
open scoped BigOperators

/-- One row of the merge before the residual: both branches gated, summed, and sent through the output weights. -/
def mixRow (x on om : Fin 1024 → EReal) (wog wa wb wgo wmo wout : Fin 1024 → Fin 1024 → EReal) (d : Fin 1024) : EReal :=
  ∑ k, (gate (∑ j, x j * wa j k) * (∑ j, on j * silu (∑ i, x i * wog i j) * wgo j k)
      + gate (∑ j, x j * wb j k) * (∑ j, om j * wmo j k)) * wout k d

/-- One row of the merge's result. -/
def mergeRow (x on om : Fin 1024 → EReal) (wog wa wb wgo wmo wout : Fin 1024 → Fin 1024 → EReal) (g b : Fin 1024 → EReal)
    (d : Fin 1024) : EReal :=
  norm (blend x (mixRow x on om wog wa wb wgo wmo wout)) g b d

theorem mergeRow_congr {x on om x' on' om' : Fin 1024 → EReal} {wog wa wb wgo wmo wout wog' wa' wb' wgo' wmo' wout' : Fin 1024 → Fin 1024 → EReal}
    {g b g' b' : Fin 1024 → EReal} (hx : ∀ k, x k = x' k) (hn : ∀ k, on k = on' k) (hm : ∀ k, om k = om' k)
    (hog : ∀ j k, wog j k = wog' j k) (ha : ∀ j k, wa j k = wa' j k) (hb : ∀ j k, wb j k = wb' j k) (hgo : ∀ j k, wgo j k = wgo' j k)
    (hmo : ∀ j k, wmo j k = wmo' j k) (hout : ∀ j k, wout j k = wout' j k) (hg : ∀ k, g k = g' k) (hb' : ∀ k, b k = b' k) (d : Fin 1024) :
    mergeRow x on om wog wa wb wgo wmo wout g b d = mergeRow x' on' om' wog' wa' wb' wgo' wmo' wout' g' b' d := by
  obtain rfl := funext hx; obtain rfl := funext hn; obtain rfl := funext hm; obtain rfl := funext hg; obtain rfl := funext hb'
  obtain rfl := funext fun j => funext (hog j); obtain rfl := funext fun j => funext (ha j); obtain rfl := funext fun j => funext (hb j)
  obtain rfl := funext fun j => funext (hgo j); obtain rfl := funext fun j => funext (hmo j); obtain rfl := funext fun j => funext (hout j)
  rfl

/-- A row of a matrix. -/
abbrev row {M N : Nat} {φ : FTy} (v : FVec Ideal ⟨2, ![M, N]⟩ φ) (r : Fin M) : Fin N → EReal := fun k => v (ix2 r k)

abbrev X := FVec Ideal S512x1024 .f32
abbrev Xb := FVec Ideal S512x1024 .bf16
abbrev Wb := FVec Ideal S1024x1024 .bf16
abbrev Gb := FVec Ideal S1x1024 .f32

theorem mm {φ₁ φ₂ : FTy} (a : FVec Ideal S512x1024 φ₁) (b : FVec Ideal S1024x1024 φ₂) (r : Fin 512) (c : Fin 1024) :
    matmul dot_S512x1024_S1024x1024_S512x1024_1_0_0_1_n_n none a b (constant S512x1024 .f32 0x00000000#32) (ix2 r c)
      = ∑ k : Fin 1024, a (ix2 r k) * b (ix2 k c) := rows_times none a b r c

theorem og_at (x : X) (w : Wb) (r : Fin 512) (c : Fin 1024) : k0_pay4 (F := Ideal) x w (ix2 r c) = ∑ k, x (ix2 r k) * w (ix2 k c) := by
  unfold k0_pay4 k0_pay3 k0_pay2
  simp only [shapeCast_self, mm]
  rfl

theorem ym_at (x : Xb) (w : Wb) (r : Fin 512) (c : Fin 1024) : k0_pay5 (F := Ideal) x w (ix2 r c) = ∑ k, x (ix2 r k) * w (ix2 k c) := by
  unfold k0_pay5
  simp only [shapeCast_self, mm]

theorem ga_at (x : X) (w : Wb) (r : Fin 512) (c : Fin 1024) : k0_pay6 (F := Ideal) x w (ix2 r c) = gate (∑ k, x (ix2 r k) * w (ix2 k c)) := by
  rw [← og_at]; unfold gate; rw [← zero_minus]
  rfl

theorem gb_at (x : X) (w : Wb) (r : Fin 512) (c : Fin 1024) : k0_pay7 (F := Ideal) x w (ix2 r c) = gate (∑ k, x (ix2 r k) * w (ix2 k c)) := by
  rw [← og_at]; unfold gate; rw [← zero_minus]
  rfl

/-- The row minus its mean, over any branch values. -/
theorem centred_at (v1 v5 v10 v20 v30 v33 : X) (w w' : Wb) (r : Fin 512) (d : Fin 1024) :
    k0_pay11 (F := Ideal) v1 v5 v10 v20 v30 v33 (Scalar.ofBits .f32 0x00000000#32) w w' (ix2 r d)
      = (fun y : Fin 1024 → EReal => y d - mean y) (blend (row v1 r) fun d =>
          ∑ k, (v20 (ix2 r k) * (∑ j, v33 (ix2 r j) * silu (v5 (ix2 r j)) * w (ix2 j k)) + v30 (ix2 r k) * v10 (ix2 r k)) * w' (ix2 k d)) := by
  have hs (v : X) (k : Fin 1024) : exp (subf (broadcast S512x1024 (Scalar.ofBits .f32 0x00000000#32)) v) (ix2 r k) = Ideal.exp (-v (ix2 r k)) :=
    congrArg Ideal.exp (zero_minus _)
  unfold k0_pay11
  refine (centre _ _ _ _ _ _ r d).trans ?_
  simp only [divf_apply, addf_apply, mulf_apply, mm, truncf_apply, shapeCast_self, broadcast_apply, hs]
  rfl

/-- The factor each row is scaled by, from the squares of its centred entries. -/
theorem factor_at (v1 v5 v10 v20 v30 v33 : X) (z : EReal) (w w' : Wb) (r : Fin 512) (d : Fin 1024) :
    k0_pay12 (F := Ideal) v1 v5 v10 v20 v30 v33 z w w' (ix2 r d)
      = Ideal.rsqrt (mean (fun k => k0_pay11 (F := Ideal) v1 v5 v10 v20 v30 v33 z w w' (ix2 r k) * k0_pay11 (F := Ideal) v1 v5 v10 v20 v30 v33 z w w' (ix2 r k))
          + Ideal.ofBits .f32 0x3727C5AC#32) := by
  unfold k0_pay12
  exact factor _ _ _ _ _ _ r d

/-- The first stored tile, read at an index. -/
theorem first_tile (x : X) (on om : Xb) (wog wa wb wgo wmo wout : Wb) (g b : Gb) (r : Fin 512) (d : Fin 1024) :
    k0_pay13 (F := Ideal) (k0_pay9 g) (k0_pay10 b)
      (k0_pay11 (k0_pay2 x) (k0_pay4 x wog) (k0_pay5 om wmo) (k0_pay6 x wa) (k0_pay7 x wb) (k0_pay8 on) (Scalar.ofBits .f32 0x00000000#32) wgo wout)
      (k0_pay12 (k0_pay2 x) (k0_pay4 x wog) (k0_pay5 om wmo) (k0_pay6 x wa) (k0_pay7 x wb) (k0_pay8 on) (Scalar.ofBits .f32 0x00000000#32) wgo wout)
      (ix2 r d)
      = mergeRow (row x r) (row on r) (row om r) (fun j k => wog (ix2 j k)) (fun j k => wa (ix2 j k)) (fun j k => wb (ix2 j k))
          (fun j k => wgo (ix2 j k)) (fun j k => wmo (ix2 j k)) (fun j k => wout (ix2 j k)) (row g 0) (row b 0) d := by
  unfold k0_pay13 k0_pay9 k0_pay10
  simp only [addf_apply, mulf_apply, spread_row, shapeCast_self, factor_at, centred_at, og_at, ym_at, ga_at, gb_at]
  have h2 : k0_pay2 (F := Ideal) x = x := shapeCast_self _ _
  have h8 : k0_pay8 (F := Ideal) on = on := shapeCast_self _ _
  rw [h2, h8]
  rfl

/-- The second stored tile is the same function of its operands. -/
theorem second_tile (x : X) (on om : Xb) (wog wa wb wgo wmo wout : Wb) (g b : Gb) :
    k0_pay1 (F := Ideal) (k0_pay20 g) (k0_pay21 b)
      (k0_pay22 (k0_pay14 x) (k0_pay16 x wog) (k0_pay17 om wmo) (k0_pay18 x wa) (k0_pay19 x wb) (Scalar.ofBits .f32 0x3F800000#32) on wgo wout)
      (k0_pay23 (k0_pay14 x) (k0_pay16 x wog) (k0_pay17 om wmo) (k0_pay18 x wa) (k0_pay19 x wb) (Scalar.ofBits .f32 0x3F800000#32) on wgo wout)
    = k0_pay13 (F := Ideal) (k0_pay9 g) (k0_pay10 b)
      (k0_pay11 (k0_pay2 x) (k0_pay4 x wog) (k0_pay5 om wmo) (k0_pay6 x wa) (k0_pay7 x wb) (k0_pay8 on) (Scalar.ofBits .f32 0x00000000#32) wgo wout)
      (k0_pay12 (k0_pay2 x) (k0_pay4 x wog) (k0_pay5 om wmo) (k0_pay6 x wa) (k0_pay7 x wb) (k0_pay8 on) (Scalar.ofBits .f32 0x00000000#32) wgo wout) :=
  rfl

/-- A row of the result from the arguments, at a sequence, a position and a channel. -/
def result (a0 a1 a2 : FVec Ideal S32x2048x1024 .f32) (a3 : FVec Ideal S1024x5840 .f32) (a4 a5 a6 : FVec Ideal S1024x1024 .f32)
    (a7 a8 : FVec Ideal S1024 .f32) (s : Fin 32) (p : Fin 2048) (d : Fin 1024) : EReal :=
  mergeRow (fun k => a0 (ix3 s p k)) (fun k => a1 (ix3 s p k)) (fun k => a2 (ix3 s p k))
    (fun j k => a3 (ix2 j ⟨2064 + k, by omega⟩)) (fun j k => a3 (ix2 j ⟨3792 + k, by omega⟩)) (fun j k => a3 (ix2 j ⟨4816 + k, by omega⟩))
    (fun j k => a4 (ix2 j k)) (fun j k => a5 (ix2 j k)) (fun j k => a6 (ix2 j k)) (fun k => a7 (ix1 k)) (fun k => a8 (ix1 k)) d

/-- The result array: its rows are the sequences' positions one after another. -/
def resultArr (a0 a1 a2 : FVec Ideal S32x2048x1024 .f32) (a3 : FVec Ideal S1024x5840 .f32) (a4 a5 a6 : FVec Ideal S1024x1024 .f32)
    (a7 a8 : FVec Ideal S1024 .f32) : FVec Ideal S65536x1024 .f32 := fun i =>
  result a0 a1 a2 a3 a4 a5 a6 a7 a8 ⟨(i 0).val / 2048, by have h : (i 0).val < 65536 := (i 0).isLt; omega⟩ ⟨(i 0).val % 2048, Nat.mod_lt _ (by decide)⟩ (i 1)

end Cert.MergeIdeal.Tile

end
-- ==== Proof.MergeValue.lean ====
/-
  What the merge kernel leaves in its result: every row is one function of the arguments' rows.
-/
module

public import proofs.«01_k».proof.Proof.MergeTile
public import Idealize.ShloMosaic.Lib.Pipeline.ValueKit
public import Idealize.ShloMosaic.Lib.Pointwise

@[expose] public section

noncomputable section

namespace Cert.MergeIdeal.Tile

open Cert.MergeIdeal Cert.MergeIdeal.Gen Cert.Row Idealize.ShloMosaic.ValueIdx Idealize.ShloMosaic.TcCoe
open Idealize.ShloMosaic hiding ix1 ix2 ix3 ix4
open scoped BigOperators

abbrev B := FVec Ideal S1024x1024 .f32

/-- A block of the result, read at an index. -/
def blockRow (x0 : B) (x1 x2 : Wb) (x3 : FVec Ideal S1024x3072 .bf16) (x4 x5 x6 : Wb) (x7 x8 : Gb) (y : S1024x1024.Idx) : EReal :=
  mergeRow (row x0 (y 0)) (row x1 (y 0)) (row x2 (y 0))
    (fun j k => x3 (ix2 j ⟨k, by omega⟩)) (fun j k => x3 (ix2 j ⟨1024 + k, by omega⟩)) (fun j k => x3 (ix2 j ⟨2048 + k, by omega⟩))
    (fun j k => x4 (ix2 j k)) (fun j k => x5 (ix2 j k)) (fun j k => x6 (ix2 j k)) (row x7 0) (row x8 0) (y 1)

theorem out_at (x0 : B) (x1 x2 : Wb) (x3 : FVec Ideal S1024x3072 .bf16) (x4 x5 x6 : Wb) (x7 x8 : Gb) (y : S1024x1024.Idx) :
    out0_9 (F := Ideal) x0 x1 x2 x3 x4 x5 x6 x7 x8 y = blockRow x0 x1 x2 x3 x4 x5 x6 x7 x8 y := by
  unfold_out out0_9
  refine View.canon_apply_of_pieces _ _ ?_ y (cover0_9 _ _ y)
  have hx (x : B) (r : Fin 512) (k : Fin 1024) : View.ld (Val := Elt Ideal) (e' := .f32) x r0_0 (ix2 r k) = x (ix2 ⟨r, by omega⟩ k) :=
    congrArg x (place _ r k _ _ (Nat.zero_add _).symm (Nat.zero_add _).symm)
  have hx' (x : B) (r : Fin 512) (k : Fin 1024) : View.ld (Val := Elt Ideal) (e' := .f32) x r0_6 (ix2 r k) = x (ix2 ⟨512 + r, by omega⟩ k) :=
    congrArg x (place _ r k _ _ rfl (Nat.zero_add _).symm)
  have hb (x : Wb) (r : Fin 512) (k : Fin 1024) : View.ld (Val := Elt Ideal) (e' := .bf16) x r0_0 (ix2 r k) = x (ix2 ⟨r, by omega⟩ k) :=
    congrArg x (place _ r k _ _ (Nat.zero_add _).symm (Nat.zero_add _).symm)
  have hb' (x : Wb) (r : Fin 512) (k : Fin 1024) : View.ld (Val := Elt Ideal) (e' := .bf16) x r0_6 (ix2 r k) = x (ix2 ⟨512 + r, by omega⟩ k) :=
    congrArg x (place _ r k _ _ rfl (Nat.zero_add _).symm)
  have hw (x : Wb) (j k) : View.ld (Val := Elt Ideal) (e' := .bf16) x r0_2 (ix2 j k) = x (ix2 j k) :=
    congrArg x (place _ j k _ _ (Nat.zero_add _).symm (Nat.zero_add _).symm)
  have hg (x : Gb) (k) : View.ld (Val := Elt Ideal) (e' := .f32) x r0_5 (ix2 0 k) = x (ix2 0 k) :=
    congrArg x (place _ 0 k _ _ rfl (Nat.zero_add _).symm)
  have h1 (j k : Fin 1024) : View.ld (Val := Elt Ideal) (e' := .bf16) x3 r0_1 (ix2 j k) = x3 (ix2 j ⟨k, by omega⟩) :=
    congrArg x3 (place _ j k _ _ (Nat.zero_add _).symm (Nat.zero_add _).symm)
  have h3 (j k : Fin 1024) : View.ld (Val := Elt Ideal) (e' := .bf16) x3 r0_3 (ix2 j k) = x3 (ix2 j ⟨1024 + k, by omega⟩) :=
    congrArg x3 (place _ j k _ _ (Nat.zero_add _).symm rfl)
  have h4 (j k : Fin 1024) : View.ld (Val := Elt Ideal) (e' := .bf16) x3 r0_4 (ix2 j k) = x3 (ix2 j ⟨2048 + k, by omega⟩) :=
    congrArg x3 (place _ j k _ _ (Nat.zero_add _).symm rfl)
  have e0 (r : Fin 512) (d : Fin 1024) : r0_0.emb (ix2 r d) = ix2 ⟨r, by omega⟩ d :=
    place _ r d _ _ (Nat.zero_add _).symm (Nat.zero_add _).symm
  have e6 (r : Fin 512) (d : Fin 1024) : r0_6.emb (ix2 r d) = ix2 ⟨512 + r, by omega⟩ d :=
    place _ r d _ _ rfl (Nat.zero_add _).symm
  intro p hp
  simp only [List.mem_cons, List.not_mem_nil, or_false] at hp
  rcases hp with rfl | rfl
  · intro x
    obtain ⟨r, d, rfl⟩ : ∃ r d, x = ix2 r d := ⟨x 0, x 1, ValueIdx.eq_ix2 x⟩
    rw [e6]
    refine (congrFun (second_tile _ _ _ _ _ _ _ _ _ _ _) _).trans ((first_tile _ _ _ _ _ _ _ _ _ _ _ r d).trans ?_)
    exact mergeRow_congr (hx' x0 r) (hb' x1 r) (hb' x2 r) h1 h3 h4 (hw x4) (hw x5) (hw x6) (hg x7) (hg x8) d
  · intro x
    obtain ⟨r, d, rfl⟩ : ∃ r d, x = ix2 r d := ⟨x 0, x 1, ValueIdx.eq_ix2 x⟩
    rw [e0]
    refine (first_tile _ _ _ _ _ _ _ _ _ _ _ r d).trans ?_
    exact mergeRow_congr (hx x0 r) (hb x1 r) (hb x2 r) h1 h3 h4 (hw x4) (hw x5) (hw x6) (hg x7) (hg x8) d

variable (m : (ℓ : Loc nD τ sig) → Buf (Elt Ideal) ℓ)

theorem idx (t : Fin cfg0.N) : win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val, 0] := by
  revert t; decide +kernel

/-- The row of the arguments that row `r` of block `t` is. -/
abbrev seq (t : Fin cfg0.N) (r : Fin 1024) : Fin 32 := ⟨(t.val * 1024 + r) / 2048, by have : t.val < 64 := t.isLt; omega⟩
abbrev pos (t : Fin cfg0.N) (r : Fin 1024) : Fin 2048 := ⟨(t.val * 1024 + r) % 2048, Nat.mod_lt _ (by decide)⟩

theorem x_at (c : Dev nD) (t : Fin cfg0.N) (r k : Fin 1024) :
    iblk m c 0 t (ix2 r k) = m ((c : Thread nD τ).loc main_arg0) (ix3 (seq t r) (pos t r) k) := by
  blk_ext! [iblk, V, idx t]

theorem on_at (c : Dev nD) (t : Fin cfg0.N) (r k : Fin 1024) :
    iblk m c 1 t (ix2 r k) = m ((c : Thread nD τ).loc main_arg1) (ix3 (seq t r) (pos t r) k) := by
  blk_ext! [iblk, V, idx t]

theorem om_at (c : Dev nD) (t : Fin cfg0.N) (r k : Fin 1024) :
    iblk m c 2 t (ix2 r k) = m ((c : Thread nD τ).loc main_arg2) (ix3 (seq t r) (pos t r) k) := by
  blk_ext! [iblk, V, idx t]

theorem entry_w (c : Dev nD) : V m c main_v4 = concatenate S1024x3072 1
    [⟨S1024x1024, extractStridedSlice S1024x1024 ![0, 2064] (m ((c : Thread nD τ).loc main_arg3) : FVec Ideal S1024x5840 .bf16) slices_S1024x5840_S1024x1024_0_2064⟩,
      ⟨S1024x1024, extractStridedSlice S1024x1024 ![0, 3792] (m ((c : Thread nD τ).loc main_arg3) : FVec Ideal S1024x5840 .bf16) slices_S1024x5840_S1024x1024_0_3792⟩,
      ⟨S1024x1024, extractStridedSlice S1024x1024 ![0, 4816] (m ((c : Thread nD τ).loc main_arg3) : FVec Ideal S1024x5840 .bf16) slices_S1024x5840_S1024x1024_0_4816⟩]
    concatenates_S1024x1024_S1024x1024_S1024x1024_S1024x3072_d1 := by
  unfold_abbrev_sides
  after_results
  all_goals rfl

theorem place_w (t : Fin cfg0.N) (j : Fin 1024) (k : Fin 3072) : (win0_3.blk t).view.emb (ix2 j k) = ix2 j k := by
  blk_ext [idx t]

theorem w_at (c : Dev nD) (t : Fin cfg0.N) (j : Fin 1024) (k : Fin 3072) : iblk m c 3 t (ix2 j k) = V m c main_v4 (ix2 j k) :=
  congrArg (V m c main_v4) (place_w t j k)

/-- The three slices of the input weights side by side, read in each of them. -/
theorem piece0 (u v w : FVec Ideal S1024x1024 .bf16) (j k : Fin 1024) :
    concatenate S1024x3072 1 [⟨S1024x1024, u⟩, ⟨S1024x1024, v⟩, ⟨S1024x1024, w⟩] concatenates_S1024x1024_S1024x1024_S1024x1024_S1024x3072_d1
      (ix2 j (⟨k, by omega⟩ : Fin 3072)) = u (ix2 j k) :=
  concatenate_apply_piece (t := S1024x3072) (1 : Fin 2) [⟨S1024x1024, u⟩, ⟨S1024x1024, v⟩, ⟨S1024x1024, w⟩] _ _ 0 (show 0 < 3 by decide)
    S1024x1024 u rfl rfl 0 rfl (ix2 j k) (by intro b hb; match b with | ⟨0, _⟩ => rfl | ⟨1, _⟩ => exact absurd rfl hb) (Nat.zero_add _)

theorem piece1 (u v w : FVec Ideal S1024x1024 .bf16) (j k : Fin 1024) :
    concatenate S1024x3072 1 [⟨S1024x1024, u⟩, ⟨S1024x1024, v⟩, ⟨S1024x1024, w⟩] concatenates_S1024x1024_S1024x1024_S1024x1024_S1024x3072_d1
      (ix2 j (⟨1024 + k, by omega⟩ : Fin 3072)) = v (ix2 j k) :=
  concatenate_apply_piece (t := S1024x3072) (1 : Fin 2) [⟨S1024x1024, u⟩, ⟨S1024x1024, v⟩, ⟨S1024x1024, w⟩] _ _ 1 (show 1 < 3 by decide)
    S1024x1024 v rfl rfl 1024 rfl (ix2 j k) (by intro b hb; match b with | ⟨0, _⟩ => rfl | ⟨1, _⟩ => exact absurd rfl hb) rfl

theorem piece2 (u v w : FVec Ideal S1024x1024 .bf16) (j k : Fin 1024) :
    concatenate S1024x3072 1 [⟨S1024x1024, u⟩, ⟨S1024x1024, v⟩, ⟨S1024x1024, w⟩] concatenates_S1024x1024_S1024x1024_S1024x1024_S1024x3072_d1
      (ix2 j (⟨2048 + k, by omega⟩ : Fin 3072)) = w (ix2 j k) :=
  concatenate_apply_piece (t := S1024x3072) (1 : Fin 2) [⟨S1024x1024, u⟩, ⟨S1024x1024, v⟩, ⟨S1024x1024, w⟩] _ _ 2 (show 2 < 3 by decide)
    S1024x1024 w rfl rfl 2048 rfl (ix2 j k) (by intro b hb; match b with | ⟨0, _⟩ => rfl | ⟨1, _⟩ => exact absurd rfl hb) rfl

theorem wog_at (c : Dev nD) (t : Fin cfg0.N) (j : Fin 1024) (k : Fin 1024) :
    iblk m c 3 t (ix2 j (⟨k, by omega⟩ : Fin 3072)) = m ((c : Thread nD τ).loc main_arg3) (ix2 j (⟨2064 + k, by omega⟩ : Fin 5840)) := by
  rw [w_at, entry_w]
  refine (piece0 _ _ _ j k).trans ?_
  exact extractStridedSlice_apply _ _ _ _ _ (by intro a; match a with | ⟨0, _⟩ => exact (Nat.zero_add _).symm | ⟨1, _⟩ => rfl)

theorem wa_at (c : Dev nD) (t : Fin cfg0.N) (j : Fin 1024) (k : Fin 1024) :
    iblk m c 3 t (ix2 j (⟨1024 + k, by omega⟩ : Fin 3072)) = m ((c : Thread nD τ).loc main_arg3) (ix2 j (⟨3792 + k, by omega⟩ : Fin 5840)) := by
  rw [w_at, entry_w]
  refine (piece1 _ _ _ j k).trans ?_
  exact extractStridedSlice_apply _ _ _ _ _ (by intro a; match a with | ⟨0, _⟩ => exact (Nat.zero_add _).symm | ⟨1, _⟩ => rfl)

theorem wb_at (c : Dev nD) (t : Fin cfg0.N) (j : Fin 1024) (k : Fin 1024) :
    iblk m c 3 t (ix2 j (⟨2048 + k, by omega⟩ : Fin 3072)) = m ((c : Thread nD τ).loc main_arg3) (ix2 j (⟨4816 + k, by omega⟩ : Fin 5840)) := by
  rw [w_at, entry_w]
  refine (piece2 _ _ _ j k).trans ?_
  exact extractStridedSlice_apply _ _ _ _ _ (by intro a; match a with | ⟨0, _⟩ => exact (Nat.zero_add _).symm | ⟨1, _⟩ => rfl)

theorem wgo_at (c : Dev nD) (t : Fin cfg0.N) (j k : Fin 1024) :
    iblk m c 4 t (ix2 j k) = m ((c : Thread nD τ).loc main_arg4) (ix2 j k) := by
  blk_ext [iblk, V, idx t]

theorem wmo_at (c : Dev nD) (t : Fin cfg0.N) (j k : Fin 1024) :
    iblk m c 5 t (ix2 j k) = m ((c : Thread nD τ).loc main_arg5) (ix2 j k) := by
  blk_ext [iblk, V, idx t]

theorem wout_at (c : Dev nD) (t : Fin cfg0.N) (j k : Fin 1024) :
    iblk m c 6 t (ix2 j k) = m ((c : Thread nD τ).loc main_arg6) (ix2 j k) := by
  blk_ext [iblk, V, idx t]

theorem g_at (c : Dev nD) (t : Fin cfg0.N) (k : Fin 1024) :
    iblk m c 7 t (ix2 0 k) = m ((c : Thread nD τ).loc main_arg7) (ix1 k) := by
  blk_ext! [iblk, V, idx t]

theorem b_at (c : Dev nD) (t : Fin cfg0.N) (k : Fin 1024) :
    iblk m c 8 t (ix2 0 k) = m ((c : Thread nD τ).loc main_arg8) (ix1 k) := by
  blk_ext! [iblk, V, idx t]

theorem place_out (t : Fin cfg0.N) (r d : Fin 1024) : (win0_9.blk t).view.emb (ix2 r d) = ix2 ⟨t.val * 1024 + r, by have : t.val < 64 := t.isLt; omega⟩ d := by
  blk_ext [idx t]

theorem final (c : Dev nD) : (dats m 0 c).arrAt 9 cfg0.N
    = resultArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t hf y => ?_
  obtain ⟨r, d, rfl⟩ : ∃ r d, y = ix2 r d := ⟨y 0, y 1, ValueIdx.eq_ix2 y⟩
  blk_simp
  rw [after0_9, show ((cfg0.win 9).blk t).view.emb (ix2 r d) = _ from place_out t r d]
  refine Eq.trans (b := blockRow (iblk m c 0 t) (iblk m c 1 t) (iblk m c 2 t) (iblk m c 3 t) (iblk m c 4 t) (iblk m c 5 t) (iblk m c 6 t) (iblk m c 7 t) (iblk m c 8 t) (ix2 r d)) ?_ ?_
  · exact out_at (iblk m c 0 t) (iblk m c 1 t) (iblk m c 2 t) (iblk m c 3 t) (iblk m c 4 t) (iblk m c 5 t) (iblk m c 6 t) (iblk m c 7 t) (iblk m c 8 t) (ix2 r d)
  · unfold blockRow resultArr result
    exact mergeRow_congr (x_at m c t r) (on_at m c t r) (om_at m c t r) (wog_at m c t) (wa_at m c t) (wb_at m c t) (wgo_at m c t)
      (wmo_at m c t) (wout_at m c t) (g_at m c t) (b_at m c t) d

end Cert.MergeIdeal.Tile

end
-- ==== Proof.MergeRef.lean ====
/-
  The merge's reference read at an index: it is the same function of a row and the weights.
-/
module

public import proofs.«01_k».proof.Proof.Gen.MergeRefIdeal.Read
public import proofs.«01_k».proof.Proof.MergeTile

@[expose] public section

noncomputable section

namespace Cert.MergeRefIdeal.Rows

open Cert.MergeRefIdeal Cert.MergeRefIdeal.Gen Cert.MergeRefIdeal.Read Cert.Row Idealize.ShloMosaic Idealize.ShloMosaic.ValueIdx
open Cert.MergeIdeal.Tile (mixRow mergeRow result resultArr)
open scoped BigOperators

variable (x0 x1 x2 : FVec Ideal S32x2048x1024 .f32) (x3 : FVec Ideal S1024x5840 .f32) (x4 x5 x6 : FVec Ideal S1024x1024 .f32)
  (x7 x8 : FVec Ideal S1024 .f32) (s : Fin 32) (p : Fin 2048) (d : Fin 1024)

theorem proj_at (k : Fin 5840) : val_main_v0 (F := Ideal) x0 x3 (ix3 s p k) = ∑ j : Fin 1024, x0 (ix3 s p j) * x3 (ix2 j k) := by
  rw [val_main_v0_apply]
  exact Finset.sum_congr rfl fun j _ => congrArg₂ (fun a b => x0 a * x3 b) (eq_ix3 _) (eq_ix2 _)

theorem og_at : val_main_v5 (F := Ideal) x0 x3 (ix3 s p d) = ∑ j : Fin 1024, x0 (ix3 s p j) * x3 (ix2 j ⟨2064 + d, by omega⟩) := by
  rw [val_main_v5_apply, ← proj_at x0 x3 s p]
  exact congrArg _ (eq_ix3 _)

theorem wa_at : val_main_v9 (F := Ideal) x0 x3 (ix3 s p d) = ∑ j : Fin 1024, x0 (ix3 s p j) * x3 (ix2 j ⟨3792 + d, by omega⟩) := by
  rw [val_main_v9_apply, ← proj_at x0 x3 s p]
  exact congrArg _ (eq_ix3 _)

theorem wb_at : val_main_v10 (F := Ideal) x0 x3 (ix3 s p d) = ∑ j : Fin 1024, x0 (ix3 s p j) * x3 (ix2 j ⟨4816 + d, by omega⟩) := by
  rw [val_main_v10_apply, ← proj_at x0 x3 s p]
  exact congrArg _ (eq_ix3 _)

theorem gated_at : val_main_v12 (F := Ideal) x0 x1 x3 (ix3 s p d)
    = x1 (ix3 s p d) * silu (∑ j : Fin 1024, x0 (ix3 s p j) * x3 (ix2 j ⟨2064 + d, by omega⟩)) := by
  rw [← og_at]; rfl

theorem gla_at : val_main_v13 (F := Ideal) x0 x1 x3 x4 (ix3 s p d)
    = ∑ k : Fin 1024, x1 (ix3 s p k) * silu (∑ j : Fin 1024, x0 (ix3 s p j) * x3 (ix2 j ⟨2064 + k, by omega⟩)) * x4 (ix2 k d) := by
  rw [val_main_v13_apply]
  refine Finset.sum_congr rfl fun k _ => ?_
  rw [← gated_at]
  exact congrArg₂ (fun a b => val_main_v12 (F := Ideal) x0 x1 x3 a * x4 b) (eq_ix3 _) (eq_ix2 _)

theorem mla_at : val_main_v14 (F := Ideal) x2 x5 (ix3 s p d) = ∑ k : Fin 1024, x2 (ix3 s p k) * x5 (ix2 k d) := by
  rw [val_main_v14_apply]
  exact Finset.sum_congr rfl fun j _ => congrArg₂ (fun a b => x2 a * x5 b) (eq_ix3 _) (eq_ix2 _)

theorem ga_at : val_main_v20 (F := Ideal) x0 x3 (ix3 s p d) = gate (∑ j : Fin 1024, x0 (ix3 s p j) * x3 (ix2 j ⟨3792 + d, by omega⟩)) := by
  rw [← wa_at]; rfl

theorem gb_at : val_main_v27 (F := Ideal) x0 x3 (ix3 s p d) = gate (∑ j : Fin 1024, x0 (ix3 s p j) * x3 (ix2 j ⟨4816 + d, by omega⟩)) := by
  rw [← wb_at]; rfl

/-- The mixed row of one position. -/
abbrev mixed : Fin 1024 → EReal :=
  mixRow (fun k => x0 (ix3 s p k)) (fun k => x1 (ix3 s p k)) (fun k => x2 (ix3 s p k))
    (fun j k => x3 (ix2 j ⟨2064 + k, by omega⟩)) (fun j k => x3 (ix2 j ⟨3792 + k, by omega⟩)) (fun j k => x3 (ix2 j ⟨4816 + k, by omega⟩))
    (fun j k => x4 (ix2 j k)) (fun j k => x5 (ix2 j k)) (fun j k => x6 (ix2 j k))

theorem mixed_at : val_main_v30 (F := Ideal) x0 x1 x2 x3 x4 x5 x6 (ix3 s p d) = mixed x0 x1 x2 x3 x4 x5 x6 s p d := by
  rw [val_main_v30_apply]
  refine Finset.sum_congr rfl fun k _ => ?_
  rw [show lidx_main_v30 (ix3 s p d) k = ix3 s p k from eq_ix3 _, show ridx_main_v30 (ix3 s p d) k = ix2 k d from eq_ix2 _,
    val_main_v29_apply, val_main_v21_apply, val_main_v28_apply, ga_at, gb_at, gla_at, mla_at]
  rfl

/-- The row before its normalisation. -/
abbrev blended : Fin 1024 → EReal := blend (fun k => x0 (ix3 s p k)) (mixed x0 x1 x2 x3 x4 x5 x6 s p)

theorem blended_at : val_main_v33 (F := Ideal) x0 x1 x2 x3 x4 x5 x6 (ix3 s p d) = blended x0 x1 x2 x3 x4 x5 x6 s p d := by
  rw [val_main_v33_apply, mixed_at, val_main_v32_apply, val_main_v31_apply]
  rfl

theorem mean_at (z : Fin 1) : val_main_v37 (F := Ideal) x0 x1 x2 x3 x4 x5 x6 (ix3 s p z) = mean (blended x0 x1 x2 x3 x4 x5 x6 s p) := by
  rw [val_main_v37_apply, val_main_v35_apply, val_main_v34_apply, show val_main_cst_4 (F := Ideal) _ = (0 : EReal) from Ideal.ofBits_zero_f32, zero_add]
  refine congrArg (fun u => Ideal.div u (Ideal.ofBits .f32 0x44800000#32)) (Finset.sum_congr rfl fun k _ => ?_)
  rw [← blended_at]
  exact congrArg _ (eq_ix3 _)

theorem centred_at : val_main_v39 (F := Ideal) x0 x1 x2 x3 x4 x5 x6 (ix3 s p d)
    = blended x0 x1 x2 x3 x4 x5 x6 s p d - mean (blended x0 x1 x2 x3 x4 x5 x6 s p) := by
  rw [val_main_v39_apply, blended_at, val_main_v38_apply, ← mean_at x0 x1 x2 x3 x4 x5 x6 s p 0]
  exact congrArg (fun j => blended x0 x1 x2 x3 x4 x5 x6 s p d - val_main_v37 (F := Ideal) x0 x1 x2 x3 x4 x5 x6 j) (eq_ix3 _)

theorem factor_at (z : Fin 1) : val_main_v47 (F := Ideal) x0 x1 x2 x3 x4 x5 x6 (ix3 s p z)
    = Ideal.rsqrt (mean (fun k => (blended x0 x1 x2 x3 x4 x5 x6 s p k - mean (blended x0 x1 x2 x3 x4 x5 x6 s p))
        * (blended x0 x1 x2 x3 x4 x5 x6 s p k - mean (blended x0 x1 x2 x3 x4 x5 x6 s p))) + Ideal.ofBits .f32 0x3727C5AC#32) := by
  rw [val_main_v47_apply, val_main_v46_apply, val_main_v44_apply, val_main_v42_apply, val_main_v41_apply,
    show val_main_cst_6 (F := Ideal) _ = (0 : EReal) from Ideal.ofBits_zero_f32, zero_add]
  refine congrArg (fun u => Ideal.rsqrt (Ideal.div u (Ideal.ofBits .f32 0x44800000#32) + Ideal.ofBits .f32 0x3727C5AC#32))
    (Finset.sum_congr rfl fun k _ => ?_)
  rw [show idx_main_v41 _ k = ix3 s p k from eq_ix3 _, val_main_v40_apply, centred_at]
  rfl

theorem result_at : val_main_v55 (F := Ideal) x0 x1 x2 x3 x4 x5 x6 x7 x8 (ix3 s p d) = result x0 x1 x2 x3 x4 x5 x6 x7 x8 s p d := by
  rw [val_main_v55_apply, val_main_v52_apply, val_main_v49_apply, centred_at, val_main_v48_apply,
    show idx_main_v48 (ix3 s p d) = ix3 s p (0 : Fin 1) from eq_ix3 _, factor_at, val_main_v51_apply, val_main_v50_apply,
    val_main_v54_apply, val_main_v53_apply, show idx_main_v50 _ = ix1 d from eq_ix1 _, show idx_main_v53 _ = ix1 d from eq_ix1 _]
  rfl

/-- The reference's result is the same array. -/
theorem result_eq : val_main_v56 (F := Ideal) x0 x1 x2 x3 x4 x5 x6 x7 x8 = resultArr x0 x1 x2 x3 x4 x5 x6 x7 x8 := by
  funext i
  have h0 : (i 0).val < 65536 := (i 0).isLt
  have h1 : (i 1).val < 1024 := (i 1).isLt
  rw [val_main_v56_apply, show idx_main_v56 i = ix3 (⟨(i 0).val / 2048, by omega⟩ : Fin 32) (⟨(i 0).val % 2048, by omega⟩ : Fin 2048) (⟨(i 1).val, h1⟩ : Fin 1024) from ?_, result_at]
  · rfl
  · refine (eq_ix3 _).trans ?_
    congr 1 <;> apply Fin.ext
    · show ((i 0).val * 1024 + (i 1).val) / 2097152 = (i 0).val / 2048; omega
    · show ((i 0).val * 1024 + (i 1).val) / 1024 % 2048 = (i 0).val % 2048; omega
    · show ((i 0).val * 1024 + (i 1).val) % 1024 = (i 1).val; omega

end Cert.MergeRefIdeal.Rows
-- ==== Proof.MergeClaim.lean ====
/-
  The merge's claims: its programs' frames, and that the tiled kernel and the reference compute the same array.
-/
module

public import proofs.«01_k».proof.Defs
public import proofs.«01_k».proof.Proof.Gen.Merge.Frame
public import proofs.«01_k».proof.Proof.MergeValue
public import proofs.«01_k».proof.Proof.MergeRef

@[expose] public section

noncomputable section

namespace Cert.MergeClaim

open Idealize.ShloMosaic Idealize.SL.Sem

/-- The reference's run, with its counters: the program declares no semaphore. -/
theorem frame_ref : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run m ρ)

/-- Over the extended reals the merge kernel and its reference leave the same array, for any arguments. -/
theorem equal : Cert.algebraic_MergeIdeal_MergeRefIdeal (hMergeIdeal := Cert.MergeIdeal.Gen.facts)
    (hMergeRefIdeal := Cert.MergeRefIdeal.Gen.facts) := by
  intro m g m' g' _ hargs
  refine ⟨fun c => (Cert.MergeIdeal.Gen.dats m 0 c).arrAt 9 Cert.MergeIdeal.cfg0.N, Cert.MergeIdeal.Value.run_blocks m g, ?_⟩
  refine (θ_run Cert.MergeRefIdeal.defs _ _).mono (fun r h c => ⟨(h c).1.trans ?_, (h c).2⟩) (Cert.MergeRefIdeal.Value.run m' g')
  obtain ⟨h0, h1, h2, h3, h4, h5, h6, h7, h8⟩ := hargs c
  refine ((Cert.MergeRefIdeal.Read.val_main_v56_eq m' c).trans
    (Cert.MergeRefIdeal.Rows.result_eq _ _ _ _ _ _ _ _ _)).trans ?_
  rw [h0, h1, h2, h3, h4, h5, h6, h7, h8]
  exact (Cert.MergeIdeal.Tile.final m c).symm

end Cert.MergeClaim
-- ==== Proof.ProjTile.lean ====
/-
  The projection kernel's stored tiles of queries, keys, values and decays, read at an index.
-/
module

public import proofs.«01_k».proof.Proof.Gen.ProjIdeal.Value
public import proofs.«01_k».proof.Proof.Row
public import Idealize.ShloMosaic.Lib.IdealHost

@[expose] public section

noncomputable section

namespace Cert.ProjIdeal.Tile

open Cert.ProjIdeal Cert.ProjIdeal.Gen Cert.Row Idealize.ShloMosaic Idealize.ShloMosaic.ValueIdx
open scoped BigOperators

/-- The query's factor. -/
abbrev queryFactor : EReal := Named.named (F := Ideal) (φ := .f32) κ "root" 0x3DB504F3#32

/-- The logarithm the decay's log-sigmoid subtracts. -/
def tail (l : EReal) : EReal := Ideal.log (one + Ideal.exp (-(max l (-l))))
/-- A sixteenth of the logarithm of the logistic function. -/
def decay (l : EReal) : EReal := Ideal.div (min l 0 - tail l) (Ideal.ofBits .f32 0x41800000#32)

abbrev X := FVec Ideal S256x1024 .bf16

theorem q_at (x : X) (w : FVec Ideal S1024x512 .bf16) (r : Fin 256) (c : Fin 512) :
    k0_pay9 (F := Ideal) x w (ix2 r c) = (∑ k, x (ix2 r k) * w (ix2 k c)) * queryFactor := by
  unfold k0_pay9
  rw [shapeCast_self]
  exact congrArg (· * queryFactor) (rows_times none x w r c)

theorem k_at (x : X) (w : FVec Ideal S1024x512 .bf16) (r : Fin 256) (c : Fin 512) :
    k0_pay10 (F := Ideal) x w (ix2 r c) = ∑ k, x (ix2 r k) * w (ix2 k c) := by
  unfold k0_pay10
  rw [shapeCast_self]
  exact rows_times none x w r c

theorem v_at (x : X) (w : FVec Ideal S1024x1024 .bf16) (r : Fin 256) (c : Fin 1024) :
    k0_pay11 (F := Ideal) x w (ix2 r c) = ∑ k, x (ix2 r k) * w (ix2 k c) := by
  unfold k0_pay11
  rw [shapeCast_self]
  exact rows_times none x w r c

theorem v'_at (x : X) (w : FVec Ideal S1024x1024 .bf16) (r : Fin 256) (c : Fin 1024) :
    k0_pay12 (F := Ideal) x w (ix2 r c) = ∑ k, x (ix2 r k) * w (ix2 k c) := v_at x w r c

theorem x_in (x : FVec Ideal S256x1024 .f32) : k0_pay4 (F := Ideal) x = x := shapeCast_self _ _

/-- A head's values cut out of all the values and turned, read at an index. -/
theorem head_at (o : Nat) (v : FVec Ideal S256x1024 .f32) (hs : S256x1024.Slices ![0, o] S256x256) (r d : Fin 256) (c : Fin 1024)
    (hc : c.val = o + d) :
    shapeCast S1x1x256x256 (truncf .bf16 (transpose S256x256 [1, 0] (extractStridedSlice S256x256 ![0, o] v hs)
      transposes_S256x256_p1_0_S256x256) bitsLt_bf16_f32 : FVec Ideal S256x256 .bf16) shapeCasts_S256x256_S1x1x256x256 (ix4 0 0 d r) = v (ix2 r c) := by
  refine (shapeCast_apply _ _ _ (ix2 d r) ?_).trans ?_
  · simp only [Shape.rowMajor_val_four, Shape.rowMajor_val_two]
    show (d : ℕ) * 256 + r = ((0 * 1 + 0) * 256 + d) * 256 + r
    omega
  · refine (show _ = transpose S256x256 [1, 0] (extractStridedSlice S256x256 ![0, o] v hs) transposes_S256x256_p1_0_S256x256 (ix2 d r) from rfl).trans ((transpose_apply _ _ _ _ (ix2 r d) ?_).trans ?_)
    · intro b; match b with | ⟨0, _⟩ => rfl | ⟨1, _⟩ => rfl
    · exact extractStridedSlice_apply _ _ _ _ _ (by intro a; match a with | ⟨0, _⟩ => exact (Nat.zero_add _).symm | ⟨1, _⟩ => exact hc)

variable (x : X) (w : FVec Ideal S1024x1024 .bf16) (r d : Fin 256)

theorem h0_at : k0_pay13 (F := Ideal) x w (ix4 0 0 d r) = ∑ k, x (ix2 r k) * w (ix2 k ⟨d, by omega⟩) :=
  (head_at 0 _ _ r d _ (Nat.zero_add _).symm).trans (v_at x w r _)

theorem h1_at : k0_pay14 (F := Ideal) x w (ix4 0 0 d r) = ∑ k, x (ix2 r k) * w (ix2 k ⟨256 + d, by omega⟩) :=
  (head_at 256 _ _ r d _ rfl).trans (v_at x w r _)

theorem h2_at : k0_pay16 (F := Ideal) (k0_pay15 x w) (ix4 0 0 d r) = ∑ k, x (ix2 r k) * w (ix2 k ⟨512 + d, by omega⟩) :=
  (head_at 512 _ _ r d _ rfl).trans (v_at x w r _)

theorem h3_at : k0_pay17 (F := Ideal) (k0_pay11 x w) (ix4 0 0 d r) = ∑ k, x (ix2 r k) * w (ix2 k ⟨768 + d, by omega⟩) :=
  (head_at 768 _ _ r d _ rfl).trans (v_at x w r _)

/-- The columns that hold the gate's input, read at an index. -/
theorem gate_in (y : FVec Ideal S256x1024 .f32) (u : FVec Ideal S1024x512 .bf16) (k : Fin 128) :
    k0_pay6 (F := Ideal) y u (ix2 r k) = ∑ j, y (ix2 r j) * u (ix2 j ⟨384 + k, by omega⟩) := by
  unfold k0_pay6 k0_pay5
  rw [shapeCast_self, x_in]
  refine (extractStridedSlice_apply _ _ _ _ (ix2 r (⟨384 + k, by omega⟩ : Fin 512)) (by intro a; match a with | ⟨0, _⟩ => exact (Nat.zero_add _).symm | ⟨1, _⟩ => rfl)).trans ?_
  exact rows_times none y u r _

theorem decay_at (y : FVec Ideal S256x128 .f32) (u : FVec Ideal S128x512 .bf16) (b : FVec Ideal S1x512 .f32) (c : Fin 512) :
    k0_pay18 (F := Ideal) y u b (ix2 r c) = decay ((∑ k, y (ix2 r k) * u (ix2 k c)) + b (ix2 0 c)) := by
  have hl : addf (matmul dot_S256x128_S128x512_S256x512_1_0_0_1_n_n none (truncf .bf16 y bitsLt_bf16_f32 : FVec Ideal S256x128 .bf16) u (constant S256x512 .f32 0x00000000#32))
      (broadcastTo S256x512 b broadcasts_S1x512_S256x512) (ix2 r c) = (∑ k, y (ix2 r k) * u (ix2 k c)) + b (ix2 0 c) :=
    congrArg₂ (· + ·) (rows_times none _ u r c) (spread_row b _ r c)
  unfold k0_pay18
  simp only [shapeCast_self]
  rw [← hl, decay, tail, ← Ideal.ofBits_zero_f32, ← zero_minus]
  rfl

/-- The log of one plus an exponential is no less than nought. -/
theorem tail_ne (l : EReal) : tail l ≠ ⊥ := by
  have h1 : (0 : EReal) < one + Ideal.exp (-(max l (-l))) := by
    rw [one, Ideal.ofBits_one_f32]
    refine lt_of_lt_of_le zero_lt_one (le_add_of_nonneg_right ?_)
    induction (-(max l (-l))) with
    | bot => exact le_rfl
    | top => exact le_top
    | coe a => exact EReal.coe_nonneg.2 (Real.exp_pos a).le
  rw [tail]
  revert h1
  generalize one + Ideal.exp (-(max l (-l))) = z
  induction z with
  | bot => intro h; exact absurd h (not_lt.2 bot_le)
  | top => intro _; exact EReal.coe_ne_bot 0 |> fun _ => top_ne_bot
  | coe a =>
    intro h
    have ha : 0 < a := EReal.coe_pos.1 h
    rw [show Ideal.log (a : EReal) = ((Real.log a : ℝ) : EReal) from if_neg (by linarith)]
    exact EReal.coe_ne_bot _

/-- The log-sigmoid as minus a softplus. -/
theorem softplus (l : EReal) : -(max (-l) 0 + tail l) = min l 0 - tail l := by
  have hm : -(max (-l) 0) = min l 0 := by
    rcases le_total l 0 with h | h
    · rw [max_eq_left (by rwa [EReal.le_neg, neg_zero]), neg_neg, min_eq_left h]
    · rw [max_eq_right (by rwa [EReal.neg_le, neg_zero]), neg_zero, min_eq_right h]
  rw [EReal.neg_add (Or.inl (ne_of_gt (lt_of_lt_of_le EReal.bot_lt_zero (le_max_right _ _)))) (Or.inr (tail_ne l)), hm]

end Cert.ProjIdeal.Tile

end
-- ==== Proof.ProjRef.lean ====
/-
  The projection's reference read at an index, and the arrays both programs leave.
-/
module

public import proofs.«01_k».proof.Proof.Gen.ProjRefIdeal.Read
public import proofs.«01_k».proof.Proof.ProjTile

@[expose] public section

noncomputable section

namespace Cert.ProjRefIdeal.Rows

open Cert.ProjRefIdeal Cert.ProjRefIdeal.Gen Cert.ProjRefIdeal.Read Cert.Row Idealize.ShloMosaic Idealize.ShloMosaic.ValueIdx
open Cert.ProjIdeal.Tile (queryFactor tail decay softplus)
open scoped BigOperators

variable (x0 : FVec Ideal S32x2048x1024 .f32) (x2 : FVec Ideal S1024x5840 .f32) (x3 : FVec Ideal S16x512 .f32) (x4 : FVec Ideal S512 .f32)

/-- One entry of the projection of a position. -/
def proj (s : Fin 32) (p : Fin 2048) (c : Fin 5840) : EReal := ∑ k : Fin 1024, x0 (ix3 s p k) * x2 (ix2 k c)

/-- The decay of a position on one channel. -/
def decayed (s : Fin 32) (p : Fin 2048) (c : Fin 512) : EReal :=
  decay ((∑ k : Fin 16, proj x0 x2 s p ⟨2048 + k, by omega⟩ * x3 (ix2 k c)) + x4 (ix1 c))

/-- The sequence of a row of all the positions. -/
abbrev seqOf {N : Nat} (i : (⟨2, ![65536, N]⟩ : Shape).Idx) : Fin 32 := ⟨(i 0).val / 2048, by have h : (i 0).val < 65536 := (i 0).isLt; omega⟩
/-- The position of a row of all the positions in its sequence. -/
abbrev posOf {N : Nat} (i : (⟨2, ![65536, N]⟩ : Shape).Idx) : Fin 2048 := ⟨(i 0).val % 2048, Nat.mod_lt _ (by decide)⟩

def qArr : FVec Ideal S65536x512 .bf16 := fun i =>
  proj x0 x2 (seqOf i) (posOf i) ⟨(i 1).val, by have h : (i 1).val < 512 := (i 1).isLt; omega⟩ * queryFactor
def kArr : FVec Ideal S65536x512 .bf16 := fun i =>
  proj x0 x2 (seqOf i) (posOf i) ⟨512 + (i 1).val, by have h : (i 1).val < 512 := (i 1).isLt; omega⟩
def vArr : FVec Ideal S65536x1024 .bf16 := fun i =>
  proj x0 x2 (seqOf i) (posOf i) ⟨1024 + (i 1).val, by have h : (i 1).val < 1024 := (i 1).isLt; omega⟩
def vtArr : FVec Ideal S32x4x256x2048 .bf16 := fun i =>
  proj x0 x2 (i 0) (i 3) ⟨1024 + ((i 1).val * 256 + (i 2).val),
    by have h : (i 1).val < 4 := (i 1).isLt; have h' : (i 2).val < 256 := (i 2).isLt; omega⟩
def decayArr : FVec Ideal S65536x512 .f32 := fun i => decayed x0 x2 x3 x4 (seqOf i) (posOf i) (i 1)

theorem bits_128 : Ideal.ofBits .f32 0x43000000#32 = ((128 : ℝ) : EReal) := by
  simp [Ideal.ofBits, Ideal.ieee, -EReal.coe_mul]; norm_num

theorem root : Ideal.sqrt (Ideal.ofBits .f32 0x43000000#32) = ((Real.sqrt 128 : ℝ) : EReal) := by
  rw [bits_128]; exact if_neg (by norm_num)

theorem queryFactor_eq : queryFactor = (((Real.sqrt 128)⁻¹ : ℝ) : EReal) := rfl

/-- Dividing by the root is multiplying by the named factor. -/
theorem div_root (u : EReal) : Ideal.div u (Ideal.sqrt (Ideal.ofBits .f32 0x43000000#32)) = u * queryFactor := by
  have h : Real.sqrt 128 ≠ 0 := (Real.sqrt_pos.2 (by norm_num)).ne'
  rw [root, Ideal.div, if_neg (by exact_mod_cast h), queryFactor_eq, EReal.coe_inv]

variable (s : Fin 32) (p : Fin 2048)

theorem proj_at (c : Fin 5840) : val_main_v0 (F := Ideal) x0 x2 (ix3 s p c) = proj x0 x2 s p c := by
  rw [val_main_v0_apply]
  exact Finset.sum_congr rfl fun j _ => congrArg₂ (fun a b => x0 a * x2 b) (eq_ix3 _) (eq_ix2 _)

theorem q_at (c : Fin 512) : val_main_v22 (F := Ideal) x0 x2 (ix3 s p c) = proj x0 x2 s p ⟨c, by omega⟩ * queryFactor := by
  rw [← proj_at, ← div_root, val_main_v22_apply, val_main_v1_apply]
  exact congrArg (fun a => Ideal.div (val_main_v0 (F := Ideal) x0 x2 a) _) (eq_ix3 _)

theorem k_at (c : Fin 512) : val_main_v2 (F := Ideal) x0 x2 (ix3 s p c) = proj x0 x2 s p ⟨512 + c, by omega⟩ := by
  rw [← proj_at, val_main_v2_apply]
  exact congrArg (val_main_v0 (F := Ideal) x0 x2) (eq_ix3 _)

theorem v_at (c : Fin 1024) : val_main_v3 (F := Ideal) x0 x2 (ix3 s p c) = proj x0 x2 s p ⟨1024 + c, by omega⟩ := by
  rw [← proj_at, val_main_v3_apply]
  exact congrArg (val_main_v0 (F := Ideal) x0 x2) (eq_ix3 _)

theorem r_at (c : Fin 16) : val_main_v4 (F := Ideal) x0 x2 (ix3 s p c) = proj x0 x2 s p ⟨2048 + c, by omega⟩ := by
  rw [← proj_at, val_main_v4_apply]
  exact congrArg (val_main_v0 (F := Ideal) x0 x2) (eq_ix3 _)

theorem logit_at (c : Fin 512) : val_main_v14 (F := Ideal) x0 x2 x3 x4 (ix3 s p c)
    = (∑ k : Fin 16, proj x0 x2 s p ⟨2048 + k, by omega⟩ * x3 (ix2 k c)) + x4 (ix1 c) := by
  rw [val_main_v14_apply, val_main_v11_apply, val_main_v13_apply, val_main_v12_apply]
  refine congrArg₂ (· + ·) (Finset.sum_congr rfl fun k _ => ?_) (congrArg x4 (eq_ix1 _))
  rw [← r_at]
  exact congrArg₂ (fun a b => val_main_v4 (F := Ideal) x0 x2 a * x3 b) (eq_ix3 _) (eq_ix2 _)

/-- The logarithm of the logistic function, as the reference writes it. -/
theorem log_sigmoid (i : S32x2048x512.Idx) : val_main_v15 (F := Ideal) x0 x2 x3 x4 i
    = min (val_main_v14 (F := Ideal) x0 x2 x3 x4 i) 0 - tail (val_main_v14 (F := Ideal) x0 x2 x3 x4 i) := by
  have hz : val_main_call0_call0_v0 (F := Ideal) i = (0 : EReal) := Ideal.ofBits_zero_f32
  have hz' : val_main_call0_call0_v2 (F := Ideal) i = (0 : EReal) := Ideal.ofBits_zero_f32
  rw [val_main_v15_apply, val_main_call0_v1_apply, val_main_call0_call0_v4_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_v0_apply, hz, hz', ← softplus]
  generalize val_main_v14 (F := Ideal) x0 x2 x3 x4 i = l
  have hs : FloatOps.subf (F := Ideal) (φ := .f32) (-l) (0 : EReal) = -l := sub_zero (-l : EReal)
  have hc (z u w : EReal) : Scalar.select (FloatOps.cmpf (F := Ideal) (φ := .f32) .une z z) u w = w := by
    simp [Scalar.select, Ideal.cmp, Ideal.cmpf_def]
  refine congrArg Neg.neg ((hc _ _ _).trans ?_)
  refine congrArg (fun z : EReal => max (-l) 0 + z) ?_
  show Ideal.log (1 + Ideal.exp (-(max (-l - 0) (-(-l - 0))))) = _
  rw [tail, one, Ideal.ofBits_one_f32, sub_zero, neg_neg, max_comm]

theorem decay_at (c : Fin 512) : val_main_v17 (F := Ideal) x0 x2 x3 x4 (ix3 s p c) = decayed x0 x2 x3 x4 s p c := by
  rw [val_main_v17_apply, log_sigmoid, logit_at]
  rfl

theorem q_eq : val_main_v24 (F := Ideal) x0 x2 = qArr x0 x2 := by
  funext i
  have h0 : (i 0).val < 65536 := (i 0).isLt
  have h1 : (i 1).val < 512 := (i 1).isLt
  refine (val_main_v23_apply (F := Ideal) x0 x2 i).trans ?_
  rw [show idx_main_v23 i = ix3 (seqOf i) (posOf i) (⟨(i 1).val, h1⟩ : Fin 512) from ?_, q_at]
  · rfl
  · refine (eq_ix3 _).trans ?_
    congr 1 <;> apply Fin.ext
    · show ((i 0).val * 512 + (i 1).val) / 1048576 = (i 0).val / 2048; omega
    · show ((i 0).val * 512 + (i 1).val) / 512 % 2048 = (i 0).val % 2048; omega
    · show ((i 0).val * 512 + (i 1).val) % 512 = (i 1).val; omega

theorem k_eq : val_main_v26 (F := Ideal) x0 x2 = kArr x0 x2 := by
  funext i
  have h0 : (i 0).val < 65536 := (i 0).isLt
  have h1 : (i 1).val < 512 := (i 1).isLt
  refine (val_main_v25_apply (F := Ideal) x0 x2 i).trans ?_
  rw [show idx_main_v25 i = ix3 (seqOf i) (posOf i) (⟨(i 1).val, h1⟩ : Fin 512) from ?_, k_at]
  · rfl
  · refine (eq_ix3 _).trans ?_
    congr 1 <;> apply Fin.ext
    · show ((i 0).val * 512 + (i 1).val) / 1048576 = (i 0).val / 2048; omega
    · show ((i 0).val * 512 + (i 1).val) / 512 % 2048 = (i 0).val % 2048; omega
    · show ((i 0).val * 512 + (i 1).val) % 512 = (i 1).val; omega

theorem v_eq : val_main_v28 (F := Ideal) x0 x2 = vArr x0 x2 := by
  funext i
  have h0 : (i 0).val < 65536 := (i 0).isLt
  have h1 : (i 1).val < 1024 := (i 1).isLt
  refine (val_main_v27_apply (F := Ideal) x0 x2 i).trans ?_
  rw [show idx_main_v27 i = ix3 (seqOf i) (posOf i) (⟨(i 1).val, h1⟩ : Fin 1024) from ?_, v_at]
  · rfl
  · refine (eq_ix3 _).trans ?_
    congr 1 <;> apply Fin.ext
    · show ((i 0).val * 1024 + (i 1).val) / 2097152 = (i 0).val / 2048; omega
    · show ((i 0).val * 1024 + (i 1).val) / 1024 % 2048 = (i 0).val % 2048; omega
    · show ((i 0).val * 1024 + (i 1).val) % 1024 = (i 1).val; omega

theorem decay_eq : val_main_v30 (F := Ideal) x0 x2 x3 x4 = decayArr x0 x2 x3 x4 := by
  funext i
  have h0 : (i 0).val < 65536 := (i 0).isLt
  have h1 : (i 1).val < 512 := (i 1).isLt
  refine (val_main_v30_apply (F := Ideal) x0 x2 x3 x4 i).trans ?_
  rw [show idx_main_v30 i = ix3 (seqOf i) (posOf i) (⟨(i 1).val, h1⟩ : Fin 512) from ?_, decay_at]
  · rfl
  · refine (eq_ix3 _).trans ?_
    congr 1 <;> apply Fin.ext
    · show ((i 0).val * 512 + (i 1).val) / 1048576 = (i 0).val / 2048; omega
    · show ((i 0).val * 512 + (i 1).val) / 512 % 2048 = (i 0).val % 2048; omega
    · show ((i 0).val * 512 + (i 1).val) % 512 = (i 1).val; omega

theorem vt_eq : val_main_v29 (F := Ideal) x0 x2 = vtArr x0 x2 := by
  funext i
  have h0 : (i 0).val < 32 := (i 0).isLt
  have h1 : (i 1).val < 4 := (i 1).isLt
  have h2 : (i 2).val < 256 := (i 2).isLt
  have h3 : (i 3).val < 2048 := (i 3).isLt
  refine (val_main_v19_apply (F := Ideal) x0 x2 i).trans ((val_main_v18_apply (F := Ideal) x0 x2 _).trans ?_)
  rw [show idx_main_v18 (idx_main_v19 i) = ix3 (⟨(i 0).val, h0⟩ : Fin 32) (⟨(i 3).val, h3⟩ : Fin 2048) (⟨(i 1).val * 256 + (i 2).val, by omega⟩ : Fin 1024) from ?_, v_at]
  · rfl
  · refine (eq_ix3 _).trans ?_
    congr 1 <;> apply Fin.ext
    · show ((((i 0).val * 2048 + (i 3).val) * 4 + (i 1).val) * 256 + (i 2).val) / 2097152 = (i 0).val; omega
    · show ((((i 0).val * 2048 + (i 3).val) * 4 + (i 1).val) * 256 + (i 2).val) / 1024 % 2048 = (i 3).val; omega
    · show ((((i 0).val * 2048 + (i 3).val) * 4 + (i 1).val) * 256 + (i 2).val) % 1024 = (i 1).val * 256 + (i 2).val; omega

end Cert.ProjRefIdeal.Rows

end
-- ==== Proof.ProjLatentRef.lean ====
/-
  The latent attention's values in the projection's reference, read at an index.
-/
module

public import proofs.«01_k».proof.Proof.ProjRef

@[expose] public section

noncomputable section

namespace Cert.ProjRefIdeal.Rows

open Cert.ProjRefIdeal Cert.ProjRefIdeal.Gen Cert.ProjRefIdeal.Read Cert.Row Idealize.ShloMosaic Idealize.ShloMosaic.ValueIdx
open scoped BigOperators

/-- A row of 256 over the root of its mean square, scaled. -/
def rms (y g : Fin 256 → EReal) (d : Fin 256) : EReal :=
  y d * Ideal.rsqrt (Ideal.div (∑ k, y k * y k) (Ideal.ofBits .f32 0x43800000#32) + Ideal.ofBits .f32 0x358637BD#32) * g d

variable (x0 : FVec Ideal S32x2048x1024 .f32) (x2 : FVec Ideal S1024x5840 .f32) (x7 : FVec Ideal S256 .f32) (x8 : FVec Ideal S256x2048 .f32)
  (s : Fin 32) (p : Fin 2048)

/-- The normalised latent of a position times the weights that expand it. -/
def expanded (c : Fin 2048) : EReal :=
  ∑ k : Fin 256, rms (fun d => proj x0 x2 s p ⟨3472 + d, by omega⟩) (fun d => x7 (ix1 d)) k * x8 (ix2 k c)

/-- The values in tiles of 512 positions, each turned. -/
def tileArr : FVec Ideal S32x8x4x128x512 .bf16 := fun i =>
  expanded x0 x2 x7 x8 (i 0) ⟨(i 2).val * 512 + (i 4).val, by have h : (i 2).val < 4 := (i 2).isLt; have h' : (i 4).val < 512 := (i 4).isLt; omega⟩
    ⟨(i 1).val * 256 + (128 + (i 3).val), by have h : (i 1).val < 8 := (i 1).isLt; have h' : (i 3).val < 128 := (i 3).isLt; omega⟩

theorem latent_in (d : Fin 256) : val_main_v7 (F := Ideal) x0 x2 (ix3 s p d) = proj x0 x2 s p ⟨3472 + d, by omega⟩ := by
  rw [← proj_at, val_main_v7_apply]
  exact congrArg (val_main_v0 (F := Ideal) x0 x2) (eq_ix3 _)

theorem square_at : val_main_v32 (F := Ideal) x0 x2 (ix2 s p)
    = ∑ k : Fin 256, proj x0 x2 s p ⟨3472 + k, by omega⟩ * proj x0 x2 s p ⟨3472 + k, by omega⟩ := by
  rw [val_main_v32_apply]
  refine (congrArg (· + _) (show val_main_cst_1 (F := Ideal) (Shape.Idx.first h_S_) = (0 : EReal) from Ideal.ofBits_zero_f32)).trans ((zero_add _).trans ?_)
  refine Finset.sum_congr rfl fun k _ => ?_
  rw [val_main_v31_apply, show idx_main_v32 (ix2 s p) k = ix3 s p k from eq_ix3 _, latent_in]
  rfl

theorem latent_at (d : Fin 256) : val_main_v43 (F := Ideal) x0 x2 x7 (ix3 s p d)
    = rms (fun d => proj x0 x2 s p ⟨3472 + d, by omega⟩) (fun d => x7 (ix1 d)) d := by
  rw [val_main_v43_apply, val_main_v40_apply, latent_in, val_main_v39_apply, val_main_v38_apply, val_main_v37_apply, val_main_v35_apply,
    val_main_v33_apply, val_main_v42_apply, val_main_v41_apply,
    show idx_main_v33 (idx_main_v39 (ix3 s p d)) = ix2 s p from eq_ix2 _, square_at,
    show idx_main_v41 (idx_main_v42 (ix3 s p d)) = ix1 d from eq_ix1 _, val_main_v34_apply, val_main_v36_apply]
  rfl

theorem expanded_at (c : Fin 2048) : val_main_v44 (F := Ideal) x0 x2 x7 x8 (ix3 s p c) = expanded x0 x2 x7 x8 s p c := by
  rw [val_main_v44_apply]
  refine Finset.sum_congr rfl fun k _ => ?_
  rw [show lidx_main_v44 (ix3 s p c) k = ix3 s p k from eq_ix3 _, latent_at]
  exact congrArg (fun i => _ * x8 i) (eq_ix2 _)

theorem tile_eq : val_main_v49 (F := Ideal) x0 x2 x7 x8 = tileArr x0 x2 x7 x8 := by
  funext i
  have h0 : (i 0).val < 32 := (i 0).isLt
  have h1 : (i 1).val < 8 := (i 1).isLt
  have h2 : (i 2).val < 4 := (i 2).isLt
  have h3 : (i 3).val < 128 := (i 3).isLt
  have h4 : (i 4).val < 512 := (i 4).isLt
  refine (val_main_v48_apply (F := Ideal) x0 x2 x7 x8 i).trans ((val_main_v47_apply (F := Ideal) x0 x2 x7 x8 _).trans
    ((val_main_v46_apply (F := Ideal) x0 x2 x7 x8 _).trans ((val_main_v45_apply (F := Ideal) x0 x2 x7 x8 _).trans ?_)))
  have e47 : idx_main_v47 (idx_main_v48 i) = ix4 (⟨(i 0).val, h0⟩ : Fin 32) (⟨(i 2).val * 512 + (i 4).val, by omega⟩ : Fin 2048)
      (⟨(i 1).val, h1⟩ : Fin 8) (⟨(i 3).val, h3⟩ : Fin 128) := by
    refine (eq_ix4 _).trans ?_
    congr 1 <;> apply Fin.ext
    · show (((((i 0).val * 4 + (i 2).val) * 512 + (i 4).val) * 8 + (i 1).val) * 128 + (i 3).val) / 2097152 = (i 0).val; omega
    · show (((((i 0).val * 4 + (i 2).val) * 512 + (i 4).val) * 8 + (i 1).val) * 128 + (i 3).val) / 1024 % 2048 = (i 2).val * 512 + (i 4).val; omega
    · show (((((i 0).val * 4 + (i 2).val) * 512 + (i 4).val) * 8 + (i 1).val) * 128 + (i 3).val) / 128 % 8 = (i 1).val; omega
    · show (((((i 0).val * 4 + (i 2).val) * 512 + (i 4).val) * 8 + (i 1).val) * 128 + (i 3).val) % 128 = (i 3).val; omega
  rw [e47]
  generalize hp : (⟨(i 2).val * 512 + (i 4).val, by omega⟩ : Fin 2048) = p
  have e45 : idx_main_v45 (idx_main_v46 (ix4 (⟨(i 0).val, h0⟩ : Fin 32) p (⟨(i 1).val, h1⟩ : Fin 8) (⟨(i 3).val, h3⟩ : Fin 128)))
      = ix3 (⟨(i 0).val, h0⟩ : Fin 32) p (⟨(i 1).val * 256 + (128 + (i 3).val), by omega⟩ : Fin 2048) := by
    refine (eq_ix3 _).trans ?_
    have := p.isLt
    congr 1 <;> apply Fin.ext
    · show ((((i 0).val * 2048 + p.val) * 8 + (i 1).val) * 256 + (128 + (i 3).val)) / 4194304 = (i 0).val; omega
    · show ((((i 0).val * 2048 + p.val) * 8 + (i 1).val) * 256 + (128 + (i 3).val)) / 2048 % 2048 = p.val; omega
    · show ((((i 0).val * 2048 + p.val) * 8 + (i 1).val) * 256 + (128 + (i 3).val)) % 2048 = (i 1).val * 256 + (128 + (i 3).val); omega
  rw [e45, expanded_at, ← hp]
  rfl

end Cert.ProjRefIdeal.Rows

end
-- ==== Proof.ProjBlock.lean ====
/-
  What the projection kernel leaves in its first five results.
-/
module

public import proofs.«01_k».proof.Proof.ProjRef
public import Idealize.ShloMosaic.Lib.Pipeline.ValueKit
public import Idealize.ShloMosaic.Lib.Pointwise
public import Idealize.ShloMosaic.Lib.KernelVsHost

@[expose] public section

noncomputable section

namespace Cert.ProjIdeal.Tile

open Cert.ProjIdeal Cert.ProjIdeal.Gen Cert.Row Idealize.ShloMosaic.ValueIdx Idealize.ShloMosaic.TcCoe
open Idealize.ShloMosaic hiding ix1 ix2 ix3 ix4
open Cert.ProjRefIdeal.Rows (proj decayed qArr kArr vArr vtArr decayArr)
open scoped BigOperators

variable (x0 : FVec Ideal S512x1024 .f32) (x1 : FVec Ideal S512x128 .f32) (x2 : FVec Ideal S1x128 .f32) (x3 : FVec Ideal S1024x2816 .bf16)
  (x4 : FVec Ideal S384x1536 .bf16) (x5 : FVec Ideal S256x2048 .bf16) (x6 : FVec Ideal S128x512 .bf16) (x7 : FVec Ideal S1x512 .f32)
  (x8 : FVec Ideal S1x384 .f32) (x9 : FVec Ideal S1x256 .f32)

/-- One entry of a block of positions times the packed weights. -/
def entry (r : Fin 512) (c : Fin 2816) : EReal := ∑ k : Fin 1024, x0 (ix2 r k) * x3 (ix2 k c)

theorem entry_eq {a b : Fin 1024 → EReal} {r : Fin 512} {c : Fin 2816} (ha : ∀ k, a k = x0 (ix2 r k)) (hb : ∀ k, b k = x3 (ix2 k c)) :
    ∑ k, a k * b k = entry x0 x3 r c :=
  Finset.sum_congr rfl fun k _ => congrArg₂ (fun u v : EReal => u * v) (ha k) (hb k)

theorem top (r : Fin 256) (k : Fin 1024) : View.ld (Val := Elt Ideal) (e' := .f32) x0 r0_0 (ix2 r k) = x0 (ix2 ⟨r, by omega⟩ k) :=
  congrArg x0 (place _ r k _ _ (Nat.zero_add _).symm (Nat.zero_add _).symm)

theorem low (r : Fin 256) (k : Fin 1024) : View.ld (Val := Elt Ideal) (e' := .f32) x0 r0_43 (ix2 r k) = x0 (ix2 ⟨256 + r, by omega⟩ k) :=
  congrArg x0 (place _ r k _ _ rfl (Nat.zero_add _).symm)

theorem wq (j : Fin 1024) (k : Fin 512) : View.ld (Val := Elt Ideal) (e' := .bf16) x3 r0_5 (ix2 j k) = x3 (ix2 j ⟨k, by omega⟩) :=
  congrArg x3 (place _ j k _ _ (Nat.zero_add _).symm (Nat.zero_add _).symm)

theorem wk (j : Fin 1024) (k : Fin 512) : View.ld (Val := Elt Ideal) (e' := .bf16) x3 r0_7 (ix2 j k) = x3 (ix2 j ⟨512 + k, by omega⟩) :=
  congrArg x3 (place _ j k _ _ (Nat.zero_add _).symm rfl)

theorem wv (j : Fin 1024) (k : Fin 1024) : View.ld (Val := Elt Ideal) (e' := .bf16) x3 r0_8 (ix2 j k) = x3 (ix2 j ⟨1024 + k, by omega⟩) :=
  congrArg x3 (place _ j k _ _ (Nat.zero_add _).symm rfl)

theorem wr (j : Fin 1024) (k : Fin 512) : View.ld (Val := Elt Ideal) (e' := .bf16) x3 r0_1 (ix2 j k) = x3 (ix2 j ⟨2048 + k, by omega⟩) :=
  congrArg x3 (place _ j k _ _ (Nat.zero_add _).symm rfl)

theorem at_top (r : Fin 256) (d : Fin 512) : r0_6.emb (ix2 r d) = ix2 ⟨r, by omega⟩ d :=
  place _ r d _ _ (Nat.zero_add _).symm (Nat.zero_add _).symm
theorem at_low (r : Fin 256) (d : Fin 512) : r0_44.emb (ix2 r d) = ix2 ⟨256 + r, by omega⟩ d :=
  place _ r d _ _ rfl (Nat.zero_add _).symm
theorem at_top' (r : Fin 256) (d : Fin 1024) : r0_0.emb (ix2 r d) = ix2 ⟨r, by omega⟩ d :=
  place _ r d _ _ (Nat.zero_add _).symm (Nat.zero_add _).symm
theorem at_low' (r : Fin 256) (d : Fin 1024) : r0_43.emb (ix2 r d) = ix2 ⟨256 + r, by omega⟩ d :=
  place _ r d _ _ rfl (Nat.zero_add _).symm

/-- A block of the queries, read at an index. -/
def qBlock (y : S512x512.Idx) : EReal := entry x0 x3 (y 0) ⟨(y 1).val, by have h : (y 1).val < 512 := (y 1).isLt; omega⟩ * queryFactor
/-- A block of the keys. -/
def kBlock (y : S512x512.Idx) : EReal := entry x0 x3 (y 0) ⟨512 + (y 1).val, by have h : (y 1).val < 512 := (y 1).isLt; omega⟩
/-- A block of the values. -/
def vBlock (y : S512x1024.Idx) : EReal := entry x0 x3 (y 0) ⟨1024 + (y 1).val, by have h : (y 1).val < 1024 := (y 1).isLt; omega⟩
/-- A block of the turned values. -/
def vtBlock (y : S1x4x256x512.Idx) : EReal := entry x0 x3 (y 3) ⟨1024 + ((y 1).val * 256 + (y 2).val),
  by have h : (y 1).val < 4 := (y 1).isLt; have h' : (y 2).val < 256 := (y 2).isLt; omega⟩
/-- A block of the decays. -/
def decayBlock (y : S512x512.Idx) : EReal :=
  decay ((∑ k : Fin 128, entry x0 x3 (y 0) ⟨2432 + k, by omega⟩ * x6 (ix2 k (y 1))) + x7 (ix2 0 (y 1)))

theorem q_out (y : S512x512.Idx) : out0_10 (F := Ideal) x0 x1 x2 x3 x4 x5 x6 x7 x8 x9 y = qBlock x0 x3 y := by
  unfold_out out0_10
  refine View.canon_apply_of_pieces _ _ ?_ y (cover0_10 _ _ y)
  intro p hp
  simp only [List.mem_cons, List.not_mem_nil, or_false] at hp
  rcases hp with rfl | rfl
  · intro x
    obtain ⟨r, d, rfl⟩ : ∃ r d, x = ix2 r d := ⟨x 0, x 1, ValueIdx.eq_ix2 x⟩
    rw [at_low]
    refine (q_at (k0_pay4 (F := Ideal) (View.ld (Val := Elt Ideal) (e' := .f32) x0 r0_43)) (View.ld (Val := Elt Ideal) (e' := .bf16) x3 r0_5) r d).trans ?_
    exact congrArg (fun z : EReal => z * queryFactor) (entry_eq x0 x3 (fun k => (congrFun (x_in _) _).trans (low x0 r k)) (fun k => wq x3 k d))
  · intro x
    obtain ⟨r, d, rfl⟩ : ∃ r d, x = ix2 r d := ⟨x 0, x 1, ValueIdx.eq_ix2 x⟩
    rw [at_top]
    refine (q_at (k0_pay4 (F := Ideal) (View.ld (Val := Elt Ideal) (e' := .f32) x0 r0_0)) (View.ld (Val := Elt Ideal) (e' := .bf16) x3 r0_5) r d).trans ?_
    exact congrArg (fun z : EReal => z * queryFactor) (entry_eq x0 x3 (fun k => (congrFun (x_in _) _).trans (top x0 r k)) (fun k => wq x3 k d))

theorem k_out (y : S512x512.Idx) : out0_11 (F := Ideal) x0 x1 x2 x3 x4 x5 x6 x7 x8 x9 y = kBlock x0 x3 y := by
  unfold_out out0_11
  refine View.canon_apply_of_pieces _ _ ?_ y (cover0_11 _ _ y)
  intro p hp
  simp only [List.mem_cons, List.not_mem_nil, or_false] at hp
  rcases hp with rfl | rfl
  · intro x
    obtain ⟨r, d, rfl⟩ : ∃ r d, x = ix2 r d := ⟨x 0, x 1, ValueIdx.eq_ix2 x⟩
    rw [at_low]
    refine (k_at (k0_pay4 (F := Ideal) (View.ld (Val := Elt Ideal) (e' := .f32) x0 r0_43)) (View.ld (Val := Elt Ideal) (e' := .bf16) x3 r0_7) r d).trans ?_
    exact entry_eq x0 x3 (fun k => (congrFun (x_in _) _).trans (low x0 r k)) (fun k => wk x3 k d)
  · intro x
    obtain ⟨r, d, rfl⟩ : ∃ r d, x = ix2 r d := ⟨x 0, x 1, ValueIdx.eq_ix2 x⟩
    rw [at_top]
    refine (k_at (k0_pay4 (F := Ideal) (View.ld (Val := Elt Ideal) (e' := .f32) x0 r0_0)) (View.ld (Val := Elt Ideal) (e' := .bf16) x3 r0_7) r d).trans ?_
    exact entry_eq x0 x3 (fun k => (congrFun (x_in _) _).trans (top x0 r k)) (fun k => wk x3 k d)

theorem v_out (y : S512x1024.Idx) : out0_12 (F := Ideal) x0 x1 x2 x3 x4 x5 x6 x7 x8 x9 y = vBlock x0 x3 y := by
  unfold_out out0_12
  refine View.canon_apply_of_pieces _ _ ?_ y (cover0_12 _ _ y)
  intro p hp
  simp only [List.mem_cons, List.not_mem_nil, or_false] at hp
  rcases hp with rfl | rfl
  · intro x
    obtain ⟨r, d, rfl⟩ : ∃ r d, x = ix2 r d := ⟨x 0, x 1, ValueIdx.eq_ix2 x⟩
    rw [at_low']
    refine (v'_at (k0_pay4 (F := Ideal) (View.ld (Val := Elt Ideal) (e' := .f32) x0 r0_43)) (View.ld (Val := Elt Ideal) (e' := .bf16) x3 r0_8) r d).trans ?_
    exact entry_eq x0 x3 (fun k => (congrFun (x_in _) _).trans (low x0 r k)) (fun k => wv x3 k d)
  · intro x
    obtain ⟨r, d, rfl⟩ : ∃ r d, x = ix2 r d := ⟨x 0, x 1, ValueIdx.eq_ix2 x⟩
    rw [at_top']
    refine (v'_at (k0_pay4 (F := Ideal) (View.ld (Val := Elt Ideal) (e' := .f32) x0 r0_0)) (View.ld (Val := Elt Ideal) (e' := .bf16) x3 r0_8) r d).trans ?_
    exact entry_eq x0 x3 (fun k => (congrFun (x_in _) _).trans (top x0 r k)) (fun k => wv x3 k d)

theorem decay_out (y : S512x512.Idx) : out0_14 (F := Ideal) x0 x1 x2 x3 x4 x5 x6 x7 x8 x9 y = decayBlock x0 x3 x6 x7 y := by
  have hu (k : Fin 128) (d : Fin 512) : View.ld (Val := Elt Ideal) (e' := .bf16) x6 r0_13 (ix2 k d) = x6 (ix2 k d) :=
    congrArg x6 (place _ k d _ _ (Nat.zero_add _).symm (Nat.zero_add _).symm)
  have hb (d : Fin 512) : View.ld (Val := Elt Ideal) (e' := .f32) x7 r0_14 (ix2 0 d) = x7 (ix2 0 d) :=
    congrArg x7 (place _ 0 d _ _ rfl (Nat.zero_add _).symm)
  have hc (k : Fin 128) : (⟨2048 + (384 + k.val), by omega⟩ : Fin 2816) = ⟨2432 + k, by omega⟩ := Fin.ext (by show 2048 + (384 + k.val) = 2432 + k.val; omega)
  unfold_out out0_14
  refine View.canon_apply_of_pieces _ _ ?_ y (cover0_14 _ _ y)
  intro p hp
  simp only [List.mem_cons, List.not_mem_nil, or_false] at hp
  rcases hp with rfl | rfl
  · intro x
    obtain ⟨r, d, rfl⟩ : ∃ r d, x = ix2 r d := ⟨x 0, x 1, ValueIdx.eq_ix2 x⟩
    rw [at_low]
    refine (decay_at r (k0_pay6 (F := Ideal) (View.ld (Val := Elt Ideal) (e' := .f32) x0 r0_43) (View.ld (Val := Elt Ideal) (e' := .bf16) x3 r0_1)) (View.ld (Val := Elt Ideal) (e' := .bf16) x6 r0_13) (View.ld (Val := Elt Ideal) (e' := .f32) x7 r0_14) d).trans ?_
    refine congrArg₂ (fun u v : EReal => decay (u + v)) (Finset.sum_congr rfl fun k _ => ?_) (hb d)
    refine congrArg₂ (fun u v : EReal => u * v) ((gate_in r _ _ k).trans ?_) (hu k d)
    exact entry_eq x0 x3 (fun j => low x0 r j) (fun j => (wr x3 j ⟨384 + k, by omega⟩).trans (congrArg (fun z => x3 (ix2 j z)) (hc k)))
  · intro x
    obtain ⟨r, d, rfl⟩ : ∃ r d, x = ix2 r d := ⟨x 0, x 1, ValueIdx.eq_ix2 x⟩
    rw [at_top]
    refine (decay_at r (k0_pay6 (F := Ideal) (View.ld (Val := Elt Ideal) (e' := .f32) x0 r0_0) (View.ld (Val := Elt Ideal) (e' := .bf16) x3 r0_1)) (View.ld (Val := Elt Ideal) (e' := .bf16) x6 r0_13) (View.ld (Val := Elt Ideal) (e' := .f32) x7 r0_14) d).trans ?_
    refine congrArg₂ (fun u v : EReal => decay (u + v)) (Finset.sum_congr rfl fun k _ => ?_) (hb d)
    refine congrArg₂ (fun u v : EReal => u * v) ((gate_in r _ _ k).trans ?_) (hu k d)
    exact entry_eq x0 x3 (fun j => top x0 r j) (fun j => (wr x3 j ⟨384 + k, by omega⟩).trans (congrArg (fun z => x3 (ix2 j z)) (hc k)))

/-- Where a rectangle of one head's turned values puts an index. -/
theorem place4 {h o : Nat} (inb : ∀ a, (![0, h, 0, o] : Fin 4 → Nat) a + S1x1x256x256.size a ≤ S1x4x256x512.size a)
    (d r : Fin 256) (i : Fin 4) (j : Fin 512) (hi : i.val = h) (hj : j.val = o + r) :
    (Rect.unit (s := S1x4x256x512) ![0, h, 0, o] S1x1x256x256.size inb).emb (ix4 0 0 d r) = ix4 0 i d j := by
  funext a
  match a with
  | ⟨0, _⟩ => rfl
  | ⟨1, _⟩ => exact Fin.ext hi.symm
  | ⟨2, _⟩ => exact Fin.ext ((congrArg (0 + ·) (Nat.one_mul d.val)).trans (Nat.zero_add _))
  | ⟨3, _⟩ => exact Fin.ext ((congrArg (o + ·) (Nat.one_mul r.val)).trans hj.symm)

theorem turned (x : S1x1x256x256.Idx) : ∃ d r : Fin 256, x = ix4 0 0 d r :=
  ⟨x 2, x 3, (ValueIdx.eq_ix4 x).trans (by
    rw [show x 0 = (0 : Fin 1) from Fin.ext (Nat.lt_one_iff.mp (x 0).isLt), show x 1 = (0 : Fin 1) from Fin.ext (Nat.lt_one_iff.mp (x 1).isLt)]; rfl)⟩

/-- An entry named by a column of the values. -/
theorem entry_v (r : Fin 512) (o : Nat) (h : Fin 4) (d : Fin 256) (ho : o = h.val * 256) (c : Fin 1024) (hc : c.val = o + d) :
    entry x0 x3 r ⟨1024 + c.val, by omega⟩ = vtBlock x0 x3 (ix4 0 h d r) := by
  refine congrArg (entry x0 x3 r) (Fin.ext ?_)
  show 1024 + c.val = 1024 + (h.val * 256 + d.val)
  omega

theorem vt_out (y : S1x4x256x512.Idx) : out0_13 (F := Ideal) x0 x1 x2 x3 x4 x5 x6 x7 x8 x9 y = vtBlock x0 x3 y := by
  unfold_out out0_13
  refine View.canon_apply_of_pieces _ _ ?_ y (cover0_13 _ _ _ _ _ _ _ _ y)
  intro p hp
  simp only [List.mem_cons, List.not_mem_nil, or_false] at hp
  rcases hp with rfl | rfl | rfl | rfl | rfl | rfl | rfl | rfl
  · intro x
    obtain ⟨d, r, rfl⟩ := turned x
    rw [show r0_48.emb (ix4 0 0 d r) = ix4 0 3 d ⟨256 + r, by omega⟩ from place4 _ d r _ _ rfl rfl]
    refine (h3_at (k0_pay4 (F := Ideal) (View.ld (Val := Elt Ideal) (e' := .f32) x0 r0_43)) (View.ld (Val := Elt Ideal) (e' := .bf16) x3 r0_8) r d).trans ?_
    refine (entry_eq x0 x3 (fun k => (congrFun (x_in _) _).trans (low x0 r k)) (fun k => wv x3 k ⟨768 + d, by omega⟩)).trans ?_
    exact entry_v x0 x3 _ 768 3 d rfl ⟨768 + d, by omega⟩ rfl
  · intro x
    obtain ⟨d, r, rfl⟩ := turned x
    rw [show r0_47.emb (ix4 0 0 d r) = ix4 0 2 d ⟨256 + r, by omega⟩ from place4 _ d r _ _ rfl rfl]
    refine (h2_at (k0_pay4 (F := Ideal) (View.ld (Val := Elt Ideal) (e' := .f32) x0 r0_43)) (View.ld (Val := Elt Ideal) (e' := .bf16) x3 r0_8) r d).trans ?_
    refine (entry_eq x0 x3 (fun k => (congrFun (x_in _) _).trans (low x0 r k)) (fun k => wv x3 k ⟨512 + d, by omega⟩)).trans ?_
    exact entry_v x0 x3 _ 512 2 d rfl ⟨512 + d, by omega⟩ rfl
  · intro x
    obtain ⟨d, r, rfl⟩ := turned x
    rw [show r0_46.emb (ix4 0 0 d r) = ix4 0 1 d ⟨256 + r, by omega⟩ from place4 _ d r _ _ rfl rfl]
    refine (h1_at (k0_pay4 (F := Ideal) (View.ld (Val := Elt Ideal) (e' := .f32) x0 r0_43)) (View.ld (Val := Elt Ideal) (e' := .bf16) x3 r0_8) r d).trans ?_
    refine (entry_eq x0 x3 (fun k => (congrFun (x_in _) _).trans (low x0 r k)) (fun k => wv x3 k ⟨256 + d, by omega⟩)).trans ?_
    exact entry_v x0 x3 _ 256 1 d rfl ⟨256 + d, by omega⟩ rfl
  · intro x
    obtain ⟨d, r, rfl⟩ := turned x
    rw [show r0_45.emb (ix4 0 0 d r) = ix4 0 0 d ⟨256 + r, by omega⟩ from place4 _ d r _ _ rfl rfl]
    refine (h0_at (k0_pay4 (F := Ideal) (View.ld (Val := Elt Ideal) (e' := .f32) x0 r0_43)) (View.ld (Val := Elt Ideal) (e' := .bf16) x3 r0_8) r d).trans ?_
    refine (entry_eq x0 x3 (fun k => (congrFun (x_in _) _).trans (low x0 r k)) (fun k => wv x3 k ⟨d, by omega⟩)).trans ?_
    exact entry_v x0 x3 _ 0 0 d rfl ⟨d, by omega⟩ (Nat.zero_add _).symm
  · intro x
    obtain ⟨d, r, rfl⟩ := turned x
    rw [show r0_12.emb (ix4 0 0 d r) = ix4 0 3 d ⟨r, by omega⟩ from place4 _ d r _ _ rfl (Nat.zero_add _).symm]
    refine (h3_at (k0_pay4 (F := Ideal) (View.ld (Val := Elt Ideal) (e' := .f32) x0 r0_0)) (View.ld (Val := Elt Ideal) (e' := .bf16) x3 r0_8) r d).trans ?_
    refine (entry_eq x0 x3 (fun k => (congrFun (x_in _) _).trans (top x0 r k)) (fun k => wv x3 k ⟨768 + d, by omega⟩)).trans ?_
    exact entry_v x0 x3 _ 768 3 d rfl ⟨768 + d, by omega⟩ rfl
  · intro x
    obtain ⟨d, r, rfl⟩ := turned x
    rw [show r0_11.emb (ix4 0 0 d r) = ix4 0 2 d ⟨r, by omega⟩ from place4 _ d r _ _ rfl (Nat.zero_add _).symm]
    refine (h2_at (k0_pay4 (F := Ideal) (View.ld (Val := Elt Ideal) (e' := .f32) x0 r0_0)) (View.ld (Val := Elt Ideal) (e' := .bf16) x3 r0_8) r d).trans ?_
    refine (entry_eq x0 x3 (fun k => (congrFun (x_in _) _).trans (top x0 r k)) (fun k => wv x3 k ⟨512 + d, by omega⟩)).trans ?_
    exact entry_v x0 x3 _ 512 2 d rfl ⟨512 + d, by omega⟩ rfl
  · intro x
    obtain ⟨d, r, rfl⟩ := turned x
    rw [show r0_10.emb (ix4 0 0 d r) = ix4 0 1 d ⟨r, by omega⟩ from place4 _ d r _ _ rfl (Nat.zero_add _).symm]
    refine (h1_at (k0_pay4 (F := Ideal) (View.ld (Val := Elt Ideal) (e' := .f32) x0 r0_0)) (View.ld (Val := Elt Ideal) (e' := .bf16) x3 r0_8) r d).trans ?_
    refine (entry_eq x0 x3 (fun k => (congrFun (x_in _) _).trans (top x0 r k)) (fun k => wv x3 k ⟨256 + d, by omega⟩)).trans ?_
    exact entry_v x0 x3 _ 256 1 d rfl ⟨256 + d, by omega⟩ rfl
  · intro x
    obtain ⟨d, r, rfl⟩ := turned x
    rw [show r0_9.emb (ix4 0 0 d r) = ix4 0 0 d ⟨r, by omega⟩ from place4 _ d r _ _ rfl (Nat.zero_add _).symm]
    refine (h0_at (k0_pay4 (F := Ideal) (View.ld (Val := Elt Ideal) (e' := .f32) x0 r0_0)) (View.ld (Val := Elt Ideal) (e' := .bf16) x3 r0_8) r d).trans ?_
    refine (entry_eq x0 x3 (fun k => (congrFun (x_in _) _).trans (top x0 r k)) (fun k => wv x3 k ⟨d, by omega⟩)).trans ?_
    exact entry_v x0 x3 _ 0 0 d rfl ⟨d, by omega⟩ (Nat.zero_add _).symm

end Cert.ProjIdeal.Tile

end
-- ==== Proof.ProjValue.lean ====
/-
  What the projection kernel leaves in its first five results: the blocks as the arguments give them, and the arrays they make up.
-/
module

public import proofs.«01_k».proof.Proof.ProjBlock

@[expose] public section

noncomputable section

namespace Cert.ProjIdeal.Tile

open Cert.ProjIdeal Cert.ProjIdeal.Gen Idealize.ShloMosaic.ValueIdx Idealize.ShloMosaic.TcCoe
open Idealize.ShloMosaic hiding ix1 ix2 ix3 ix4
open Cert.ProjRefIdeal.Rows (proj decayed qArr kArr vArr vtArr decayArr)
open scoped BigOperators

variable (m : (ℓ : Loc nD τ sig) → Buf (Elt Ideal) ℓ)

theorem idx (t : Fin cfg0.N) : win0_0.index t = ![t.val, 0] ∧ win0_3.index t = ![0, 0] ∧ win0_6.index t = ![0, 0] ∧ win0_7.index t = ![0, 0]
    ∧ win0_10.index t = ![t.val, 0] ∧ win0_11.index t = ![t.val, 0] ∧ win0_12.index t = ![t.val, 0]
    ∧ win0_13.index t = ![t.val / 4, 0, 0, t.val % 4] ∧ win0_14.index t = ![t.val, 0] := by
  revert t; decide +kernel

/-- The sequence of row `r` of block `t`. -/
abbrev seq (t : Fin cfg0.N) (r : Fin 512) : Fin 32 := ⟨(t.val * 512 + r) / 2048, by have : t.val < 128 := t.isLt; omega⟩
/-- The position of row `r` of block `t` in its sequence. -/
abbrev pos (t : Fin cfg0.N) (r : Fin 512) : Fin 2048 := ⟨(t.val * 512 + r) % 2048, Nat.mod_lt _ (by decide)⟩

theorem entry_x (c : Dev nD) : V m c main_v36 = shapeCast S65536x1024 (m ((c : Thread nD τ).loc main_arg0) : FVec Ideal S32x2048x1024 .f32)
    shapeCasts_S32x2048x1024_S65536x1024 := by
  unfold_abbrev_sides
  simp only [hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results
  all_goals rfl

theorem entry_b (c : Dev nD) : V m c main_v37 = shapeCast S1x512 (m ((c : Thread nD τ).loc main_arg4) : FVec Ideal S512 .f32) shapeCasts_S512_S1x512 := by
  unfold_abbrev_sides
  simp only [hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results
  all_goals rfl

theorem place_x (t : Fin cfg0.N) (r : Fin 512) (k : Fin 1024) : (win0_0.blk t).view.emb (ix2 r k)
    = ix2 (⟨t.val * 512 + r, by have : t.val < 128 := t.isLt; omega⟩ : Fin 65536) k := by
  blk_ext [idx t]

theorem place_b (t : Fin cfg0.N) (k : Fin 512) : (win0_7.blk t).view.emb (ix2 0 k) = ix2 (0 : Fin 1) k := by
  blk_ext [idx t]

theorem x_at (c : Dev nD) (t : Fin cfg0.N) (r : Fin 512) (k : Fin 1024) :
    iblk m c 0 t (ix2 r k) = m ((c : Thread nD τ).loc main_arg0) (ix3 (seq t r) (pos t r) k) := by
  refine (congrArg (V m c main_v36) (place_x t r k)).trans ?_
  rw [entry_x]
  refine shapeCast_apply (s := S32x2048x1024) (t := S65536x1024) _ _ _ _ ?_
  refine (Shape.rowMajor_val_three _).trans (Eq.trans ?_ (Shape.rowMajor_val_two _).symm)
  show ((t.val * 512 + r.val) / 2048 * 2048 + (t.val * 512 + r.val) % 2048) * 1024 + k.val = (t.val * 512 + r.val) * 1024 + k.val
  rw [Nat.div_add_mod']

theorem b_at (c : Dev nD) (t : Fin cfg0.N) (k : Fin 512) :
    iblk m c 7 t (ix2 0 k) = m ((c : Thread nD τ).loc main_arg4) (ix1 k) := by
  refine (congrArg (V m c main_v37) (place_b t k)).trans ?_
  rw [entry_b]
  pointwise
  blk_ext

/-- The input weights in the format the kernel reads them in. -/
def weights (c : Dev nD) : FVec Ideal S1024x5840 .bf16 := truncf .bf16 (m ((c : Thread nD τ).loc main_arg2) : FVec Ideal S1024x5840 .f32) bitsLt_bf16_f32

/-- The columns the two kinds of positions share: rotary keys, the gate's sixteen, rotary keys once more. -/
def sharedPieces (c : Dev nD) : List ((s : Shape) × FVec Ideal s .bf16) :=
  [⟨S1024x64, extractStridedSlice S1024x64 ![0, 3728] (weights m c) slices_S1024x5840_S1024x64_0_3728⟩,
      ⟨S1024x32, pad S1024x32 ![0, 0] ![0, 16] ![0, 0] (extractStridedSlice S1024x16 ![0, 2048] (weights m c) slices_S1024x5840_S1024x16_0_2048)
        (sitofp .bf16 (constantI S_ 32 0#32)) pads_S1024x16_S1024x32_000_0160 h_S_⟩,
      ⟨S1024x32, extractStridedSlice S1024x32 ![0, 32] (extractStridedSlice S1024x64 ![0, 3728] (weights m c) slices_S1024x5840_S1024x64_0_3728) slices_S1024x64_S1024x32_0_32⟩]

/-- Those columns side by side. -/
def shared (c : Dev nD) : FVec Ideal S1024x128 .bf16 := concatenate S1024x128 1 (sharedPieces m c) concatenates_S1024x64_S1024x32_S1024x32_S1024x128_d1

/-- The six blocks of columns of the packed weights. -/
def pieces (c : Dev nD) : List ((s : Shape) × FVec Ideal s .bf16) :=
  [⟨S1024x512, extractStridedSlice S1024x512 ![0, 0] (weights m c) slices_S1024x5840_S1024x512_0_0⟩,
    ⟨S1024x512, extractStridedSlice S1024x512 ![0, 512] (weights m c) slices_S1024x5840_S1024x512_0_512⟩,
    ⟨S1024x1024, extractStridedSlice S1024x1024 ![0, 1024] (weights m c) slices_S1024x5840_S1024x1024_0_1024⟩,
    ⟨S1024x384, extractStridedSlice S1024x384 ![0, 3088] (weights m c) slices_S1024x5840_S1024x384_0_3088⟩,
    ⟨S1024x128, shared m c⟩,
    ⟨S1024x256, extractStridedSlice S1024x256 ![0, 3472] (weights m c) slices_S1024x5840_S1024x256_0_3472⟩]

theorem entry_w (c : Dev nD) : V m c main_v25 = concatenate S1024x2816 1 (pieces m c)
    concatenates_S1024x512_S1024x512_S1024x1024_S1024x384_S1024x128_S1024x256_S1024x2816_d1 := by
  unfold pieces shared sharedPieces weights
  unfold_abbrev_sides
  simp only [hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results
  all_goals rfl

theorem entry_u (c : Dev nD) : V m c main_v34 = (truncf .bf16 (pad S128x512 ![64, 0] ![48, 0] ![0, 0]
    (m ((c : Thread nD τ).loc main_arg3) : FVec Ideal S16x512 .f32) (sitofp .f32 (constantI S_ 32 0#32))
    pads_S16x512_S128x512_64480_000 h_S_ : FVec Ideal S128x512 .f32) bitsLt_bf16_f32 : FVec Ideal S128x512 .bf16) := by
  unfold_abbrev_sides
  simp only [hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results
  all_goals rfl

theorem place_w (t : Fin cfg0.N) (j : Fin 1024) (k : Fin 2816) : (win0_3.blk t).view.emb (ix2 j k) = ix2 j k := by
  blk_ext [idx t]

theorem place_u (t : Fin cfg0.N) (j : Fin 128) (k : Fin 512) : (win0_6.blk t).view.emb (ix2 j k) = ix2 j k := by
  blk_ext [idx t]

theorem w_at (c : Dev nD) (t : Fin cfg0.N) (j : Fin 1024) (k : Fin 2816) : iblk m c 3 t (ix2 j k) = V m c main_v25 (ix2 j k) :=
  congrArg (V m c main_v25) (place_w t j k)

theorem u_at (c : Dev nD) (t : Fin cfg0.N) (j : Fin 128) (k : Fin 512) : iblk m c 6 t (ix2 j k) = V m c main_v34 (ix2 j k) :=
  congrArg (V m c main_v34) (place_u t j k)

/-- The first 2048 columns of the packed weights are those of the input weights. -/
theorem wq_at (c : Dev nD) (t : Fin cfg0.N) (j : Fin 1024) (k : Fin 512) :
    iblk m c 3 t (ix2 j (⟨k, by omega⟩ : Fin 2816)) = m ((c : Thread nD τ).loc main_arg2) (ix2 j (⟨k, by omega⟩ : Fin 5840)) := by
  rw [w_at, entry_w]
  refine (concatenate_apply_piece (t := S1024x2816) (1 : Fin 2) (pieces m c) _ _ 0 (show 0 < 6 by decide)
    S1024x512 (extractStridedSlice S1024x512 ![0, 0] (weights m c) slices_S1024x5840_S1024x512_0_0) rfl rfl 0 rfl (ix2 j k)
    (by intro b hb; match b with | ⟨0, _⟩ => rfl | ⟨1, _⟩ => exact absurd rfl hb) (Nat.zero_add _)).trans ?_
  exact extractStridedSlice_apply _ _ _ _ (ix2 j (⟨k, by omega⟩ : Fin 5840)) (by intro a; match a with | ⟨0, _⟩ => exact (Nat.zero_add _).symm | ⟨1, _⟩ => exact (Nat.zero_add _).symm)

theorem wk_at (c : Dev nD) (t : Fin cfg0.N) (j : Fin 1024) (k : Fin 512) :
    iblk m c 3 t (ix2 j (⟨512 + k, by omega⟩ : Fin 2816)) = m ((c : Thread nD τ).loc main_arg2) (ix2 j (⟨512 + k, by omega⟩ : Fin 5840)) := by
  rw [w_at, entry_w]
  refine (concatenate_apply_piece (t := S1024x2816) (1 : Fin 2) (pieces m c) _ _ 1 (show 1 < 6 by decide)
    S1024x512 (extractStridedSlice S1024x512 ![0, 512] (weights m c) slices_S1024x5840_S1024x512_0_512) rfl rfl 512 rfl (ix2 j k)
    (by intro b hb; match b with | ⟨0, _⟩ => rfl | ⟨1, _⟩ => exact absurd rfl hb) rfl).trans ?_
  exact extractStridedSlice_apply _ _ _ _ (ix2 j (⟨512 + k, by omega⟩ : Fin 5840)) (by intro a; match a with | ⟨0, _⟩ => exact (Nat.zero_add _).symm | ⟨1, _⟩ => rfl)

theorem wv_at (c : Dev nD) (t : Fin cfg0.N) (j : Fin 1024) (k : Fin 1024) :
    iblk m c 3 t (ix2 j (⟨1024 + k, by omega⟩ : Fin 2816)) = m ((c : Thread nD τ).loc main_arg2) (ix2 j (⟨1024 + k, by omega⟩ : Fin 5840)) := by
  rw [w_at, entry_w]
  refine (concatenate_apply_piece (t := S1024x2816) (1 : Fin 2) (pieces m c) _ _ 2 (show 2 < 6 by decide)
    S1024x1024 (extractStridedSlice S1024x1024 ![0, 1024] (weights m c) slices_S1024x5840_S1024x1024_0_1024) rfl rfl 1024 rfl (ix2 j k)
    (by intro b hb; match b with | ⟨0, _⟩ => rfl | ⟨1, _⟩ => exact absurd rfl hb) rfl).trans ?_
  exact extractStridedSlice_apply _ _ _ _ (ix2 j (⟨1024 + k, by omega⟩ : Fin 5840)) (by intro a; match a with | ⟨0, _⟩ => exact (Nat.zero_add _).symm | ⟨1, _⟩ => rfl)

/-- The gate's sixteen columns sit in the middle of the shared block. -/
theorem wr_at (c : Dev nD) (t : Fin cfg0.N) (j : Fin 1024) (k : Fin 16) :
    iblk m c 3 t (ix2 j (⟨2432 + (64 + k), by omega⟩ : Fin 2816)) = m ((c : Thread nD τ).loc main_arg2) (ix2 j (⟨2048 + k, by omega⟩ : Fin 5840)) := by
  rw [w_at, entry_w]
  refine (concatenate_apply_piece (t := S1024x2816) (1 : Fin 2) (pieces m c) _ _ 4 (show 4 < 6 by decide)
    S1024x128 (shared m c) rfl rfl 2432 rfl (ix2 j (⟨64 + k, by omega⟩ : Fin 128))
    (by intro b hb; match b with | ⟨0, _⟩ => rfl | ⟨1, _⟩ => exact absurd rfl hb) rfl).trans ?_
  refine (concatenate_apply_piece (t := S1024x128) (1 : Fin 2) (sharedPieces m c) _
    (ix2 j (⟨64 + k, by omega⟩ : Fin 128)) 1 (show 1 < 3 by decide)
    S1024x32 (pad S1024x32 ![0, 0] ![0, 16] ![0, 0] (extractStridedSlice S1024x16 ![0, 2048] (weights m c) slices_S1024x5840_S1024x16_0_2048)
        (sitofp .bf16 (constantI S_ 32 0#32)) pads_S1024x16_S1024x32_000_0160 h_S_) rfl rfl 64 rfl (ix2 j (⟨k, by omega⟩ : Fin 32))
    (by intro b hb; match b with | ⟨0, _⟩ => rfl | ⟨1, _⟩ => exact absurd rfl hb) rfl).trans ?_
  refine (pad_apply_of_inside (s := S1024x16) (t := S1024x32) (![0, 0] : Fin 2 → Nat) ![0, 16] ![0, 0]
    (extractStridedSlice S1024x16 ![0, 2048] (weights m c) slices_S1024x5840_S1024x16_0_2048 : FVec Ideal S1024x16 .bf16)
    (sitofp .bf16 (constantI S_ 32 0#32) : FVec Ideal S_ .bf16) pads_S1024x16_S1024x32_000_0160 h_S_ (ix2 j (⟨k, by omega⟩ : Fin 32)) (ix2 j k) (by
    intro a; match a with
    | ⟨0, _⟩ => exact ((Nat.zero_add _).trans (Nat.mul_one _)).symm
    | ⟨1, _⟩ => exact ((Nat.zero_add _).trans (Nat.mul_one _)).symm)).trans ?_
  exact extractStridedSlice_apply _ _ _ _ (ix2 j (⟨2048 + k, by omega⟩ : Fin 5840)) (by intro a; match a with | ⟨0, _⟩ => exact (Nat.zero_add _).symm | ⟨1, _⟩ => rfl)

/-- The gate's own weights, inside the rows that hold them. -/
theorem u_in (c : Dev nD) (t : Fin cfg0.N) (k : Fin 16) (d : Fin 512) :
    iblk m c 6 t (ix2 (⟨64 + k, by omega⟩ : Fin 128) d) = m ((c : Thread nD τ).loc main_arg3) (ix2 k d) := by
  rw [u_at, entry_u]
  exact pad_apply_of_inside (s := S16x512) (t := S128x512) (![64, 0] : Fin 2 → Nat) ![48, 0] ![0, 0] (m ((c : Thread nD τ).loc main_arg3) : FVec Ideal S16x512 .f32)
    (sitofp .f32 (constantI S_ 32 0#32) : FVec Ideal S_ .f32) pads_S16x512_S128x512_64480_000 h_S_
    (ix2 (⟨64 + k, by omega⟩ : Fin 128) d) (ix2 k d) (by
    intro a; match a with
    | ⟨0, _⟩ => exact (congrArg (64 + ·) (Nat.mul_one _)).symm
    | ⟨1, _⟩ => exact ((Nat.zero_add _).trans (Nat.mul_one _)).symm)

/-- Outside those rows the gate's weights are zero. -/
theorem u_out (c : Dev nD) (t : Fin cfg0.N) (k : Fin 128) (d : Fin 512) (hk : k.val < 64 ∨ 80 ≤ k.val) :
    iblk m c 6 t (ix2 k d) = (0 : EReal) := by
  rw [u_at, entry_u]
  refine (pad_apply_of_not_inside (s := S16x512) (t := S128x512) (![64, 0] : Fin 2 → Nat) ![48, 0] ![0, 0] (m ((c : Thread nD τ).loc main_arg3) : FVec Ideal S16x512 .f32)
    (sitofp .f32 (constantI S_ 32 0#32) : FVec Ideal S_ .f32) pads_S16x512_S128x512_64480_000 h_S_
    (ix2 k d) (0 : Fin 2) ?_).trans ?_
  · rintro ⟨h1, -, h2⟩
    have h1' : 64 ≤ k.val := h1
    have h2' : (k.val - 64) / (0 + 1) < 16 := h2
    omega
  · show ((((0#32 : BitVec 32).toInt : ℤ) : ℝ) : EReal) = 0
    simp

/-- A sum of 128 terms of which only sixteen in the middle are not zero. -/
theorem sum_middle (f : Fin 128 → EReal) (h : ∀ j, j.val < 64 ∨ 80 ≤ j.val → f j = 0) : ∑ j, f j = ∑ k : Fin 16, f ⟨64 + k, by omega⟩ := by
  have e1 : ∑ i : Fin 64, f (Fin.castAdd 64 i) = 0 := Finset.sum_eq_zero fun i _ => h _ (Or.inl i.isLt)
  have e3 : ∑ i : Fin 48, f (Fin.natAdd 64 (Fin.natAdd 16 i)) = 0 :=
    Finset.sum_eq_zero fun i _ => h _ (Or.inr (by show 80 ≤ 64 + (16 + i.val); omega))
  have e2 : ∑ i : Fin 64, f (Fin.natAdd 64 i) = ∑ i : Fin 16, f (Fin.natAdd 64 (Fin.castAdd 48 i)) :=
    (Fin.sum_univ_add (a := 16) (b := 48) fun i => f (Fin.natAdd 64 i)).trans ((congrArg (_ + ·) e3).trans (add_zero _))
  refine (Fin.sum_univ_add (a := 64) (b := 64) f).trans ?_
  rw [e1, e2, zero_add]
  rfl

/-- An entry of a block, as the arguments give it. -/
theorem entry_at (c : Dev nD) (t : Fin cfg0.N) (r : Fin 512) (a : Fin 2816) (b : Fin 5840)
    (h : ∀ k : Fin 1024, iblk m c 3 t (ix2 k a) = m ((c : Thread nD τ).loc main_arg2) (ix2 k b)) :
    entry (iblk m c 0 t) (iblk m c 3 t) r a = proj (m ((c : Thread nD τ).loc main_arg0)) (m ((c : Thread nD τ).loc main_arg2)) (seq t r) (pos t r) b :=
  Finset.sum_congr rfl fun k _ => congrArg₂ (fun u v : EReal => u * v) (x_at m c t r k) (h k)

theorem decay_block (c : Dev nD) (t : Fin cfg0.N) (r d : Fin 512) :
    decayBlock (iblk m c 0 t) (iblk m c 3 t) (iblk m c 6 t) (iblk m c 7 t) (ix2 r d)
      = decayed (m ((c : Thread nD τ).loc main_arg0)) (m ((c : Thread nD τ).loc main_arg2)) (m ((c : Thread nD τ).loc main_arg3))
        (m ((c : Thread nD τ).loc main_arg4)) (seq t r) (pos t r) d := by
  have h := sum_middle (fun k => entry (iblk m c 0 t) (iblk m c 3 t) r ⟨2432 + k, by omega⟩ * iblk m c 6 t (ix2 k d)) fun k hk =>
    (congrArg (fun z : EReal => entry (iblk m c 0 t) (iblk m c 3 t) r ⟨2432 + k, by omega⟩ * z) (u_out m c t k d hk)).trans (mul_zero _)
  refine congrArg₂ (fun u v : EReal => decay (u + v)) (h.trans (Finset.sum_congr rfl fun k _ => ?_)) (b_at m c t d)
  exact congrArg₂ (fun u v : EReal => u * v) (entry_at m c t r ⟨2432 + (64 + k), by omega⟩ ⟨2048 + k, by omega⟩ fun j => wr_at m c t j k) (u_in m c t k d)

theorem place10 (t : Fin cfg0.N) (r d : Fin 512) : (win0_10.blk t).view.emb (ix2 r d) = ix2 ⟨t.val * 512 + r, by have : t.val < 128 := t.isLt; omega⟩ d := by
  blk_ext [idx t]
theorem place11 (t : Fin cfg0.N) (r d : Fin 512) : (win0_11.blk t).view.emb (ix2 r d) = ix2 ⟨t.val * 512 + r, by have : t.val < 128 := t.isLt; omega⟩ d := by
  blk_ext [idx t]
theorem place12 (t : Fin cfg0.N) (r : Fin 512) (d : Fin 1024) : (win0_12.blk t).view.emb (ix2 r d) = ix2 ⟨t.val * 512 + r, by have : t.val < 128 := t.isLt; omega⟩ d := by
  blk_ext [idx t]
theorem place14 (t : Fin cfg0.N) (r d : Fin 512) : (win0_14.blk t).view.emb (ix2 r d) = ix2 ⟨t.val * 512 + r, by have : t.val < 128 := t.isLt; omega⟩ d := by
  blk_ext [idx t]
theorem place13 (t : Fin cfg0.N) (h : Fin 4) (d : Fin 256) (r : Fin 512) : (win0_13.blk t).view.emb (ix4 0 h d r)
    = ix4 (⟨t.val / 4, by have : t.val < 128 := t.isLt; omega⟩ : Fin 32) h d (⟨t.val % 4 * 512 + r, by omega⟩ : Fin 2048) := by
  blk_ext [idx t]

theorem final_q (c : Dev nD) : (dats m 0 c).arrAt 10 cfg0.N
    = qArr (m ((c : Thread nD τ).loc main_arg0)) (m ((c : Thread nD τ).loc main_arg2)) := by
  refine (dats m 0 c).arrAt_eq_of_covers 10 _ (by decide +kernel) fun t hf y => ?_
  obtain ⟨r, d, rfl⟩ : ∃ r d, y = ix2 r d := ⟨y 0, y 1, ValueIdx.eq_ix2 y⟩
  blk_simp
  rw [after0_10, show ((cfg0.win 10).blk t).view.emb (ix2 r d) = _ from place10 t r d]
  refine Eq.trans (b := qBlock (iblk m c 0 t) (iblk m c 3 t) (ix2 r d)) ?_ ?_
  · exact q_out (iblk m c 0 t) (iblk m c 1 t) (iblk m c 2 t) (iblk m c 3 t) (iblk m c 4 t) (iblk m c 5 t) (iblk m c 6 t) (iblk m c 7 t) (iblk m c 8 t) (iblk m c 9 t) (ix2 r d)
  · exact congrArg (fun z : EReal => z * queryFactor) (entry_at m c t r _ _ fun k => wq_at m c t k d)

theorem final_k (c : Dev nD) : (dats m 0 c).arrAt 11 cfg0.N
    = kArr (m ((c : Thread nD τ).loc main_arg0)) (m ((c : Thread nD τ).loc main_arg2)) := by
  refine (dats m 0 c).arrAt_eq_of_covers 11 _ (by decide +kernel) fun t hf y => ?_
  obtain ⟨r, d, rfl⟩ : ∃ r d, y = ix2 r d := ⟨y 0, y 1, ValueIdx.eq_ix2 y⟩
  blk_simp
  rw [after0_11, show ((cfg0.win 11).blk t).view.emb (ix2 r d) = _ from place11 t r d]
  refine Eq.trans (b := kBlock (iblk m c 0 t) (iblk m c 3 t) (ix2 r d)) ?_ ?_
  · exact k_out (iblk m c 0 t) (iblk m c 1 t) (iblk m c 2 t) (iblk m c 3 t) (iblk m c 4 t) (iblk m c 5 t) (iblk m c 6 t) (iblk m c 7 t) (iblk m c 8 t) (iblk m c 9 t) (ix2 r d)
  · exact entry_at m c t r _ _ fun k => wk_at m c t k d

theorem final_v (c : Dev nD) : (dats m 0 c).arrAt 12 cfg0.N
    = vArr (m ((c : Thread nD τ).loc main_arg0)) (m ((c : Thread nD τ).loc main_arg2)) := by
  refine (dats m 0 c).arrAt_eq_of_covers 12 _ (by decide +kernel) fun t hf y => ?_
  obtain ⟨r, d, rfl⟩ : ∃ r d, y = ix2 r d := ⟨y 0, y 1, ValueIdx.eq_ix2 y⟩
  blk_simp
  rw [after0_12, show ((cfg0.win 12).blk t).view.emb (ix2 r d) = _ from place12 t r d]
  refine Eq.trans (b := vBlock (iblk m c 0 t) (iblk m c 3 t) (ix2 r d)) ?_ ?_
  · exact v_out (iblk m c 0 t) (iblk m c 1 t) (iblk m c 2 t) (iblk m c 3 t) (iblk m c 4 t) (iblk m c 5 t) (iblk m c 6 t) (iblk m c 7 t) (iblk m c 8 t) (iblk m c 9 t) (ix2 r d)
  · exact entry_at m c t r _ _ fun k => wv_at m c t k d

theorem final_vt (c : Dev nD) : (dats m 0 c).arrAt 13 cfg0.N
    = vtArr (m ((c : Thread nD τ).loc main_arg0)) (m ((c : Thread nD τ).loc main_arg2)) := by
  refine (dats m 0 c).arrAt_eq_of_covers 13 _ (by decide +kernel) fun t hf y => ?_
  obtain ⟨h, d, r, rfl⟩ : ∃ (h : Fin 4) (d : Fin 256) (r : Fin 512), y = ix4 (0 : Fin 1) h d r := ⟨y 1, y 2, y 3, (ValueIdx.eq_ix4 y).trans (by
    rw [show y 0 = (0 : Fin 1) from Fin.ext (Nat.lt_one_iff.mp (y 0).isLt)]; rfl)⟩
  blk_simp
  rw [after0_13, show ((cfg0.win 13).blk t).view.emb (ix4 0 h d r) = _ from place13 t h d r]
  refine Eq.trans (b := vtBlock (iblk m c 0 t) (iblk m c 3 t) (ix4 0 h d r)) ?_ ?_
  · exact vt_out (iblk m c 0 t) (iblk m c 1 t) (iblk m c 2 t) (iblk m c 3 t) (iblk m c 4 t) (iblk m c 5 t) (iblk m c 6 t) (iblk m c 7 t) (iblk m c 8 t) (iblk m c 9 t) (ix4 0 h d r)
  · have hs : seq t r = (⟨t.val / 4, by have : t.val < 128 := t.isLt; omega⟩ : Fin 32) := Fin.ext (by show (t.val * 512 + r.val) / 2048 = t.val / 4; omega)
    have hp : pos t r = (⟨t.val % 4 * 512 + r, by omega⟩ : Fin 2048) := Fin.ext (by show (t.val * 512 + r.val) % 2048 = t.val % 4 * 512 + r.val; omega)
    have e := entry_at m c t r ⟨1024 + (h.val * 256 + d.val), by omega⟩ ⟨1024 + (h.val * 256 + d.val), by omega⟩
      fun k => wv_at m c t k ⟨h.val * 256 + d.val, by omega⟩
    rw [hs, hp] at e
    exact e

theorem final_decay (c : Dev nD) : (dats m 0 c).arrAt 14 cfg0.N
    = decayArr (m ((c : Thread nD τ).loc main_arg0)) (m ((c : Thread nD τ).loc main_arg2)) (m ((c : Thread nD τ).loc main_arg3)) (m ((c : Thread nD τ).loc main_arg4)) := by
  refine (dats m 0 c).arrAt_eq_of_covers 14 _ (by decide +kernel) fun t hf y => ?_
  obtain ⟨r, d, rfl⟩ : ∃ r d, y = ix2 r d := ⟨y 0, y 1, ValueIdx.eq_ix2 y⟩
  blk_simp
  rw [after0_14, show ((cfg0.win 14).blk t).view.emb (ix2 r d) = _ from place14 t r d]
  refine Eq.trans (b := decayBlock (iblk m c 0 t) (iblk m c 3 t) (iblk m c 6 t) (iblk m c 7 t) (ix2 r d)) ?_ ?_
  · exact decay_out (iblk m c 0 t) (iblk m c 1 t) (iblk m c 2 t) (iblk m c 3 t) (iblk m c 4 t) (iblk m c 5 t) (iblk m c 6 t) (iblk m c 7 t) (iblk m c 8 t) (iblk m c 9 t) (ix2 r d)
  · exact decay_block m c t r d

end Cert.ProjIdeal.Tile

end
-- ==== Proof.ProjLatent.lean ====
/-
  What the projection kernel leaves in its last result, the latent attention's values in turned tiles.
-/
module

public import proofs.«01_k».proof.Proof.ProjLatentRef
public import proofs.«01_k».proof.Proof.ProjValue

@[expose] public section

noncomputable section

namespace Cert.ProjIdeal.Tile

open Cert.ProjIdeal Cert.ProjIdeal.Gen Cert.Row Idealize.ShloMosaic.ValueIdx Idealize.ShloMosaic.TcCoe
open Idealize.ShloMosaic hiding ix1 ix2 ix3 ix4 ix5
open Cert.ProjRefIdeal.Rows (proj rms expanded tileArr)
open scoped BigOperators

/-- The normalised latent as the kernel writes it, read at an index. -/
theorem rms_at (z : FVec Ideal S256x256 .f32) (g : FVec Ideal S1x256 .f32) (r d : Fin 256) :
    k0_pay84 (F := Ideal) z g (mulf z z) (ix2 r d) = rms (fun k => z (ix2 r k)) (fun k => g (ix2 0 k)) d := by
  unfold k0_pay84
  refine congrArg₂ (fun u v : EReal => z (ix2 r d) * u * v) ((spread_column _ _ r d).trans ?_) (spread_row _ _ r d)
  exact congrArg (fun s => Ideal.rsqrt (Ideal.div s (Ideal.ofBits .f32 0x43800000#32) + Ideal.ofBits .f32 0x358637BD#32))
    ((column _ _ r 0).trans (row_sum _ _ _ _ r))

theorem latent_at (y : FVec Ideal S256x1024 .f32) (u : FVec Ideal S1024x256 .bf16) (g : FVec Ideal S1x256 .f32) (r d : Fin 256) :
    k0_pay84 (F := Ideal) (k0_pay79 y u) (k0_pay82 g) (k0_pay83 y u) (ix2 r d)
      = rms (fun k => ∑ j, y (ix2 r j) * u (ix2 j k)) (fun k => g (ix2 0 k)) d := by
  refine (rms_at (k0_pay79 y u) (k0_pay82 g) r d).trans ?_
  have hz (k : Fin 256) : k0_pay79 (F := Ideal) y u (ix2 r k) = ∑ j, y (ix2 r j) * u (ix2 j k) := by
    unfold k0_pay79 k0_pay77
    rw [shapeCast_self, shapeCast_self]
    exact rows_times none y u r k
  have hg (k : Fin 256) : k0_pay82 (F := Ideal) g (ix2 0 k) = g (ix2 0 k) := congrFun (shapeCast_self _ _) _
  rw [funext hz, funext hg]

theorem expand_at (y : FVec Ideal S256x256 .bf16) (u : FVec Ideal S256x2048 .bf16) (r : Fin 256) (c : Fin 2048) :
    k0_pay126 (F := Ideal) y u (ix2 r c) = ∑ k, y (ix2 r k) * u (ix2 k c) := by
  unfold k0_pay126
  rw [shapeCast_self]
  exact rows_times none y u r c

/-- One head's values cut out of the expanded latents and turned, read at an index. -/
theorem turn_at (h : Fin 8) (o : Nat) (ho : o = h.val * 256 + 128) (v : FVec Ideal S256x2048 .f32) (hs : S256x2048.Slices ![0, o] S256x128)
    (d : Fin 128) (r : Fin 256) :
    shapeCast S1x1x1x128x256 (truncf .bf16 (transpose S128x256 [1, 0] (extractStridedSlice S256x128 ![0, o] v hs)
      transposes_S256x128_p1_0_S128x256) bitsLt_bf16_f32 : FVec Ideal S128x256 .bf16) shapeCasts_S128x256_S1x1x1x128x256 (ix5 0 0 0 d r)
      = v (ix2 r ⟨h.val * 256 + (128 + d.val), by omega⟩) := by
  refine (shapeCast_apply _ _ _ (ix2 d r) ?_).trans ?_
  · simp only [Shape.rowMajor_val_five, Shape.rowMajor_val_two]
    show (d : ℕ) * 256 + r = (((0 * 1 + 0) * 1 + 0) * 128 + d) * 256 + r
    omega
  · refine (show _ = transpose S128x256 [1, 0] (extractStridedSlice S256x128 ![0, o] v hs) transposes_S256x128_p1_0_S128x256 (ix2 d r) from rfl).trans ((transpose_apply _ _ _ _ (ix2 r d) ?_).trans ?_)
    · intro b; match b with | ⟨0, _⟩ => rfl | ⟨1, _⟩ => rfl
    · exact extractStridedSlice_apply _ _ _ _ _ (by intro a; match a with | ⟨0, _⟩ => exact (Nat.zero_add _).symm | ⟨1, _⟩ => show h.val * 256 + (128 + d.val) = o + d.val; omega)

/-- Where a rectangle of one head's tile puts an index. -/
theorem place5 {h o : Nat} (inb : ∀ a, (![0, h, 0, 0, o] : Fin 5 → Nat) a + S1x1x1x128x256.size a ≤ S1x8x1x128x512.size a)
    (d : Fin 128) (r : Fin 256) (i : Fin 8) (j : Fin 512) (hi : i.val = h) (hj : j.val = o + r) :
    (Rect.unit (s := S1x8x1x128x512) ![0, h, 0, 0, o] S1x1x1x128x256.size inb).emb (ix5 0 0 0 d r) = ix5 0 i 0 d j := by
  funext a
  match a with
  | ⟨0, _⟩ => rfl
  | ⟨1, _⟩ => exact Fin.ext hi.symm
  | ⟨2, _⟩ => rfl
  | ⟨3, _⟩ => exact Fin.ext ((congrArg (0 + ·) (Nat.one_mul d.val)).trans (Nat.zero_add _))
  | ⟨4, _⟩ => exact Fin.ext ((congrArg (o + ·) (Nat.one_mul r.val)).trans hj.symm)

theorem tiled (x : S1x1x1x128x256.Idx) : ∃ (d : Fin 128) (r : Fin 256), x = ix5 0 0 0 d r :=
  ⟨x 3, x 4, (ValueIdx.eq_ix5 x).trans (by
    rw [show x 0 = (0 : Fin 1) from Fin.ext (Nat.lt_one_iff.mp (x 0).isLt), show x 1 = (0 : Fin 1) from Fin.ext (Nat.lt_one_iff.mp (x 1).isLt),
      show x 2 = (0 : Fin 1) from Fin.ext (Nat.lt_one_iff.mp (x 2).isLt)]; rfl)⟩

variable (x0 : FVec Ideal S512x1024 .f32) (x1 : FVec Ideal S512x128 .f32) (x2 : FVec Ideal S1x128 .f32) (x3 : FVec Ideal S1024x2816 .bf16)
  (x4 : FVec Ideal S384x1536 .bf16) (x5 : FVec Ideal S256x2048 .bf16) (x6 : FVec Ideal S128x512 .bf16) (x7 : FVec Ideal S1x512 .f32)
  (x8 : FVec Ideal S1x384 .f32) (x9 : FVec Ideal S1x256 .f32)

/-- One entry of a block's expanded latents. -/
def opened (r : Fin 512) (c : Fin 2048) : EReal :=
  ∑ k : Fin 256, rms (fun d => entry x0 x3 r ⟨2560 + d, by omega⟩) (fun d => x9 (ix2 0 d)) k * x5 (ix2 k c)

/-- A block of the tiles. -/
def tileBlock (y : S1x8x1x128x512.Idx) : EReal := opened x0 x3 x5 x9 (y 4) ⟨(y 1).val * 256 + (128 + (y 3).val),
  by have h : (y 1).val < 8 := (y 1).isLt; have h' : (y 3).val < 128 := (y 3).isLt; omega⟩

theorem wl (j : Fin 1024) (k : Fin 256) : View.ld (Val := Elt Ideal) (e' := .bf16) x3 r0_2 (ix2 j k) = x3 (ix2 j ⟨2560 + k, by omega⟩) :=
  congrArg x3 (place _ j k _ _ (Nat.zero_add _).symm rfl)
theorem we (k : Fin 256) (c : Fin 2048) : View.ld (Val := Elt Ideal) (e' := .bf16) x5 r0_34 (ix2 k c) = x5 (ix2 k c) :=
  congrArg x5 (place _ k c _ _ (Nat.zero_add _).symm (Nat.zero_add _).symm)
theorem gl (k : Fin 256) : View.ld (Val := Elt Ideal) (e' := .f32) x9 r0_4 (ix2 0 k) = x9 (ix2 0 k) :=
  congrArg x9 (place _ 0 k _ _ rfl (Nat.zero_add _).symm)

theorem opened_of (z : FVec Ideal S256x1024 .f32) (r : Fin 256) (r' : Fin 512) (h : ∀ k, z (ix2 r k) = x0 (ix2 r' k)) (c : Fin 2048) :
    k0_pay126 (F := Ideal) (k0_pay84 (k0_pay79 z (View.ld (Val := Elt Ideal) (e' := .bf16) x3 r0_2)) (k0_pay82 (View.ld (Val := Elt Ideal) (e' := .f32) x9 r0_4))
      (k0_pay83 z (View.ld (Val := Elt Ideal) (e' := .bf16) x3 r0_2))) (View.ld (Val := Elt Ideal) (e' := .bf16) x5 r0_34) (ix2 r c) = opened x0 x3 x5 x9 r' c := by
  refine (expand_at _ _ r c).trans (Finset.sum_congr rfl fun k _ => congrArg₂ (fun u v : EReal => u * v) ?_ (we x5 k c))
  refine (latent_at _ _ _ r k).trans ?_
  rw [funext fun d => entry_eq x0 x3 h (fun j => wl x3 j d), funext (gl x9)]

theorem opened_low (r : Fin 256) (c : Fin 2048) :
    k0_pay176 (F := Ideal) x0 x1 x2 x3 x4 x5 x6 x7 x8 x9 (ix2 r c) = opened x0 x3 x5 x9 ⟨256 + r, by omega⟩ c :=
  opened_of x0 x3 x5 x9 _ r _ (low x0 r) c

theorem opened_top (r : Fin 256) (c : Fin 2048) :
    k0_pay163 (F := Ideal) x0 x1 x2 x3 x4 x5 x6 x7 x8 x9 (ix2 r c) = opened x0 x3 x5 x9 ⟨r, by omega⟩ c :=
  opened_of x0 x3 x5 x9 _ r _ (top x0 r) c

theorem tile_out (y : S1x8x1x128x512.Idx) : out0_17 (F := Ideal) x0 x1 x2 x3 x4 x5 x6 x7 x8 x9 y = tileBlock x0 x3 x5 x9 y := by
  unfold_out out0_17
  refine View.canon_apply_of_pieces _ _ ?_ y (cover0_17 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · intro x
    obtain ⟨d, r, rfl⟩ := tiled x
    rw [show r0_73.emb (ix5 0 0 0 d r) = ix5 0 7 0 d ⟨256 + r, by omega⟩ from place5 _ d r _ _ rfl rfl]
    exact (turn_at 7 1920 rfl _ _ d r).trans (opened_low x0 x1 x2 x3 x4 x5 x6 x7 x8 x9 r _)
  · intro x
    obtain ⟨d, r, rfl⟩ := tiled x
    rw [show r0_72.emb (ix5 0 0 0 d r) = ix5 0 6 0 d ⟨256 + r, by omega⟩ from place5 _ d r _ _ rfl rfl]
    exact (turn_at 6 1664 rfl _ _ d r).trans (opened_low x0 x1 x2 x3 x4 x5 x6 x7 x8 x9 r _)
  · intro x
    obtain ⟨d, r, rfl⟩ := tiled x
    rw [show r0_71.emb (ix5 0 0 0 d r) = ix5 0 5 0 d ⟨256 + r, by omega⟩ from place5 _ d r _ _ rfl rfl]
    exact (turn_at 5 1408 rfl _ _ d r).trans (opened_low x0 x1 x2 x3 x4 x5 x6 x7 x8 x9 r _)
  · intro x
    obtain ⟨d, r, rfl⟩ := tiled x
    rw [show r0_70.emb (ix5 0 0 0 d r) = ix5 0 4 0 d ⟨256 + r, by omega⟩ from place5 _ d r _ _ rfl rfl]
    exact (turn_at 4 1152 rfl _ _ d r).trans (opened_low x0 x1 x2 x3 x4 x5 x6 x7 x8 x9 r _)
  · intro x
    obtain ⟨d, r, rfl⟩ := tiled x
    rw [show r0_69.emb (ix5 0 0 0 d r) = ix5 0 3 0 d ⟨256 + r, by omega⟩ from place5 _ d r _ _ rfl rfl]
    exact (turn_at 3 896 rfl _ _ d r).trans (opened_low x0 x1 x2 x3 x4 x5 x6 x7 x8 x9 r _)
  · intro x
    obtain ⟨d, r, rfl⟩ := tiled x
    rw [show r0_68.emb (ix5 0 0 0 d r) = ix5 0 2 0 d ⟨256 + r, by omega⟩ from place5 _ d r _ _ rfl rfl]
    exact (turn_at 2 640 rfl _ _ d r).trans (opened_low x0 x1 x2 x3 x4 x5 x6 x7 x8 x9 r _)
  · intro x
    obtain ⟨d, r, rfl⟩ := tiled x
    rw [show r0_67.emb (ix5 0 0 0 d r) = ix5 0 1 0 d ⟨256 + r, by omega⟩ from place5 _ d r _ _ rfl rfl]
    exact (turn_at 1 384 rfl _ _ d r).trans (opened_low x0 x1 x2 x3 x4 x5 x6 x7 x8 x9 r _)
  · intro x
    obtain ⟨d, r, rfl⟩ := tiled x
    rw [show r0_66.emb (ix5 0 0 0 d r) = ix5 0 0 0 d ⟨256 + r, by omega⟩ from place5 _ d r _ _ rfl rfl]
    exact (turn_at 0 128 rfl _ _ d r).trans (opened_low x0 x1 x2 x3 x4 x5 x6 x7 x8 x9 r _)
  · intro x
    obtain ⟨d, r, rfl⟩ := tiled x
    rw [show r0_42.emb (ix5 0 0 0 d r) = ix5 0 7 0 d ⟨r, by omega⟩ from place5 _ d r _ _ rfl (Nat.zero_add _).symm]
    exact (turn_at 7 1920 rfl _ _ d r).trans (opened_top x0 x1 x2 x3 x4 x5 x6 x7 x8 x9 r _)
  · intro x
    obtain ⟨d, r, rfl⟩ := tiled x
    rw [show r0_41.emb (ix5 0 0 0 d r) = ix5 0 6 0 d ⟨r, by omega⟩ from place5 _ d r _ _ rfl (Nat.zero_add _).symm]
    exact (turn_at 6 1664 rfl _ _ d r).trans (opened_top x0 x1 x2 x3 x4 x5 x6 x7 x8 x9 r _)
  · intro x
    obtain ⟨d, r, rfl⟩ := tiled x
    rw [show r0_40.emb (ix5 0 0 0 d r) = ix5 0 5 0 d ⟨r, by omega⟩ from place5 _ d r _ _ rfl (Nat.zero_add _).symm]
    exact (turn_at 5 1408 rfl _ _ d r).trans (opened_top x0 x1 x2 x3 x4 x5 x6 x7 x8 x9 r _)
  · intro x
    obtain ⟨d, r, rfl⟩ := tiled x
    rw [show r0_39.emb (ix5 0 0 0 d r) = ix5 0 4 0 d ⟨r, by omega⟩ from place5 _ d r _ _ rfl (Nat.zero_add _).symm]
    exact (turn_at 4 1152 rfl _ _ d r).trans (opened_top x0 x1 x2 x3 x4 x5 x6 x7 x8 x9 r _)
  · intro x
    obtain ⟨d, r, rfl⟩ := tiled x
    rw [show r0_38.emb (ix5 0 0 0 d r) = ix5 0 3 0 d ⟨r, by omega⟩ from place5 _ d r _ _ rfl (Nat.zero_add _).symm]
    exact (turn_at 3 896 rfl _ _ d r).trans (opened_top x0 x1 x2 x3 x4 x5 x6 x7 x8 x9 r _)
  · intro x
    obtain ⟨d, r, rfl⟩ := tiled x
    rw [show r0_37.emb (ix5 0 0 0 d r) = ix5 0 2 0 d ⟨r, by omega⟩ from place5 _ d r _ _ rfl (Nat.zero_add _).symm]
    exact (turn_at 2 640 rfl _ _ d r).trans (opened_top x0 x1 x2 x3 x4 x5 x6 x7 x8 x9 r _)
  · intro x
    obtain ⟨d, r, rfl⟩ := tiled x
    rw [show r0_36.emb (ix5 0 0 0 d r) = ix5 0 1 0 d ⟨r, by omega⟩ from place5 _ d r _ _ rfl (Nat.zero_add _).symm]
    exact (turn_at 1 384 rfl _ _ d r).trans (opened_top x0 x1 x2 x3 x4 x5 x6 x7 x8 x9 r _)
  · intro x
    obtain ⟨d, r, rfl⟩ := tiled x
    rw [show r0_35.emb (ix5 0 0 0 d r) = ix5 0 0 0 d ⟨r, by omega⟩ from place5 _ d r _ _ rfl (Nat.zero_add _).symm]
    exact (turn_at 0 128 rfl _ _ d r).trans (opened_top x0 x1 x2 x3 x4 x5 x6 x7 x8 x9 r _)

variable (m : (ℓ : Loc nD τ sig) → Buf (Elt Ideal) ℓ)

theorem idx' (t : Fin cfg0.N) : win0_5.index t = ![0, 0] ∧ win0_9.index t = ![0, 0] ∧ win0_17.index t = ![t.val / 4, 0, t.val % 4, 0, 0] := by
  revert t; decide +kernel

theorem entry_g (c : Dev nD) : V m c main_v39 = shapeCast S1x256 (m ((c : Thread nD τ).loc main_arg7) : FVec Ideal S256 .f32) shapeCasts_S256_S1x256 := by
  unfold_abbrev_sides
  simp only [hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results
  all_goals rfl

theorem entry_e (c : Dev nD) : V m c main_v35 = (truncf .bf16 (m ((c : Thread nD τ).loc main_arg8) : FVec Ideal S256x2048 .f32) bitsLt_bf16_f32 : FVec Ideal S256x2048 .bf16) := by
  unfold_abbrev_sides
  simp only [hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results
  all_goals rfl

theorem place_g (t : Fin cfg0.N) (k : Fin 256) : (win0_9.blk t).view.emb (ix2 0 k) = ix2 (0 : Fin 1) k := by
  blk_ext [idx' t]
theorem place_e (t : Fin cfg0.N) (k : Fin 256) (d : Fin 2048) : (win0_5.blk t).view.emb (ix2 k d) = ix2 k d := by
  blk_ext [idx' t]
theorem place17 (t : Fin cfg0.N) (h : Fin 8) (d : Fin 128) (r : Fin 512) : (win0_17.blk t).view.emb (ix5 0 h 0 d r)
    = ix5 (⟨t.val / 4, by have : t.val < 128 := t.isLt; omega⟩ : Fin 32) h (⟨t.val % 4, by omega⟩ : Fin 4) d r := by
  blk_ext [idx' t]

theorem g_at (c : Dev nD) (t : Fin cfg0.N) (k : Fin 256) : iblk m c 9 t (ix2 0 k) = m ((c : Thread nD τ).loc main_arg7) (ix1 k) := by
  refine (congrArg (V m c main_v39) (place_g t k)).trans ?_
  rw [entry_g]
  pointwise
  blk_ext

theorem e_at (c : Dev nD) (t : Fin cfg0.N) (k : Fin 256) (d : Fin 2048) : iblk m c 5 t (ix2 k d) = m ((c : Thread nD τ).loc main_arg8) (ix2 k d) := by
  refine (congrArg (V m c main_v35) (place_e t k d)).trans ?_
  rw [entry_e]
  rfl

/-- The latent's columns come last in the packed weights. -/
theorem wl_at (c : Dev nD) (t : Fin cfg0.N) (j : Fin 1024) (k : Fin 256) :
    iblk m c 3 t (ix2 j (⟨2560 + k, by omega⟩ : Fin 2816)) = m ((c : Thread nD τ).loc main_arg2) (ix2 j (⟨3472 + k, by omega⟩ : Fin 5840)) := by
  rw [w_at, entry_w]
  refine (concatenate_apply_piece (t := S1024x2816) (1 : Fin 2) (pieces m c) _ _ 5 (show 5 < 6 by decide)
    S1024x256 (extractStridedSlice S1024x256 ![0, 3472] (weights m c) slices_S1024x5840_S1024x256_0_3472) rfl rfl 2560 rfl (ix2 j k)
    (by intro b hb; match b with | ⟨0, _⟩ => rfl | ⟨1, _⟩ => exact absurd rfl hb) rfl).trans ?_
  exact extractStridedSlice_apply _ _ _ _ (ix2 j (⟨3472 + k, by omega⟩ : Fin 5840)) (by intro a; match a with | ⟨0, _⟩ => exact (Nat.zero_add _).symm | ⟨1, _⟩ => rfl)

theorem opened_at (c : Dev nD) (t : Fin cfg0.N) (r : Fin 512) (d : Fin 2048) :
    opened (iblk m c 0 t) (iblk m c 3 t) (iblk m c 5 t) (iblk m c 9 t) r d
      = expanded (m ((c : Thread nD τ).loc main_arg0)) (m ((c : Thread nD τ).loc main_arg2)) (m ((c : Thread nD τ).loc main_arg7))
        (m ((c : Thread nD τ).loc main_arg8)) (seq t r) (pos t r) d := by
  refine Finset.sum_congr rfl fun k _ => congrArg₂ (fun u v : EReal => u * v) ?_ (e_at m c t k d)
  exact congrArg₂ (fun u v => rms u v k) (funext fun j => entry_at m c t r ⟨2560 + j, by omega⟩ ⟨3472 + j, by omega⟩ fun i => wl_at m c t i j) (funext (g_at m c t))

theorem final_tile (c : Dev nD) : (dats m 0 c).arrAt 17 cfg0.N
    = tileArr (m ((c : Thread nD τ).loc main_arg0)) (m ((c : Thread nD τ).loc main_arg2)) (m ((c : Thread nD τ).loc main_arg7)) (m ((c : Thread nD τ).loc main_arg8)) := by
  refine (dats m 0 c).arrAt_eq_of_covers 17 _ (by decide +kernel) fun t hf y => ?_
  obtain ⟨h, d, r, rfl⟩ : ∃ (h : Fin 8) (d : Fin 128) (r : Fin 512), y = ix5 (0 : Fin 1) h (0 : Fin 1) d r := ⟨y 1, y 3, y 4, (ValueIdx.eq_ix5 y).trans (by
    rw [show y 0 = (0 : Fin 1) from Fin.ext (Nat.lt_one_iff.mp (y 0).isLt), show y 2 = (0 : Fin 1) from Fin.ext (Nat.lt_one_iff.mp (y 2).isLt)]; rfl)⟩
  blk_simp
  rw [after0_17, show ((cfg0.win 17).blk t).view.emb (ix5 0 h 0 d r) = _ from place17 t h d r]
  refine Eq.trans (b := tileBlock (iblk m c 0 t) (iblk m c 3 t) (iblk m c 5 t) (iblk m c 9 t) (ix5 0 h 0 d r)) ?_ ?_
  · exact tile_out (iblk m c 0 t) (iblk m c 1 t) (iblk m c 2 t) (iblk m c 3 t) (iblk m c 4 t) (iblk m c 5 t) (iblk m c 6 t) (iblk m c 7 t) (iblk m c 8 t) (iblk m c 9 t) (ix5 0 h 0 d r)
  · have hs : seq t r = (⟨t.val / 4, by have : t.val < 128 := t.isLt; omega⟩ : Fin 32) := Fin.ext (by show (t.val * 512 + r.val) / 2048 = t.val / 4; omega)
    have hp : pos t r = (⟨t.val % 4 * 512 + r, by omega⟩ : Fin 2048) := Fin.ext (by show (t.val * 512 + r.val) % 2048 = t.val % 4 * 512 + r.val; omega)
    have e := opened_at m c t r ⟨h.val * 256 + (128 + d.val), by omega⟩
    rw [hs, hp] at e
    exact e

end Cert.ProjIdeal.Tile

end
-- ==== Proof.ProjClaim.lean ====
/-
  The projection's claims: its programs' frames, its named constants, and that the tiled kernel and the reference leave the
  same six arrays.
-/
module

public import proofs.«01_k».proof.Defs
public import proofs.«01_k».proof.Proof.Gen.Proj.Frame
public import proofs.«01_k».proof.Proof.ProjLatent
public import proofs.«01_k».proof.Proof.Gen.ProjRefIdeal.Run

@[expose] public section

noncomputable section

namespace Cert.ProjClaim

open Idealize.ShloMosaic Idealize.SL.Sem
open Cert.ProjRefIdeal.Rows (q_eq k_eq v_eq vt_eq decay_eq tile_eq)

/-- The reference's run, with its counters: the program declares no semaphore. -/
theorem frame_ref : Cert.quiescent_ProjRefIdeal (hProjRefIdeal := Cert.ProjRefIdeal.Gen.facts) := fun m ρ _ =>
  (θ_run Cert.ProjRefIdeal.defs _ _).mono (fun r h => ⟨fun c => (h c).2.2.2.2.2.2, sem_eq_zero_of_no_sems (by decide) r.2⟩)
    (Cert.ProjRefIdeal.Value.run m ρ)

/-- The two constants read as the real numbers they round. -/
theorem named : Cert.preserves_Proj_ProjIdeal :=
  ⟨IdealRules.named_const.statement Cert.ProjIdeal.κ "root" .f32 0x3DB504F3#32 _ rfl,
    IdealRules.named_const.statement Cert.ProjIdeal.κ "scale" .f32 0x3DD53B95#32 _ rfl⟩

set_option maxHeartbeats 2000000 in
/-- Over the extended reals the projection kernel and its reference leave the same queries, keys, values, turned values,
    decays and tiles of the latent attention's values, for any arguments. -/
theorem equal : Cert.algebraic_ProjIdeal_ProjRefIdeal (hProjIdeal := Cert.ProjIdeal.Gen.facts)
    (hProjRefIdeal := Cert.ProjRefIdeal.Gen.facts) := by
  intro m g m' g' _ hargs
  refine ⟨fun c => (Cert.ProjIdeal.Gen.dats m 0 c).arrAt 10 Cert.ProjIdeal.cfg0.N, fun c => (Cert.ProjIdeal.Gen.dats m 0 c).arrAt 11 Cert.ProjIdeal.cfg0.N,
    fun c => (Cert.ProjIdeal.Gen.dats m 0 c).arrAt 12 Cert.ProjIdeal.cfg0.N, fun c => (Cert.ProjIdeal.Gen.dats m 0 c).arrAt 13 Cert.ProjIdeal.cfg0.N,
    fun c => (Cert.ProjIdeal.Gen.dats m 0 c).arrAt 14 Cert.ProjIdeal.cfg0.N, fun c => (Cert.ProjIdeal.Gen.dats m 0 c).arrAt 17 Cert.ProjIdeal.cfg0.N, ?_, ?_⟩
  · exact (θ_run Cert.ProjIdeal.defs _ _).mono
      (fun r h c => ⟨(h c).1, (h c).2.1, (h c).2.2.1, (h c).2.2.2.1, (h c).2.2.2.2.1, (h c).2.2.2.2.2.2.2.1, (h c).2.2.2.2.2.2.2.2⟩)
      (Cert.ProjIdeal.Value.run_blocks m g)
  · refine (θ_run Cert.ProjRefIdeal.defs _ _).mono (fun r h c => ?_) (Cert.ProjRefIdeal.Value.run m' g')
    obtain ⟨h0, -, h2, h3, h4, -, -, h7, h8⟩ := hargs c
    obtain ⟨q, k, v, vt, dec, tile, rest⟩ := h c
    refine ⟨q.trans ?_, k.trans ?_, v.trans ?_, vt.trans ?_, dec.trans ?_, tile.trans ?_, rest⟩
    · refine ((Cert.ProjRefIdeal.Read.val_main_v24_eq _ _).trans (q_eq _ _)).trans ?_
      rw [h0, h2]
      exact (Cert.ProjIdeal.Tile.final_q m c).symm
    · refine ((Cert.ProjRefIdeal.Read.val_main_v26_eq _ _).trans (k_eq _ _)).trans ?_
      rw [h0, h2]
      exact (Cert.ProjIdeal.Tile.final_k m c).symm
    · refine ((Cert.ProjRefIdeal.Read.val_main_v28_eq _ _).trans (v_eq _ _)).trans ?_
      rw [h0, h2]
      exact (Cert.ProjIdeal.Tile.final_v m c).symm
    · refine ((Cert.ProjRefIdeal.Read.val_main_v29_eq _ _).trans (vt_eq _ _)).trans ?_
      rw [h0, h2]
      exact (Cert.ProjIdeal.Tile.final_vt m c).symm
    · refine ((Cert.ProjRefIdeal.Read.val_main_v30_eq _ _ _ _).trans (decay_eq _ _ _ _)).trans ?_
      rw [h0, h2, h3, h4]
      exact (Cert.ProjIdeal.Tile.final_decay m c).symm
    · refine ((Cert.ProjRefIdeal.Read.val_main_v49_eq _ _ _ _).trans (tile_eq _ _ _ _)).trans ?_
      rw [h0, h2, h7, h8]
      exact (Cert.ProjIdeal.Tile.final_tile m c).symm

end Cert.ProjClaim

end
-- ==== Proof.FfnTile.lean ====
/-
  The feed-forward kernel's stored chunks, read at an index: the up-projection of the rows, the three-row convolution, the gate.
-/
module

public import proofs.«01_k».proof.Proof.Gen.FfnIdeal.Value
public import proofs.«01_k».proof.Proof.Row
public import Idealize.ShloMosaic.Lib.Pipeline.ValueKit
public import Idealize.ShloMosaic.Lib.WritesUnit

@[expose] public section

noncomputable section

namespace Cert.FfnIdeal.Tile

open Cert.FfnIdeal Cert.FfnIdeal.Gen Cert.Row Idealize.ShloMosaic.ValueIdx Idealize.ShloMosaic.TcCoe
open Idealize.ShloMosaic hiding ix1 ix2 ix3 ix4
open scoped BigOperators

/-- One entry of the up-projection of a row. -/
def up (x : Fin 1024 → EReal) (w : Fin 1024 → Fin 5632 → EReal) (c : Fin 5632) : EReal := ∑ k, x k * w k c

/-- The convolution over three neighbouring rows, newest first as the kernel adds them. -/
def conv (x2 x1 x0 : Fin 1024 → EReal) (w : Fin 1024 → Fin 5632 → EReal) (cw : Fin 3 → Fin 5632 → EReal) (cb : Fin 5632 → EReal)
    (c : Fin 5632) : EReal :=
  cw 2 c * up x2 w c + cw 1 c * up x1 w c + cw 0 c * up x0 w c + cb c

/-- One entry of the gated features of a row. -/
def feat (x2 x1 x0 : Fin 1024 → EReal) (w : Fin 1024 → Fin 5632 → EReal) (cw : Fin 3 → Fin 5632 → EReal) (cb : Fin 5632 → EReal)
    (c : Fin 2816) : EReal :=
  silu (conv x2 x1 x0 w cw cb ⟨c, by omega⟩) * conv x2 x1 x0 w cw cb ⟨2816 + c, by omega⟩

/-- One row of the result. -/
def ffnRow (x2 x1 x0 : Fin 1024 → EReal) (w : Fin 1024 → Fin 5632 → EReal) (cw : Fin 3 → Fin 5632 → EReal) (cb : Fin 5632 → EReal)
    (wd : Fin 2816 → Fin 1024 → EReal) (g b : Fin 1024 → EReal) (d : Fin 1024) : EReal :=
  norm (blend x2 fun d => ∑ j, feat x2 x1 x0 w cw cb j * wd j d) g b d

/-- A slab of rows with a leading axis of one taken off, read at an index. -/
theorem drop_axis {M N : Nat} {φ : FTy} (v : FVec Ideal ⟨3, ![1, M, N]⟩ φ) (h : (⟨3, ![1, M, N]⟩ : Shape).ShapeCasts ⟨2, ![M, N]⟩) (r : Fin M) (c : Fin N) :
    shapeCast ⟨2, ![M, N]⟩ v h (ix2 r c) = v (ix3 0 r c) := by
  refine shapeCast_apply v h _ _ ?_
  simp only [Shape.rowMajor_val_two, Shape.rowMajor_val_three]
  show (0 * M + (r : ℕ)) * N + c = (r : ℕ) * N + c
  rw [Nat.zero_mul, Nat.zero_add]

/-- Rows given a leading axis of one, read at an index. -/
theorem add_axis {M N : Nat} {φ : FTy} (v : FVec Ideal ⟨2, ![M, N]⟩ φ) (h : (⟨2, ![M, N]⟩ : Shape).ShapeCasts ⟨3, ![1, M, N]⟩) (z : Fin 1) (r : Fin M) (c : Fin N) :
    shapeCast ⟨3, ![1, M, N]⟩ v h (ix3 z r c) = v (ix2 r c) := by
  refine shapeCast_apply v h _ _ ?_
  simp only [Shape.rowMajor_val_two, Shape.rowMajor_val_three]
  show (r : ℕ) * N + c = ((z : ℕ) * M + (r : ℕ)) * N + c
  rw [show (z : ℕ) = 0 by omega, Nat.zero_mul, Nat.zero_add]

/-- A chunk of the up-projection, read at an index. -/
theorem up_at (xs : FVec Ideal S1x528x1024 .bf16) (w : FVec Ideal S1024x256 .bf16) (z : Fin 1) (r : Fin 528) (c : Fin 256) :
    k0_pay7 (F := Ideal) xs w (ix3 z r c) = ∑ k, xs (ix3 0 r k) * w (ix2 k c) := by
  unfold k0_pay7 k0_pay6
  refine (add_axis _ _ z r c).trans ((rows_times none _ _ r c).trans ?_)
  simp only [drop_axis, shapeCast_self]

/-- The convolution's row of weights, spread over the rows. -/
theorem tap (cw : FVec Ideal S3x256 .f32) (o : Nat) (ho : o < 3) (h : S3x256.Slices ![o, 0] S1x256) (hb : S1x256.Broadcasts S512x256)
    (r : Fin 512) (c : Fin 256) :
    broadcastTo S512x256 (extractStridedSlice S1x256 ![o, 0] cw h) hb (ix2 r c) = cw (ix2 ⟨o, ho⟩ c) := by
  refine (spread_row _ _ r c).trans (extractStridedSlice_apply _ _ _ _ _ ?_)
  intro a; match a with | ⟨0, _⟩ => rfl | ⟨1, _⟩ => exact (Nat.zero_add _).symm

/-- The convolution of a chunk, read at an index. -/
theorem conv_at (cw : FVec Ideal S3x256 .f32) (cb : FVec Ideal S1x256 .f32) (u2 u1 u0 : FVec Ideal S1x512x256 .f32) (r : Fin 512) (c : Fin 256) :
    k0_pay12 (F := Ideal) cw cb u2 u1 u0 (ix2 r c)
      = cw (ix2 2 c) * u2 (ix3 0 r c) + cw (ix2 1 c) * u1 (ix3 0 r c) + cw (ix2 0 c) * u0 (ix3 0 r c) + cb (ix2 0 c) := by
  unfold k0_pay12
  simp only [addf_apply, mulf_apply, drop_axis, shapeCast_self, spread_row, tap _ 2 (by decide), tap _ 1 (by decide), tap _ 0 (by decide)]
  rfl

/-- A chunk of the gated features is the gate of one convolution times the other. -/
theorem gated_at (a : FVec Ideal S512x256 .f32) (cw : FVec Ideal S3x256 .f32) (cb : FVec Ideal S1x256 .f32)
    (u2 u1 u0 : FVec Ideal S1x512x256 .f32) (z : Fin 1) (r : Fin 512) (c : Fin 256) :
    k0_pay16 (F := Ideal) a cw (k0_pay13 cb) (k0_pay14 cw) (k0_pay15 u2) u1 u0 (ix3 z r c)
      = silu (a (ix2 r c)) * k0_pay12 (F := Ideal) cw cb u2 u1 u0 (ix2 r c) := by
  unfold k0_pay16
  refine (add_axis _ _ z r c).trans ?_
  unfold silu gate; rw [← zero_minus]
  rfl

variable {sig : RefSig} {κ : Kind} {sp : Space}

/-- The rectangle of a slot, and of the rows of a slot from one on. -/
abbrev Slot (s : Nat) := ∀ a, (![s, 0, 0] : Fin 3 → Nat) a + S1x528x256.size a ≤ S2x528x256.size a
abbrev From (s o : Nat) := ∀ a, (![s, o, 0] : Fin 3 → Nat) a + S1x512x256.size a ≤ S2x528x256.size a

/-- A load of rows from the slot the newest store filled. -/
theorem back_hit {s o : Nat} (v : View sig κ sp S2x528x256 .f32) (inbP : Slot s) (P : FVec Ideal S1x528x256 .f32)
    (L : List (View.Piece (Elt Ideal) S2x528x256 .f32)) (inbB : From s o) (r : Fin 512) (c : Fin 256) (ho : o + 512 ≤ 528) :
    v.readCov (Val := Elt Ideal) (⟨Rect.unit (s := S2x528x256) ![s, 0, 0] S1x528x256.size inbP, P⟩ :: L)
      (Rect.unit (s := S2x528x256) ![s, o, 0] S1x512x256.size inbB).toLoadRect (ix3 0 r c)
      = P (ix3 0 ⟨o + r, by omega⟩ c) := by
  refine View.read_writes_cons_unit_of_mem v _ inbP P L _ (ix3 0 ⟨o + r, by omega⟩ c) rfl ?_
  intro a
  match a with
  | ⟨0, _⟩ => rfl
  | ⟨1, _⟩ => show o + 1 * (r : ℕ) = 0 + (o + r); omega
  | ⟨2, _⟩ => show 0 + 1 * (c : ℕ) = 0 + c; omega

theorem skip_at {s' : Nat} (v : View sig κ sp S2x528x256 .f32) (inbP : Slot s') (P : FVec Ideal S1x528x256 .f32)
    (L : List (View.Piece (Elt Ideal) S2x528x256 .f32)) (y : S2x528x256.Idx) (h : (y 0).val < s' ∨ s' + 1 ≤ (y 0).val) :
    v.read (Elt Ideal) (v.writes (Elt Ideal) v.junk (⟨Rect.unit (s := S2x528x256) ![s', 0, 0] S1x528x256.size inbP, P⟩ :: L)) y
      = v.read (Elt Ideal) (v.writes (Elt Ideal) v.junk L) y :=
  View.read_writes_cons_unit_of_not_mem (Val := Elt Ideal) v v.junk (off := ![s', 0, 0]) (off' := ![s', 0, 0]) (size := S1x528x256.size)
    inbP P L y rfl 0 h

/-- A load of rows from the other slot than the newest store's. -/
theorem back_skip {s s' o : Nat} (v : View sig κ sp S2x528x256 .f32) (inbP : Slot s') (P : FVec Ideal S1x528x256 .f32)
    (L : List (View.Piece (Elt Ideal) S2x528x256 .f32)) (inbB : From s o) (r : Fin 512) (c : Fin 256) (h : s' + 1 = s ∨ s + 1 = s') :
    v.readCov (Val := Elt Ideal) (⟨Rect.unit (s := S2x528x256) ![s', 0, 0] S1x528x256.size inbP, P⟩ :: L)
        (Rect.unit (s := S2x528x256) ![s, o, 0] S1x512x256.size inbB).toLoadRect (ix3 0 r c)
      = v.readCov (Val := Elt Ideal) L (Rect.unit (s := S2x528x256) ![s, o, 0] S1x512x256.size inbB).toLoadRect (ix3 0 r c) := by
  refine skip_at v inbP P L _ ?_
  show s + 1 * 0 < s' ∨ s' + 1 ≤ s + 1 * 0
  omega

end Cert.FfnIdeal.Tile

end
-- ==== Proof.FfnChunk.lean ====
/-
  The feed-forward kernel's scratch buffers: the bordered rows of both tiles, and the gated features written a chunk of columns at a time.
-/
module

public import proofs.«01_k».proof.Proof.FfnTile

@[expose] public section

noncomputable section

namespace Cert.FfnIdeal.Tile

open Cert.FfnIdeal Cert.FfnIdeal.Gen Cert.Row Idealize.ShloMosaic.ValueIdx Idealize.ShloMosaic.TcCoe
open Idealize.ShloMosaic hiding ix1 ix2 ix3 ix4
open scoped BigOperators

/-- Where a box of a rank-three array puts an index. -/
theorem place3 {A B C h w l o p q : Nat} (inb : ∀ a, (![o, p, q] : Fin 3 → Nat) a + (![h, w, l] : Fin 3 → Nat) a ≤ (⟨3, ![A, B, C]⟩ : Shape).size a)
    (r : Fin h) (d : Fin w) (e : Fin l) (i : Fin A) (j : Fin B) (k : Fin C) (hi : i.val = o + r) (hj : j.val = p + d) (hk : k.val = q + e) :
    (Rect.unit (s := ⟨3, ![A, B, C]⟩) ![o, p, q] ![h, w, l] inb).emb (ix3 r d e) = ix3 i j k := by
  funext a
  match a with
  | ⟨0, _⟩ => exact Fin.ext ((congrArg (o + ·) (Nat.one_mul r.val)).trans hi.symm)
  | ⟨1, _⟩ => exact Fin.ext ((congrArg (p + ·) (Nat.one_mul d.val)).trans hj.symm)
  | ⟨2, _⟩ => exact Fin.ext ((congrArg (q + ·) (Nat.one_mul e.val)).trans hk.symm)

/-- The gated features of both tiles from their bordered rows. -/
def featArr (X : Fin 2 → Fin 528 → Fin 1024 → EReal) (w : Fin 1024 → Fin 5632 → EReal) (cw : Fin 3 → Fin 5632 → EReal)
    (cb : Fin 5632 → EReal) : FVec Ideal S2x512x2816 .bf16 := fun y =>
  have h : (y 1).val < 512 := (y 1).isLt
  feat (X (y 0) ⟨16 + (y 1).val, by omega⟩) (X (y 0) ⟨15 + (y 1).val, by omega⟩) (X (y 0) ⟨14 + (y 1).val, by omega⟩) w cw cb (y 2)

/-- A stored chunk of features is the features' array where it is stored. -/
theorem chunk (t : Fin 2) {s p : Nat} (X : Fin 2 → Fin 528 → Fin 1024 → EReal) (w : Fin 1024 → Fin 5632 → EReal) (cw : Fin 3 → Fin 5632 → EReal)
    (cb : Fin 5632 → EReal) (hs : t.val = s) (hp : p + 256 ≤ 2816)
    (inb : ∀ a, (![s, 0, p] : Fin 3 → Nat) a + S1x512x256.size a ≤ S2x512x2816.size a)
    {a a' : FVec Ideal S3x256 .f32} {b b' : FVec Ideal S1x256 .f32} {u2 u1 u0 v2 v1 v0 : FVec Ideal S1x512x256 .f32}
    (ha : ∀ o d, a (ix2 o d) = cw o ⟨p + d, by omega⟩) (ha' : ∀ o d, a' (ix2 o d) = cw o ⟨2816 + p + d, by omega⟩)
    (hb : ∀ d, b (ix2 0 d) = cb ⟨p + d, by omega⟩) (hb' : ∀ d, b' (ix2 0 d) = cb ⟨2816 + p + d, by omega⟩)
    (h2 : ∀ r d, u2 (ix3 0 r d) = up (X t ⟨16 + r, by omega⟩) w ⟨p + d, by omega⟩)
    (h1 : ∀ r d, u1 (ix3 0 r d) = up (X t ⟨15 + r, by omega⟩) w ⟨p + d, by omega⟩)
    (h0 : ∀ r d, u0 (ix3 0 r d) = up (X t ⟨14 + r, by omega⟩) w ⟨p + d, by omega⟩)
    (g2 : ∀ r d, v2 (ix3 0 r d) = up (X t ⟨16 + r, by omega⟩) w ⟨2816 + p + d, by omega⟩)
    (g1 : ∀ r d, v1 (ix3 0 r d) = up (X t ⟨15 + r, by omega⟩) w ⟨2816 + p + d, by omega⟩)
    (g0 : ∀ r d, v0 (ix3 0 r d) = up (X t ⟨14 + r, by omega⟩) w ⟨2816 + p + d, by omega⟩)
    (x : S1x512x256.Idx) :
    k0_pay16 (F := Ideal) (k0_pay12 a b u2 u1 u0) a' (k0_pay13 b') (k0_pay14 a') (k0_pay15 v2) v1 v0 x
      = featArr X w cw cb ((Rect.unit (s := S2x512x2816) ![s, 0, p] S1x512x256.size inb).emb x) := by
  obtain ⟨z, r, d, rfl⟩ : ∃ z r d, x = ix3 z r d := ⟨x 0, x 1, x 2, ValueIdx.eq_ix3 x⟩
  have hz : z.val = 0 := by have := z.isLt; omega
  rw [gated_at, conv_at, conv_at, ha, ha, ha, ha', ha', ha', hb, hb', h2, h1, h0, g2, g1, g0,
    show (Rect.unit (s := S2x512x2816) ![s, 0, p] S1x512x256.size inb).emb (ix3 z r d) = ix3 t r ⟨p + d, by omega⟩ from
      place3 inb z r d _ _ _ (by omega) (Nat.zero_add _).symm rfl]
  have e : (⟨2816 + p + d, by omega⟩ : Fin 5632) = ⟨2816 + (p + d), by omega⟩ := Fin.ext (by show 2816 + p + d.val = 2816 + (p + d); omega)
  rw [e]
  rfl

variable {sig' : RefSig} {κ : Kind} {sp : Space}

/-- A load of a buffer held whole reads it where the box lies. -/
theorem load_at {s : Shape} {e : EltTy} {M : Memref sig' κ sp s e} (h : M.IsWhole) (x : s.Idx → Elt Ideal e) (B : LoadRect s) (j : B.shape.Idx) :
    View.readAt (Elt Ideal) M.view B (h.unread x) j = x (B.idx j) :=
  congrFun (h.read_unread x) _

/-- A load of all the rows of a matrix from a column on. -/
theorem cols {M' N : Nat} {K : Nat} {e : EltTy} {M : Memref sig' κ sp ⟨2, ![M', N]⟩ e} (h : M.IsWhole) (x : (⟨2, ![M', N]⟩ : Shape).Idx → Elt Ideal e)
    {q q' : Nat} (inb : ∀ a, (![0, q] : Fin 2 → Nat) a + (![M', K] : Fin 2 → Nat) a ≤ (⟨2, ![M', N]⟩ : Shape).size a) (r : Fin M') (d : Fin K)
    (hq : q = q') (hd : q' + d < N) :
    View.readAt (Elt Ideal) M.view (Rect.unit (s := ⟨2, ![M', N]⟩) ![0, q] ![M', K] inb).toLoadRect (h.unread x) (ix2 r d) = x (ix2 r ⟨q' + d, hd⟩) := by
  subst hq
  exact (load_at h x _ _).trans (congrArg x (place inb r d r ⟨q + d, hd⟩ (Nat.zero_add _).symm rfl))

variable (c : Dev nD) (i : grid0.Coords) (arg1 : Memref sig .tc .vmem S1024x1024 .f32) (harg1 : arg1.IsWhole) (arg2 : Memref sig .tc .vmem S16x1024 .f32) (harg2 : arg2.IsWhole)
  (arg3 : Memref sig .tc .vmem S1024x5632 .bf16) (harg3 : arg3.IsWhole) (arg4 : Memref sig .tc .vmem S3x5632 .f32) (harg4 : arg4.IsWhole)
  (arg5 : Memref sig .tc .vmem S1x5632 .f32) (harg5 : arg5.IsWhole) (arg6 : Memref sig .tc .vmem S2816x1024 .bf16) (harg6 : arg6.IsWhole)
  (arg10 : Memref sig .tc .vmem S2x528x1024 .bf16) (arg11 : Memref sig .tc .vmem S2x512x2816 .bf16) (arg12 arg13 : Memref sig .tc .vmem S2x528x256 .f32)
  (x0 : FVec Ideal S1024x1024 .f32) (x1 : FVec Ideal S16x1024 .f32) (x2 : FVec Ideal S1024x5632 .bf16) (x3 : FVec Ideal S3x5632 .f32)
  (x4 : FVec Ideal S1x5632 .f32) (x5 : FVec Ideal S2816x1024 .bf16)

/-- The bordered rows of the two tiles: sixteen rows above each tile and the tile. -/
def slab : FVec Ideal S2x528x1024 .bf16 := fun y =>
  if h : (y 0).val = 0 then
    if h' : (y 1).val < 16 then k0_pay2 (F := Ideal) i x1 (ix3 0 ⟨(y 1).val, h'⟩ (y 2))
    else x0 (ix2 ⟨(y 1).val - 16, by have h : (y 1).val < 528 := (y 1).isLt; omega⟩ (y 2))
  else x0 (ix2 ⟨496 + (y 1).val, by have h : (y 1).val < 528 := (y 1).isLt; omega⟩ (y 2))

set_option maxHeartbeats 400000 in
open kernelRun0_A in
/-- The eleven column blocks stored for the first tile hold the tile's features. -/
theorem feat_pieces0 (hX : ∀ r k, sl.v37 (F := Ideal) c i arg1 harg1 arg2 harg2 arg10 x0 x1 (ix3 0 r k) = slab i x0 x1 (ix3 0 r k)) :
    ∀ p ∈ sl.HS1_11 (F := Ideal) c i arg1 harg1 arg2 harg2 arg3 harg3 arg4 harg4 arg5 harg5 arg10 arg12 arg13 x0 x1 x2 x3 x4, ∀ x : p.1.shape.Idx,
      p.2 x = featArr (fun t r k => slab i x0 x1 (ix3 t r k)) (fun k c => x2 (ix2 k c)) (fun o c => x3 (ix2 o c)) (fun c => x4 (ix2 0 c)) (p.1.emb x) := by
  intro p hp
  revert p
  unfold sl.HS1_11
  simp only [List.forall_mem_cons, sl.r_1, sl.r_2, sl.r_3, sl.r_4, sl.r_5, sl.r_7, sl.r_8, sl.r_9, sl.r_10, sl.r_13, sl.r_14, sl.r_15, sl.r_16, sl.r_19, sl.r_20, sl.r_21, sl.r_22, sl.r_25, sl.r_26, sl.r_27, sl.r_28, sl.r_31, sl.r_32, sl.r_33, sl.r_34, sl.r_37, sl.r_38, sl.r_39, sl.r_42, sl.r_43, sl.r_44, sl.r_47, sl.r_48, sl.r_51, sl.r_52, sl.r_53, sl.r_54, sl.r_55, sl.r_56, sl.r_57, sl.r_58, k0_pay12, k0_pay13, k0_pay14, k0_pay15, k0_pay16, k0_pay20, k0_pay21, k0_pay22, k0_pay23, k0_pay27, k0_pay28, k0_pay29, k0_pay30, k0_pay35, k0_pay36, k0_pay37, k0_pay38, k0_pay43, k0_pay44, k0_pay45, k0_pay46, k0_pay51, k0_pay52, k0_pay53, k0_pay54, k0_pay59, k0_pay60, k0_pay61, k0_pay66, k0_pay67, k0_pay72, k0_pay73, k0_pay78, k0_pay79, k0_pay80, k0_pay81, k0_pay82, k0_pay83, k0_pay84, k0_pay85]
  have hc := @chunk 0
  simp only [k0_pay12, k0_pay13, k0_pay14, k0_pay15, k0_pay16] at hc
  have hu := @up_at
  simp only [k0_pay6, k0_pay7] at hu
  refine ⟨fun x => ?_, fun x => ?_, fun x => ?_, fun x => ?_, fun x => ?_, fun x => ?_, fun x => ?_, fun x => ?_, fun x => ?_, fun x => ?_, fun x => ?_,
    fun _ h => absurd h List.not_mem_nil⟩
  all_goals
    refine hc (s := 0) _ _ _ _ rfl (by decide) _ (fun o d => cols harg4 x3 _ o d rfl _) (fun o d => cols harg4 x3 _ o d rfl _)
      (fun d => cols harg5 x4 _ 0 d rfl _) (fun d => cols harg5 x4 _ 0 d rfl _) ?_ ?_ ?_ ?_ ?_ ?_ _
  all_goals intro r d
  all_goals first
    | refine (back_skip _ _ _ _ _ r d (by decide)).trans ?_
      refine (back_hit _ _ _ _ _ r d (by decide)).trans ?_
    | refine (back_hit _ _ _ _ _ r d (by decide)).trans ?_
  all_goals simp only [sl.r, sl.r_6, sl.r_11, sl.r_12, sl.r_17, sl.r_18, sl.r_23, sl.r_24, sl.r_29, sl.r_30, sl.r_35, sl.r_36, sl.r_40, sl.r_41, sl.r_45, sl.r_46, sl.r_49, sl.r_50, k0_pay6, k0_pay7, k0_pay8, k0_pay9, k0_pay10, k0_pay11, k0_pay17, k0_pay18, k0_pay19, k0_pay24, k0_pay25, k0_pay26, k0_pay31, k0_pay32, k0_pay33, k0_pay34, k0_pay39, k0_pay40, k0_pay41, k0_pay42, k0_pay47, k0_pay48, k0_pay49, k0_pay50, k0_pay55, k0_pay56, k0_pay57, k0_pay58, k0_pay62, k0_pay63, k0_pay64, k0_pay65, k0_pay68, k0_pay69, k0_pay70, k0_pay71, k0_pay74, k0_pay75, k0_pay76, k0_pay77]
  all_goals refine (hu _ _ _ _ _).trans ?_
  all_goals exact Finset.sum_congr rfl fun k _ => congrArg₂ (· * ·) (hX _ k) (cols harg3 x2 _ k d rfl _)

set_option maxHeartbeats 400000 in
open kernelRun0_A in
/-- The eleven column blocks stored for the second tile hold the tile's features. -/
theorem feat_pieces1 (hX0 : ∀ r k, sl.v37 (F := Ideal) c i arg1 harg1 arg2 harg2 arg10 x0 x1 (ix3 0 r k) = slab i x0 x1 (ix3 0 r k))
    (hX : ∀ r k, sl.v853 (F := Ideal) c i arg1 harg1 arg2 harg2 arg10 x0 x1 (ix3 0 r k) = slab i x0 x1 (ix3 1 r k)) :
    ∀ p ∈ sl.HS1_22 (F := Ideal) c i arg1 harg1 arg2 harg2 arg3 harg3 arg4 harg4 arg5 harg5 arg10 arg12 arg13 x0 x1 x2 x3 x4, ∀ x : p.1.shape.Idx,
      p.2 x = featArr (fun t r k => slab i x0 x1 (ix3 t r k)) (fun k c => x2 (ix2 k c)) (fun o c => x3 (ix2 o c)) (fun c => x4 (ix2 0 c)) (p.1.emb x) := by
  intro p hp
  revert p
  unfold sl.HS1_22
  simp only [List.forall_mem_cons, sl.r_2, sl.r_8, sl.r_14, sl.r_20, sl.r_65, sl.r_66, sl.r_69, sl.r_72, sl.r_75, sl.r_78, sl.r_80, sl.r_82, sl.r_84, sl.r_85, sl.r_86, sl.r_87, sl.r_88, sl.r_89, sl.r_90, sl.r_91, sl.r_92, sl.r_93, sl.r_94, k0_pay98, k0_pay99, k0_pay104, k0_pay105, k0_pay110, k0_pay111, k0_pay116, k0_pay117, k0_pay121, k0_pay122, k0_pay126, k0_pay127, k0_pay131, k0_pay132, k0_pay136, k0_pay137, k0_pay138, k0_pay142, k0_pay143, k0_pay144, k0_pay148, k0_pay149, k0_pay150, k0_pay151, k0_pay152, k0_pay153, k0_pay154, k0_pay155, k0_pay156]
  have hc := @chunk 1
  simp only [k0_pay12, k0_pay13, k0_pay14, k0_pay15, k0_pay16] at hc
  have hu := @up_at
  simp only [k0_pay6, k0_pay7] at hu
  refine ⟨fun x => ?_, fun x => ?_, fun x => ?_, fun x => ?_, fun x => ?_, fun x => ?_, fun x => ?_, fun x => ?_, fun x => ?_, fun x => ?_, fun x => ?_,
    feat_pieces0 c i arg1 harg1 arg2 harg2 arg3 harg3 arg4 harg4 arg5 harg5 arg10 arg12 arg13 x0 x1 x2 x3 x4 hX0⟩
  all_goals
    refine hc (s := 1) _ _ _ _ rfl (by decide) _ (fun o d => cols harg4 x3 _ o d rfl _) (fun o d => cols harg4 x3 _ o d rfl _)
      (fun d => cols harg5 x4 _ 0 d rfl _) (fun d => cols harg5 x4 _ 0 d rfl _) ?_ ?_ ?_ ?_ ?_ ?_ _
  all_goals intro r d
  all_goals first
    | refine (back_skip _ _ _ _ _ r d (by decide)).trans ?_
      refine (back_hit _ _ _ _ _ r d (by decide)).trans ?_
    | refine (back_hit _ _ _ _ _ r d (by decide)).trans ?_
  all_goals simp only [sl.r_63, sl.r_64, sl.r_67, sl.r_68, sl.r_70, sl.r_71, sl.r_73, sl.r_74, sl.r_76, sl.r_77, sl.r_79, sl.r_81, sl.r_83, k0_pay91, k0_pay92, k0_pay93, k0_pay94, k0_pay95, k0_pay96, k0_pay97, k0_pay100, k0_pay101, k0_pay102, k0_pay103, k0_pay106, k0_pay107, k0_pay108, k0_pay109, k0_pay112, k0_pay113, k0_pay114, k0_pay115, k0_pay118, k0_pay119, k0_pay120, k0_pay123, k0_pay124, k0_pay125, k0_pay128, k0_pay129, k0_pay130, k0_pay133, k0_pay134, k0_pay135, k0_pay139, k0_pay140, k0_pay141, k0_pay145, k0_pay146, k0_pay147]
  all_goals refine (hu _ _ _ _ _).trans ?_
  all_goals exact Finset.sum_congr rfl fun k _ => congrArg₂ (· * ·) (hX _ k) (cols harg3 x2 _ k d rfl _)

end Cert.FfnIdeal.Tile
-- ==== Proof.FfnRows.lean ====
/-
  What the feed-forward kernel's buffers hold when they are read: the bordered rows, then the gated features, of each tile.
-/
module

public import proofs.«01_k».proof.Proof.FfnChunk

@[expose] public section

noncomputable section

namespace Cert.FfnIdeal.Tile

open Cert.FfnIdeal Cert.FfnIdeal.Gen Cert.Row Idealize.ShloMosaic.ValueIdx Idealize.ShloMosaic.TcCoe
open Idealize.ShloMosaic hiding ix1 ix2 ix3 ix4
open scoped BigOperators

/-- A load of whole rows of a matrix from a row on. -/
theorem rows {sig' : RefSig} {κ : Kind} {sp : Space} {A B h q : Nat} {e : EltTy} {M : Memref sig' κ sp ⟨2, ![A, B]⟩ e} (hM : M.IsWhole)
    (x : (⟨2, ![A, B]⟩ : Shape).Idx → Elt Ideal e)
    (inb : ∀ a, (![q, 0] : Fin 2 → Nat) a + (![h, B] : Fin 2 → Nat) a ≤ (⟨2, ![A, B]⟩ : Shape).size a) (r : Fin h) (d : Fin B) (i : Fin A)
    (hi : i.val = q + r) :
    View.readAt (Elt Ideal) M.view (Rect.unit (s := ⟨2, ![A, B]⟩) ![q, 0] ![h, B] inb).toLoadRect (hM.unread x) (ix2 r d) = x (ix2 i d) :=
  (load_at hM x _ _).trans (congrArg x (place inb r d i d hi (Nat.zero_add _).symm))

/-- Which features of a tile a stored block of columns holds. -/
theorem inside {t : Fin 2} {s q : Nat} (ht : t.val = s) (inb : ∀ a, (![s, 0, q] : Fin 3 → Nat) a + S1x512x256.size a ≤ S2x512x2816.size a)
    (r : Fin 512) (j : Fin 2816) :
    ix3 t r j ∈ (Rect.unit (s := S2x512x2816) ![s, 0, q] S1x512x256.size inb).set ↔ q ≤ j.val ∧ j.val < q + 256 := by
  refine Rect.mem_set_unit.trans ⟨fun h => h 2, fun h a => ?_⟩
  match a with
  | ⟨0, _⟩ => exact ⟨ht.ge, by show t.val < s + 1; omega⟩
  | ⟨1, _⟩ => exact ⟨Nat.zero_le _, by show r.val < 0 + 512; omega⟩
  | ⟨2, _⟩ => exact h

variable (c : Dev nD) (i : grid0.Coords) (arg1 : Memref sig .tc .vmem S1024x1024 .f32) (harg1 : arg1.IsWhole) (arg2 : Memref sig .tc .vmem S16x1024 .f32) (harg2 : arg2.IsWhole)
  (arg3 : Memref sig .tc .vmem S1024x5632 .bf16) (harg3 : arg3.IsWhole) (arg4 : Memref sig .tc .vmem S3x5632 .f32) (harg4 : arg4.IsWhole)
  (arg5 : Memref sig .tc .vmem S1x5632 .f32) (harg5 : arg5.IsWhole)
  (arg10 : Memref sig .tc .vmem S2x528x1024 .bf16) (arg11 : Memref sig .tc .vmem S2x512x2816 .bf16) (arg12 arg13 : Memref sig .tc .vmem S2x528x256 .f32)
  (x0 : FVec Ideal S1024x1024 .f32) (x1 : FVec Ideal S16x1024 .f32) (x2 : FVec Ideal S1024x5632 .bf16) (x3 : FVec Ideal S3x5632 .f32)
  (x4 : FVec Ideal S1x5632 .f32)

theorem slab_border (z : Fin 2) (hz : z.val = 0) (r : Fin 528) (r' : Fin 16) (k : Fin 1024) (h : r.val = r'.val) :
    slab i x0 x1 (ix3 z r k) = k0_pay2 (F := Ideal) i x1 (ix3 0 r' k) := by
  refine (dif_pos (show z.val = 0 from hz)).trans ((dif_pos (show r.val < 16 by omega)).trans ?_)
  exact congrArg (fun j => k0_pay2 (F := Ideal) i x1 (ix3 0 j k)) (Fin.ext h)

theorem slab_first (z : Fin 2) (hz : z.val = 0) (r : Fin 528) (r' : Fin 1024) (k : Fin 1024) (h : r.val = 16 + r'.val) :
    slab i x0 x1 (ix3 z r k) = x0 (ix2 r' k) := by
  refine (dif_pos (show z.val = 0 from hz)).trans ((dif_neg (show ¬r.val < 16 by omega)).trans ?_)
  exact congrArg (fun j => x0 (ix2 j k)) (Fin.ext (by show r.val - 16 = r'.val; omega))

theorem slab_second (z : Fin 2) (hz : z.val = 1) (r : Fin 528) (r' : Fin 1024) (k : Fin 1024) (h : r'.val = 496 + r.val) :
    slab i x0 x1 (ix3 z r k) = x0 (ix2 r' k) := by
  refine (dif_neg (show ¬z.val = 0 by omega)).trans ?_
  exact congrArg (fun j => x0 (ix2 j k)) (Fin.ext h.symm)

/-- Which bordered rows a store holds. -/
theorem within {s o h : Nat} (inb : ∀ a, (![s, o, 0] : Fin 3 → Nat) a + (![1, h, 1024] : Fin 3 → Nat) a ≤ S2x528x1024.size a)
    (t : Fin 2) (r : Fin 528) (k : Fin 1024) :
    ix3 t r k ∈ (Rect.unit (s := S2x528x1024) ![s, o, 0] ![1, h, 1024] inb).set ↔ (s ≤ t.val ∧ t.val < s + 1) ∧ o ≤ r.val ∧ r.val < o + h := by
  refine Rect.mem_set_unit.trans ⟨fun h => ⟨h 0, h 1⟩, fun h a => ?_⟩
  match a with
  | ⟨0, _⟩ => exact h.1
  | ⟨1, _⟩ => exact h.2
  | ⟨2, _⟩ => exact ⟨Nat.zero_le _, by show k.val < 0 + 1024; omega⟩

/-- The stored rows are the loaded ones. -/
theorem kept5 (v : FVec Ideal S512x1024 .f32) (z : Fin 1) (r : Fin 512) (k : Fin 1024) : k0_pay5 (F := Ideal) v (ix3 z r k) = v (ix2 r k) := by
  unfold k0_pay5
  refine (add_axis _ _ z r k).trans ?_
  simp only [shapeCast_self]
  rfl

theorem kept4 (v : FVec Ideal S16x1024 .f32) (z : Fin 1) (r : Fin 16) (k : Fin 1024) : k0_pay4 (F := Ideal) v (ix3 z r k) = v (ix2 r k) := by
  unfold k0_pay4
  refine (add_axis _ _ z r k).trans ?_
  simp only [shapeCast_self]
  rfl

theorem kept3 (v : FVec Ideal S512x1024 .f32) (z : Fin 1) (r : Fin 512) (k : Fin 1024) : k0_pay3 (F := Ideal) v (ix3 z r k) = v (ix2 r k) := by
  unfold k0_pay3
  refine (add_axis _ _ z r k).trans ?_
  simp only [shapeCast_self]
  rfl

open kernelRun0_A in
/-- The four stores of the bordered rows. -/
theorem slab_pieces : ∀ p ∈ sl.HS0_4 (F := Ideal) c i arg1 harg1 arg2 harg2 x0 x1, ∀ x : p.1.shape.Idx, p.2 x = slab i x0 x1 (p.1.emb x) := by
  intro p hp
  unfold sl.HS0_4 at hp
  simp only [List.mem_cons, List.not_mem_nil, or_false] at hp
  rcases hp with rfl | rfl | rfl | rfl
  · intro x
    obtain ⟨z, r, k, rfl⟩ : ∃ z r k, x = ix3 z r k := ⟨x 0, x 1, x 2, ValueIdx.eq_ix3 x⟩
    refine Eq.trans ?_ ((congrArg (slab i x0 x1) (place3 inb_S2x528x1024_S1x512x1024_1_16_0 z r k (1 : Fin 2) (⟨16 + r, by omega⟩ : Fin 528) k (by show 1 = 1 + z.val; omega) rfl (Nat.zero_add _).symm)).trans
      (slab_second i x0 x1 1 rfl _ ⟨512 + r, by omega⟩ k (by show 512 + r.val = 496 + (16 + r.val); omega))).symm
    dsimp only
    refine (kept5 _ z r k).trans ?_
    exact rows harg1 x0 _ r k _ rfl
  · intro x
    obtain ⟨z, r, k, rfl⟩ : ∃ z r k, x = ix3 z r k := ⟨x 0, x 1, x 2, ValueIdx.eq_ix3 x⟩
    refine Eq.trans ?_ ((congrArg (slab i x0 x1) (place3 inb_S2x528x1024_S1x16x1024_1_0_0 z r k (1 : Fin 2) (⟨r, by omega⟩ : Fin 528) k (by show 1 = 1 + z.val; omega) (Nat.zero_add _).symm (Nat.zero_add _).symm)).trans
      (slab_second i x0 x1 1 rfl _ ⟨496 + r, by omega⟩ k rfl)).symm
    dsimp only
    refine (kept4 _ z r k).trans ?_
    exact rows harg1 x0 _ r k _ rfl
  · intro x
    obtain ⟨z, r, k, rfl⟩ : ∃ z r k, x = ix3 z r k := ⟨x 0, x 1, x 2, ValueIdx.eq_ix3 x⟩
    refine Eq.trans ?_ ((congrArg (slab i x0 x1) (place3 inb_S2x528x1024_S1x512x1024_0_16_0 z r k (0 : Fin 2) (⟨16 + r, by omega⟩ : Fin 528) k (by show 0 = 0 + z.val; omega) rfl (Nat.zero_add _).symm)).trans
      (slab_first i x0 x1 0 rfl _ ⟨r, by omega⟩ k rfl)).symm
    dsimp only
    refine (kept3 _ z r k).trans ?_
    exact rows harg1 x0 _ r k _ (Nat.zero_add _).symm
  · intro x
    obtain ⟨z, r, k, rfl⟩ : ∃ z r k, x = ix3 z r k := ⟨x 0, x 1, x 2, ValueIdx.eq_ix3 x⟩
    refine Eq.trans ?_ ((congrArg (slab i x0 x1) (place3 inb_S2x528x1024_S1x16x1024_0_0_0 z r k (0 : Fin 2) (⟨r, by omega⟩ : Fin 528) k (by show 0 = 0 + z.val; omega) (Nat.zero_add _).symm (Nat.zero_add _).symm)).trans
      (slab_border i x0 x1 0 rfl _ r k rfl)).symm
    have e : View.readAt (Elt Ideal) arg2.view (Rect.unit (s := S16x1024) ![0, 0] S16x1024.size inb_S16x1024_S16x1024_0_0).toLoadRect (harg2.unread x1) = x1 := by
      funext y
      obtain ⟨r, k, rfl⟩ : ∃ r k, y = ix2 r k := ⟨y 0, y 1, ValueIdx.eq_ix2 y⟩
      exact rows harg2 x1 _ r k _ (Nat.zero_add _).symm
    have hz : z = 0 := Fin.ext (by omega)
    rw [hz]
    exact congrArg (fun v => k0_pay2 (F := Ideal) i v (ix3 0 r k)) e

open kernelRun0_A in
theorem slab_cover (y : S2x528x1024.Idx) : ∃ p ∈ sl.HS0_4 (F := Ideal) c i arg1 harg1 arg2 harg2 x0 x1, y ∈ p.1.set := by
  obtain ⟨a, r, k, rfl⟩ : ∃ a r k, y = ix3 a r k := ⟨y 0, y 1, y 2, ValueIdx.eq_ix3 y⟩
  unfold sl.HS0_4
  simp only [List.mem_cons, exists_eq_or_imp, within]
  have ha : a.val < 2 := a.isLt
  have hr : r.val < 528 := r.isLt
  omega

open kernelRun0_A in
theorem first_slab (r : Fin 528) (k : Fin 1024) :
    sl.v37 (F := Ideal) c i arg1 harg1 arg2 harg2 arg10 x0 x1 (ix3 0 r k) = slab i x0 x1 (ix3 0 r k) := by
  refine (congrFun (View.readCov_eq_canon' _ _ _) _).trans ((congrArg (View.canon _)
    (place3 inb_S2x528x1024_S1x528x1024_0_0_0 0 r k 0 r k rfl (Nat.zero_add _).symm (Nat.zero_add _).symm)).trans ?_)
  exact View.canon_apply_of_pieces _ _ (slab_pieces c i arg1 harg1 arg2 harg2 x0 x1) _ (slab_cover c i arg1 harg1 arg2 harg2 x0 x1 _)

open kernelRun0_A in
theorem second_slab (r : Fin 528) (k : Fin 1024) :
    sl.v853 (F := Ideal) c i arg1 harg1 arg2 harg2 arg10 x0 x1 (ix3 0 r k) = slab i x0 x1 (ix3 1 r k) := by
  refine (congrFun (View.readCov_eq_canon' _ _ _) _).trans ((congrArg (View.canon _)
    (place3 inb_S2x528x1024_S1x528x1024_1_0_0 0 r k 1 r k rfl (Nat.zero_add _).symm (Nat.zero_add _).symm)).trans ?_)
  exact View.canon_apply_of_pieces _ _ (slab_pieces c i arg1 harg1 arg2 harg2 x0 x1) _ (slab_cover c i arg1 harg1 arg2 harg2 x0 x1 _)

/-- The features of both tiles. -/
abbrev feats : FVec Ideal S2x512x2816 .bf16 :=
  featArr (fun t r k => slab i x0 x1 (ix3 t r k)) (fun k c => x2 (ix2 k c)) (fun o c => x3 (ix2 o c)) (fun c => x4 (ix2 0 c))

open kernelRun0_A in
theorem first_cover (r : Fin 512) (j : Fin 2816) :
    ∃ p ∈ sl.HS1_11 (F := Ideal) c i arg1 harg1 arg2 harg2 arg3 harg3 arg4 harg4 arg5 harg5 arg10 arg12 arg13 x0 x1 x2 x3 x4, ix3 0 r j ∈ p.1.set := by
  unfold sl.HS1_11
  simp only [List.mem_cons, exists_eq_or_imp, inside (t := 0) (s := 0) rfl]
  have := j.isLt
  omega

open kernelRun0_A in
theorem second_cover (r : Fin 512) (j : Fin 2816) :
    ∃ p ∈ sl.HS1_22 (F := Ideal) c i arg1 harg1 arg2 harg2 arg3 harg3 arg4 harg4 arg5 harg5 arg10 arg12 arg13 x0 x1 x2 x3 x4, ix3 1 r j ∈ p.1.set := by
  unfold sl.HS1_22
  simp only [List.mem_cons, exists_eq_or_imp, inside (t := 1) (s := 1) rfl]
  have := j.isLt
  omega

open kernelRun0_A in
theorem first_feats (r : Fin 512) (j : Fin 2816) :
    sl.v822 (F := Ideal) c i arg1 harg1 arg2 harg2 arg3 harg3 arg4 harg4 arg5 harg5 arg10 arg11 arg12 arg13 x0 x1 x2 x3 x4 (ix3 0 r j)
      = feats i x0 x1 x2 x3 x4 (ix3 0 r j) := by
  refine (congrFun (View.readCov_eq_canon' _ _ _) _).trans ((congrArg (View.canon _)
    (place3 inb_S2x512x2816_S1x512x2816_0_0_0 0 r j 0 r j rfl (Nat.zero_add _).symm (Nat.zero_add _).symm)).trans ?_)
  exact View.canon_apply_of_pieces _ _ (feat_pieces0 c i arg1 harg1 arg2 harg2 arg3 harg3 arg4 harg4 arg5 harg5 arg10 arg12 arg13 x0 x1 x2 x3 x4
    (first_slab c i arg1 harg1 arg2 harg2 arg10 x0 x1)) _
    (first_cover c i arg1 harg1 arg2 harg2 arg3 harg3 arg4 harg4 arg5 harg5 arg10 arg12 arg13 x0 x1 x2 x3 x4 r j)

open kernelRun0_A in
theorem second_feats (r : Fin 512) (j : Fin 2816) :
    sl.v1638 (F := Ideal) c i arg1 harg1 arg2 harg2 arg3 harg3 arg4 harg4 arg5 harg5 arg10 arg11 arg12 arg13 x0 x1 x2 x3 x4 (ix3 0 r j)
      = feats i x0 x1 x2 x3 x4 (ix3 1 r j) := by
  refine (congrFun (View.readCov_eq_canon' _ _ _) _).trans ((congrArg (View.canon _)
    (place3 inb_S2x512x2816_S1x512x2816_1_0_0 0 r j 1 r j rfl (Nat.zero_add _).symm (Nat.zero_add _).symm)).trans ?_)
  exact View.canon_apply_of_pieces _ _ (feat_pieces1 c i arg1 harg1 arg2 harg2 arg3 harg3 arg4 harg4 arg5 harg5 arg10 arg12 arg13 x0 x1 x2 x3 x4
    (first_slab c i arg1 harg1 arg2 harg2 arg10 x0 x1) (second_slab c i arg1 harg1 arg2 harg2 arg10 x0 x1)) _
    (second_cover c i arg1 harg1 arg2 harg2 arg3 harg3 arg4 harg4 arg5 harg5 arg10 arg12 arg13 x0 x1 x2 x3 x4 r j)

end Cert.FfnIdeal.Tile

end
-- ==== Proof.FfnOut.lean ====
/-
  A block of the feed-forward kernel's result, read at an index: every row is one function of three neighbouring rows.
-/
module

public import proofs.«01_k».proof.Proof.FfnRows

@[expose] public section

noncomputable section

namespace Cert.FfnIdeal.Tile

open Cert.FfnIdeal Cert.FfnIdeal.Gen Cert.Row Idealize.ShloMosaic.ValueIdx Idealize.ShloMosaic.TcCoe
open Idealize.ShloMosaic hiding ix1 ix2 ix3 ix4
open scoped BigOperators

abbrev Gv := FVec Ideal S1x1024 .f32

/-- A row of the residual: the row kept and the row's features through the last weights. -/
def resid (v : FVec Ideal S512x1024 .f32) (f : FVec Ideal S1x512x2816 .bf16) (w : FVec Ideal S2816x1024 .bf16) (r : Fin 512) : Fin 1024 → EReal :=
  blend (fun k => v (ix2 r k)) fun d => ∑ j, f (ix3 0 r j) * w (ix2 j d)

theorem down_times (a : FVec Ideal S512x2816 .bf16) (b : FVec Ideal S2816x1024 .bf16) (r : Fin 512) (c : Fin 1024) :
    matmul dot_S512x2816_S2816x1024_S512x1024_1_0_0_1_n_n none a b (constant S512x1024 .f32 0x00000000#32) (ix2 r c)
      = ∑ k : Fin 2816, a (ix2 r k) * b (ix2 k c) := rows_times none a b r c

theorem resid_at (v : FVec Ideal S512x1024 .f32) (f : FVec Ideal S1x512x2816 .bf16) (w : FVec Ideal S2816x1024 .bf16) (r : Fin 512) (d : Fin 1024) :
    k0_pay157 (F := Ideal) v f w (ix2 r d) = resid v f w r d := by
  unfold k0_pay157
  refine (addf_apply _ _ _).trans ?_
  simp only [down_times, mulf_apply, drop_axis, shapeCast_self]
  rfl

theorem centred_at (v : FVec Ideal S512x1024 .f32) (f : FVec Ideal S1x512x2816 .bf16) (w : FVec Ideal S2816x1024 .bf16) (r : Fin 512) (d : Fin 1024) :
    k0_pay88 (F := Ideal) v f w (ix2 r d) = resid v f w r d - mean (resid v f w r) := by
  refine (centre (k0_pay157 (F := Ideal) v f w) _ _ _ _ _ r d).trans ?_
  simp only [resid_at]

/-- The first stored half, read at an index. -/
theorem first_half (g b : Gv) (v : FVec Ideal S512x1024 .f32) (f : FVec Ideal S1x512x2816 .bf16) (w : FVec Ideal S2816x1024 .bf16) (r : Fin 512) (d : Fin 1024) :
    k0_pay90 (F := Ideal) (k0_pay86 g) (k0_pay87 b) (k0_pay88 v f w) (k0_pay89 v f w) (ix2 r d)
      = norm (resid v f w r) (fun k => g (ix2 0 k)) (fun k => b (ix2 0 k)) d := by
  unfold k0_pay90 k0_pay86 k0_pay87
  simp only [addf_apply, mulf_apply, spread_row, shapeCast_self]
  refine congrArg₂ (fun p q => p * q * g (ix2 0 d) + b (ix2 0 d)) (centred_at v f w r d) ?_
  refine (factor (k0_pay88 (F := Ideal) v f w) _ _ _ _ _ r d).trans ?_
  simp only [centred_at]

/-- The second stored half is the same function of its operands. -/
theorem second_half (g b : Gv) (v : FVec Ideal S512x1024 .f32) (f : FVec Ideal S1x512x2816 .bf16) (w : FVec Ideal S2816x1024 .bf16) :
    k0_pay1 (F := Ideal) (k0_pay158 g) (k0_pay159 b) (k0_pay162 (k0_pay157 v f w) (k0_pay160 v f w) k0_pay161)
        (k0_pay163 (k0_pay157 v f w) (k0_pay160 v f w) k0_pay161)
      = k0_pay90 (F := Ideal) (k0_pay86 g) (k0_pay87 b) (k0_pay88 v f w) (k0_pay89 v f w) :=
  rfl

variable (i : grid0.Coords) (x0 : FVec Ideal S1024x1024 .f32) (x1 : FVec Ideal S16x1024 .f32) (x2 : FVec Ideal S1024x5632 .bf16) (x3 : FVec Ideal S3x5632 .f32)
  (x4 : FVec Ideal S1x5632 .f32) (x5 : FVec Ideal S2816x1024 .bf16) (x6 x7 : Gv)

/-- The row `q` rows above row `ρ` of a block, from the border when the block has none. -/
def back (q : Nat) (hq : q ≤ 16) (ρ : Fin 1024) (k : Fin 1024) : EReal :=
  if h : q ≤ ρ.val then x0 (ix2 ⟨ρ.val - q, by omega⟩ k) else k0_pay2 (F := Ideal) i x1 (ix3 0 ⟨16 + ρ.val - q, by omega⟩ k)

theorem back_first (q o : Nat) (hq : q ≤ 16) (ho : o + q = 16) (r : Fin 512) (k : Fin 1024) :
    slab i x0 x1 (ix3 0 ⟨o + r, by omega⟩ k) = back i x0 x1 q hq ⟨r, by omega⟩ k := by
  unfold back
  split
  · rename_i h
    have h : q ≤ r.val := h
    exact slab_first i x0 x1 0 rfl _ ⟨r - q, by omega⟩ k (by show o + r.val = 16 + (r.val - q); omega)
  · rename_i h
    have h : ¬q ≤ r.val := h
    exact slab_border i x0 x1 0 rfl _ ⟨16 + r.val - q, by omega⟩ k (by show o + r.val = 16 + r.val - q; omega)

theorem back_second (q o : Nat) (hq : q ≤ 16) (ho : o + q = 16) (r : Fin 512) (k : Fin 1024) :
    slab i x0 x1 (ix3 1 ⟨o + r, by omega⟩ k) = back i x0 x1 q hq ⟨512 + r, by omega⟩ k := by
  unfold back
  rw [dif_pos (show q ≤ 512 + r.val by omega)]
  exact slab_second i x0 x1 1 rfl _ ⟨512 + r.val - q, by omega⟩ k (by show 512 + r.val - q = 496 + (o + r.val); omega)

/-- A block of the result, read at an index. -/
def blockRow (y : S1024x1024.Idx) : EReal :=
  ffnRow (back i x0 x1 0 (by decide) (y 0)) (back i x0 x1 1 (by decide) (y 0)) (back i x0 x1 2 (by decide) (y 0))
    (fun k c => x2 (ix2 k c)) (fun o c => x3 (ix2 o c)) (fun c => x4 (ix2 0 c)) (fun j d => x5 (ix2 j d)) (fun k => x6 (ix2 0 k)) (fun k => x7 (ix2 0 k)) (y 1)

theorem ffnRow_congr {a a' b b' e e' : Fin 1024 → EReal} {w w' : Fin 1024 → Fin 5632 → EReal} {cw cw' : Fin 3 → Fin 5632 → EReal} {cb cb' : Fin 5632 → EReal}
    {wd wd' : Fin 2816 → Fin 1024 → EReal} {g g' s s' : Fin 1024 → EReal} (ha : ∀ k, a k = a' k) (hb : ∀ k, b k = b' k) (he : ∀ k, e k = e' k)
    (hw : ∀ k c, w k c = w' k c) (hcw : ∀ o c, cw o c = cw' o c) (hcb : ∀ c, cb c = cb' c) (hwd : ∀ j d, wd j d = wd' j d)
    (hg : ∀ k, g k = g' k) (hs : ∀ k, s k = s' k) (d : Fin 1024) :
    ffnRow a b e w cw cb wd g s d = ffnRow a' b' e' w' cw' cb' wd' g' s' d := by
  obtain rfl := funext ha; obtain rfl := funext hb; obtain rfl := funext he; obtain rfl := funext fun k => funext (hw k)
  obtain rfl := funext fun o => funext (hcw o); obtain rfl := funext hcb; obtain rfl := funext fun j => funext (hwd j)
  obtain rfl := funext hg; obtain rfl := funext hs
  rfl

/-- A stored row is a row of the block. -/
theorem row_at (t : Fin 2) (ρ : Fin 1024) (r : Fin 512) (v : FVec Ideal S512x1024 .f32) (f : FVec Ideal S1x512x2816 .bf16) (w : FVec Ideal S2816x1024 .bf16) (g b : Gv)
    (hv : ∀ k, v (ix2 r k) = x0 (ix2 ρ k)) (hf : ∀ j, f (ix3 0 r j) = feats i x0 x1 x2 x3 x4 (ix3 t r j)) (hw : ∀ j d, w (ix2 j d) = x5 (ix2 j d))
    (hg : ∀ k, g (ix2 0 k) = x6 (ix2 0 k)) (hb : ∀ k, b (ix2 0 k) = x7 (ix2 0 k))
    (hs : ∀ (q o : Nat) (hq : q ≤ 16) (_ : o + q = 16) (k : Fin 1024), slab i x0 x1 (ix3 t ⟨o + r, by omega⟩ k) = back i x0 x1 q hq ρ k) (d : Fin 1024) :
    norm (resid v f w r) (fun k => g (ix2 0 k)) (fun k => b (ix2 0 k)) d = blockRow i x0 x1 x2 x3 x4 x5 x6 x7 (ix2 ρ d) := by
  have h0 : (fun k => x0 (ix2 ρ k)) = back i x0 x1 0 (by decide) ρ := funext fun k => by unfold back; rw [dif_pos (Nat.zero_le _)]; rfl
  have e : resid v f w r = blend (back i x0 x1 0 (by decide) ρ) fun d => ∑ j, feat (back i x0 x1 0 (by decide) ρ) (back i x0 x1 1 (by decide) ρ)
      (back i x0 x1 2 (by decide) ρ) (fun k c => x2 (ix2 k c)) (fun o c => x3 (ix2 o c)) (fun c => x4 (ix2 0 c)) j * x5 (ix2 j d) := by
    unfold resid
    rw [show (fun k => v (ix2 r k)) = back i x0 x1 0 (by decide) ρ from (funext hv).trans h0]
    refine congrArg (blend _) (funext fun d => Finset.sum_congr rfl fun j _ => congrArg₂ (· * ·) ((hf j).trans ?_) (hw j d))
    show feat (fun k => slab i x0 x1 (ix3 t ⟨16 + r, _⟩ k)) (fun k => slab i x0 x1 (ix3 t ⟨15 + r, _⟩ k)) (fun k => slab i x0 x1 (ix3 t ⟨14 + r, _⟩ k)) _ _ _ j = _
    rw [funext (hs 0 16 (by decide) rfl), funext (hs 1 15 (by decide) rfl), funext (hs 2 14 (by decide) rfl)]
  rw [e, funext hg, funext hb]
  rfl

variable (c : Dev nD) (arg1 : Memref sig .tc .vmem S1024x1024 .f32) (harg1 : arg1.IsWhole) (arg2 : Memref sig .tc .vmem S16x1024 .f32) (harg2 : arg2.IsWhole)
  (arg3 : Memref sig .tc .vmem S1024x5632 .bf16) (harg3 : arg3.IsWhole) (arg4 : Memref sig .tc .vmem S3x5632 .f32) (harg4 : arg4.IsWhole)
  (arg5 : Memref sig .tc .vmem S1x5632 .f32) (harg5 : arg5.IsWhole) (arg6 : Memref sig .tc .vmem S2816x1024 .bf16) (harg6 : arg6.IsWhole)
  (arg7 : Memref sig .tc .vmem S1x1024 .f32) (harg7 : arg7.IsWhole) (arg8 : Memref sig .tc .vmem S1x1024 .f32) (harg8 : arg8.IsWhole)
  (arg9 : Memref sig .tc .vmem S1024x1024 .f32) (harg9 : arg9.IsWhole) (arg10 : Memref sig .tc .vmem S2x528x1024 .bf16) (harg10 : arg10.IsWhole)
  (arg11 : Memref sig .tc .vmem S2x512x2816 .bf16) (harg11 : arg11.IsWhole) (arg12 : Memref sig .tc .vmem S2x528x256 .f32) (harg12 : arg12.IsWhole)
  (arg13 : Memref sig .tc .vmem S2x528x256 .f32) (harg13 : arg13.IsWhole)

/-- The two stores of a block's result. -/
theorem out_pieces : ∀ p ∈ (kernelRun0_A (F := Ideal) c i arg1 harg1 arg2 harg2 arg3 harg3 arg4 harg4 arg5 harg5 arg6 harg6 arg7 harg7 arg8 harg8 arg9 harg9 arg10 harg10 arg11 harg11 arg12 harg12
      arg13 harg13 x0 x1 x2 x3 x4 x5 x6 x7).1,
    ∀ x : p.1.shape.Idx, p.2 x = blockRow i x0 x1 x2 x3 x4 x5 x6 x7 (p.1.emb x) := by
  intro p hp
  unfold kernelRun0_A at hp
  simp only [List.mem_cons, List.not_mem_nil, or_false] at hp
  rcases hp with rfl | rfl
  · intro x
    obtain ⟨r, d, rfl⟩ : ∃ r d, x = ix2 r d := ⟨x 0, x 1, ValueIdx.eq_ix2 x⟩
    refine Eq.trans ?_ (congrArg (blockRow i x0 x1 x2 x3 x4 x5 x6 x7) (place inb_S1024x1024_S512x1024_512_0 r d ⟨512 + r, by omega⟩ d rfl (Nat.zero_add _).symm)).symm
    dsimp only
    refine (congrFun (second_half _ _ _ _ _) _).trans ((first_half _ _ _ _ _ r d).trans ?_)
    exact row_at i x0 x1 x2 x3 x4 x5 x6 x7 1 ⟨512 + r, by omega⟩ r _ _ _ _ _ (fun k => rows harg1 x0 _ r k _ rfl)
      (second_feats c i arg1 harg1 arg2 harg2 arg3 harg3 arg4 harg4 arg5 harg5 arg10 arg11 arg12 arg13 x0 x1 x2 x3 x4 r)
      (fun j d => rows harg6 x5 _ j d _ (Nat.zero_add _).symm) (fun k => rows harg7 x6 _ 0 k _ (Nat.zero_add _).symm) (fun k => rows harg8 x7 _ 0 k _ (Nat.zero_add _).symm)
      (fun q o hq ho k => back_second i x0 x1 q o hq ho r k) d
  · intro x
    obtain ⟨r, d, rfl⟩ : ∃ r d, x = ix2 r d := ⟨x 0, x 1, ValueIdx.eq_ix2 x⟩
    refine Eq.trans ?_ (congrArg (blockRow i x0 x1 x2 x3 x4 x5 x6 x7) (place inb_S1024x1024_S512x1024_0_0 r d ⟨r, by omega⟩ d (Nat.zero_add _).symm (Nat.zero_add _).symm)).symm
    dsimp only
    refine (first_half _ _ _ _ _ r d).trans ?_
    exact row_at i x0 x1 x2 x3 x4 x5 x6 x7 0 ⟨r, by omega⟩ r _ _ _ _ _ (fun k => rows harg1 x0 _ r k _ (Nat.zero_add _).symm)
      (first_feats c i arg1 harg1 arg2 harg2 arg3 harg3 arg4 harg4 arg5 harg5 arg10 arg11 arg12 arg13 x0 x1 x2 x3 x4 r)
      (fun j d => rows harg6 x5 _ j d _ (Nat.zero_add _).symm) (fun k => rows harg7 x6 _ 0 k _ (Nat.zero_add _).symm) (fun k => rows harg8 x7 _ 0 k _ (Nat.zero_add _).symm)
      (fun q o hq ho k => back_first i x0 x1 q o hq ho r k) d

theorem out_at (y : S1024x1024.Idx) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 y = blockRow i x0 x1 x2 x3 x4 x5 x6 x7 y := by
  unfold out0_A_8
  rw [View.read_writes_junk_eq_canon]
  have hc := cover0_A_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 y
  have hp := out_pieces i x0 x1 x2 x3 x4 x5 x6 x7 c arg1 harg1 arg2 harg2 arg3 harg3 arg4 harg4 arg5 harg5 arg6 harg6 arg7 harg7 arg8 harg8 arg9 harg9 arg10 harg10 arg11 harg11 arg12 harg12 arg13 harg13
  generalize (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7).1 = L at hc hp ⊢
  exact View.canon_apply_of_pieces _ L hp y hc

end Cert.FfnIdeal.Tile

end
-- ==== Proof.FfnValue.lean ====
/-
  What the feed-forward kernel leaves in its result: every row is one function of the arguments' rows.
-/
module

public import proofs.«01_k».proof.Proof.FfnOut
public import Idealize.ShloMosaic.Lib.Pipeline.ValueKit
public import Idealize.ShloMosaic.Lib.Pointwise

@[expose] public section

noncomputable section

namespace Cert.FfnIdeal.Tile

open Cert.FfnIdeal Cert.FfnIdeal.Gen Cert.Row Idealize.ShloMosaic.ValueIdx Idealize.ShloMosaic.TcCoe
open Idealize.ShloMosaic hiding ix1 ix2 ix3 ix4
open scoped BigOperators

/-- The row `q` positions before position `p` of a sequence, zero when there is none. -/
def prev (x : FVec Ideal S32x2048x1024 .f32) (s : Fin 32) (p : Fin 2048) (q : Nat) (k : Fin 1024) : EReal :=
  if h : q ≤ p.val then x (ix3 s ⟨p.val - q, by omega⟩ k) else 0

/-- One entry of the result: the row of position `p` of sequence `s`, from it and the two positions before it. -/
def result (x0 : FVec Ideal S32x2048x1024 .f32) (x1 : FVec Ideal S1024x5632 .f32) (x2 : FVec Ideal S3x5632 .f32) (x3 : FVec Ideal S5632 .f32)
    (x4 : FVec Ideal S2816x1024 .f32) (x5 x6 : FVec Ideal S1024 .f32) (s : Fin 32) (p : Fin 2048) (d : Fin 1024) : EReal :=
  ffnRow (prev x0 s p 0) (prev x0 s p 1) (prev x0 s p 2) (fun k c => x1 (ix2 k c)) (fun o c => x2 (ix2 o c)) (fun c => x3 (ix1 c))
    (fun j d => x4 (ix2 j d)) (fun k => x5 (ix1 k)) (fun k => x6 (ix1 k)) d

def resultArr (x0 : FVec Ideal S32x2048x1024 .f32) (x1 : FVec Ideal S1024x5632 .f32) (x2 : FVec Ideal S3x5632 .f32) (x3 : FVec Ideal S5632 .f32)
    (x4 : FVec Ideal S2816x1024 .f32) (x5 x6 : FVec Ideal S1024 .f32) : FVec Ideal S65536x1024 .f32 := fun i =>
  result x0 x1 x2 x3 x4 x5 x6 ⟨(i 0).val / 2048, by have : (i 0).val < 65536 := (i 0).isLt; omega⟩ ⟨(i 0).val % 2048, Nat.mod_lt _ (by decide)⟩ ⟨(i 1).val, (i 1).isLt⟩

/-- The kernel's test of whether a block starts a sequence. -/
def starts (i : grid0.Coords) : BitVec 1 :=
  let arg0 : BitVec 32 := BitVec.ofNat 32 (i 0).val
  let v1 : BitVec 32 := Scalar.select (Scalar.cmpi .eq 2#32 0#32) 1#32 2#32
  let v2 : BitVec 32 := Scalar.remsi arg0 v1
  Scalar.cmpi .eq (Scalar.select (Scalar.andi (Scalar.xori (Scalar.cmpi .slt v2 0#32) (Scalar.cmpi .slt v1 0#32)) (Scalar.cmpi .ne v2 0#32)) (Scalar.addi v2 v1) v2) 0#32

/-- Every second block starts a sequence. -/
theorem starts_at (t : Fin cfg0.N) : starts (grid0.coords t) = if t.val % 2 = 0 then 1#1 else 0#1 := by
  revert t; decide +kernel

theorem border_at (t : Fin cfg0.N) (v : FVec Ideal S16x1024 .f32) (q : Fin 16) (k : Fin 1024) :
    k0_pay2 (F := Ideal) (grid0.coords t) v (ix3 0 q k) = if t.val % 2 = 0 then 0 else v (ix2 q k) := by
  unfold k0_pay2
  refine (add_axis _ _ 0 q k).trans ?_
  show Scalar.select (starts (grid0.coords t)) (broadcast S16x1024 (Ideal.ofBits .f32 0x00000000#32)) (shapeCast S16x1024 v shapeCasts_S16x1024_S16x1024) (ix2 q k) = _
  rw [starts_at, shapeCast_self]
  split
  · exact Ideal.ofBits_zero_f32
  · rfl

variable (m : (ℓ : Loc nD τ sig) → Buf (Elt Ideal) ℓ)

theorem idx (t : Fin cfg0.N) : win0_0.index t = ![t.val, 0] ∧ win0_1.index t = ![t.val * 64 - 1, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val, 0] := by
  revert t; decide +kernel

/-- The row of the arguments that row `r` of block `t` is. -/
abbrev seq (t : Fin cfg0.N) (r : Fin 1024) : Fin 32 := ⟨(t.val * 1024 + r) / 2048, by have : t.val < 64 := t.isLt; omega⟩
abbrev pos (t : Fin cfg0.N) (r : Fin 1024) : Fin 2048 := ⟨(t.val * 1024 + r) % 2048, Nat.mod_lt _ (by decide)⟩

theorem x_at (c : Dev nD) (t : Fin cfg0.N) (r k : Fin 1024) :
    iblk m c 0 t (ix2 r k) = m ((c : Thread nD τ).loc main_arg0) (ix3 (seq t r) (pos t r) k) := by
  blk_ext! [iblk, V, idx t]

theorem halo_at (c : Dev nD) (t : Fin cfg0.N) (q : Fin 16) (k : Fin 1024) :
    iblk m c 1 t (ix2 q k) = m ((c : Thread nD τ).loc main_arg0) (ix3 (⟨((t.val * 64 - 1) * 16 + q) / 2048, by have : t.val < 64 := t.isLt; omega⟩ : Fin 32)
      (⟨((t.val * 64 - 1) * 16 + q) % 2048, Nat.mod_lt _ (by decide)⟩ : Fin 2048) k) := by
  blk_ext! [iblk, V, idx t]

/-- The rows before a block's row are the positions before its position. -/
theorem prev_at (c : Dev nD) (t : Fin cfg0.N) (q : Nat) (hq : q ≤ 16) (r k : Fin 1024) :
    back (grid0.coords t) (iblk m c 0 t) (iblk m c 1 t) q hq r k = prev (m ((c : Thread nD τ).loc main_arg0)) (seq t r) (pos t r) q k := by
  have ht : t.val < 64 := t.isLt
  have hr : r.val < 1024 := r.isLt
  unfold back prev
  by_cases h : q ≤ r.val
  · rw [dif_pos h, dif_pos (show q ≤ (t.val * 1024 + r.val) % 2048 by omega), x_at]
    refine congrArg _ ?_
    congr 1 <;> apply Fin.ext
    · show (t.val * 1024 + (r.val - q)) / 2048 = (t.val * 1024 + r.val) / 2048; omega
    · show (t.val * 1024 + (r.val - q)) % 2048 = (t.val * 1024 + r.val) % 2048 - q; omega
  · rw [dif_neg h, border_at]
    by_cases h2 : t.val % 2 = 0
    · rw [if_pos h2, dif_neg (show ¬q ≤ (t.val * 1024 + r.val) % 2048 by omega)]
    · rw [if_neg h2, dif_pos (show q ≤ (t.val * 1024 + r.val) % 2048 by omega), halo_at]
      refine congrArg _ ?_
      congr 1 <;> apply Fin.ext
      · show ((t.val * 64 - 1) * 16 + (16 + r.val - q)) / 2048 = (t.val * 1024 + r.val) / 2048; omega
      · show ((t.val * 64 - 1) * 16 + (16 + r.val - q)) % 2048 = (t.val * 1024 + r.val) % 2048 - q; omega

theorem wu_at (c : Dev nD) (t : Fin cfg0.N) (j : Fin 1024) (k : Fin 5632) :
    iblk m c 2 t (ix2 j k) = m ((c : Thread nD τ).loc main_arg1) (ix2 j k) := by
  blk_ext [iblk, V, idx t]

theorem cw_at (c : Dev nD) (t : Fin cfg0.N) (o : Fin 3) (k : Fin 5632) :
    iblk m c 3 t (ix2 o k) = m ((c : Thread nD τ).loc main_arg2) (ix2 o k) := by
  blk_ext [iblk, V, idx t]

theorem cb_at (c : Dev nD) (t : Fin cfg0.N) (k : Fin 5632) :
    iblk m c 4 t (ix2 0 k) = m ((c : Thread nD τ).loc main_arg3) (ix1 k) := by
  blk_ext! [iblk, V, idx t]

theorem wd_at (c : Dev nD) (t : Fin cfg0.N) (j : Fin 2816) (k : Fin 1024) :
    iblk m c 5 t (ix2 j k) = m ((c : Thread nD τ).loc main_arg4) (ix2 j k) := by
  blk_ext [iblk, V, idx t]

theorem g_at (c : Dev nD) (t : Fin cfg0.N) (k : Fin 1024) :
    iblk m c 6 t (ix2 0 k) = m ((c : Thread nD τ).loc main_arg5) (ix1 k) := by
  blk_ext! [iblk, V, idx t]

theorem b_at (c : Dev nD) (t : Fin cfg0.N) (k : Fin 1024) :
    iblk m c 7 t (ix2 0 k) = m ((c : Thread nD τ).loc main_arg6) (ix1 k) := by
  blk_ext! [iblk, V, idx t]

theorem place_out (t : Fin cfg0.N) (r d : Fin 1024) : (win0_8.blk t).view.emb (ix2 r d) = ix2 ⟨t.val * 1024 + r, by have : t.val < 64 := t.isLt; omega⟩ d := by
  blk_ext [idx t]

theorem final (c : Dev nD) : (dats m 0 c).arrAt 8 cfg0.N
    = resultArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 8 _ (by decide +kernel) fun t hf y => ?_
  obtain ⟨r, d, rfl⟩ : ∃ r d, y = ix2 r d := ⟨y 0, y 1, ValueIdx.eq_ix2 y⟩
  blk_simp
  rw [after0_8, show ((cfg0.win 8).blk t).view.emb (ix2 r d) = _ from place_out t r d]
  refine Eq.trans (b := blockRow (grid0.coords t) (iblk m c 0 t) (iblk m c 1 t) (iblk m c 2 t) (iblk m c 3 t) (iblk m c 4 t) (iblk m c 5 t) (iblk m c 6 t) (iblk m c 7 t) (ix2 r d)) ?_ ?_
  · unfold outsAt0
    exact out_at (grid0.coords t) (iblk m c 0 t) (iblk m c 1 t) (iblk m c 2 t) (iblk m c 3 t) (iblk m c 4 t) (iblk m c 5 t) (iblk m c 6 t) (iblk m c 7 t)
      c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (ms0_8 t) (hs0_8 t) scM0_0 (Memref.isWhole_whole _) scM0_1 (Memref.isWhole_whole _) scM0_2 (Memref.isWhole_whole _) scM0_3 (Memref.isWhole_whole _) (ix2 r d)
  · unfold blockRow resultArr result
    exact ffnRow_congr (prev_at m c t 0 _ r) (prev_at m c t 1 _ r) (prev_at m c t 2 _ r) (wu_at m c t) (cw_at m c t) (cb_at m c t) (wd_at m c t) (g_at m c t) (b_at m c t) d

end Cert.FfnIdeal.Tile

end
-- ==== Proof.FfnRef.lean ====
/-
  The feed-forward's reference read at an index: it is the same function of three neighbouring rows and the weights.
-/
module

public import proofs.«01_k».proof.Proof.Gen.FfnRefIdeal.Read
public import proofs.«01_k».proof.Proof.FfnValue
public import Idealize.ShloMosaic.Lib.KernelVsHost

@[expose] public section

noncomputable section

namespace Cert.FfnRefIdeal.Rows

open Cert.FfnRefIdeal Cert.FfnRefIdeal.Gen Cert.FfnRefIdeal.Read Cert.Row Idealize.ShloMosaic.ValueIdx
open Idealize.ShloMosaic hiding ix1 ix2 ix3 ix4
open Cert.FfnIdeal.Tile (up conv feat ffnRow prev result resultArr)
open scoped BigOperators

variable (x0 : FVec Ideal S32x2048x1024 .f32) (x1 : FVec Ideal S1024x5632 .f32) (x2 : FVec Ideal S3x5632 .f32) (x3 : FVec Ideal S5632 .f32)
  (x4 : FVec Ideal S2816x1024 .f32) (x5 x6 : FVec Ideal S1024 .f32) (s : Fin 32) (p : Fin 2048) (d : Fin 1024)

theorem up_at (c : Fin 5632) : val_main_v0 (F := Ideal) x0 x1 (ix3 s p c) = up (fun k => x0 (ix3 s p k)) (fun k c => x1 (ix2 k c)) c := by
  rw [val_main_v0_apply]
  exact Finset.sum_congr rfl fun j _ => congrArg₂ (fun a b => x0 a * x1 b) (ValueIdx.eq_ix3 _) (ValueIdx.eq_ix2 _)

/-- The rows with two zero rows put before them. -/
theorem padded_at (q o : Nat) (h : o + q = 2) (j : S32x2050x5632.Idx) (c : Fin 5632) (hs : (j 0).val = s.val) (hp : (j 1).val = o + p.val) (hc : (j 2).val = c.val) :
    val_main_v1 (F := Ideal) x0 x1 j = up (prev x0 s p q) (fun k c => x1 (ix2 k c)) c := by
  unfold val_main_v1
  by_cases hq : q ≤ p.val
  · refine (pad_apply_of_inside _ _ _ _ _ _ _ j (ix3 s (⟨p.val - q, by omega⟩ : Fin 2048) c) fun a => ?_).trans ((up_at x0 x1 s _ c).trans ?_)
    · match a with
      | ⟨0, _⟩ => exact hs.trans (by show s.val = 0 + s.val * 1; omega)
      | ⟨1, _⟩ => exact hp.trans (by show o + p.val = 2 + (p.val - q) * 1; omega)
      | ⟨2, _⟩ => exact hc.trans (by show c.val = 0 + c.val * 1; omega)
    · exact congrArg (fun r => up r _ c) (funext fun k => show x0 _ = prev x0 s p q k by unfold prev; rw [dif_pos hq])
  · refine (pad_apply_of_not_inside _ _ _ _ _ _ _ j 1 fun hn => ?_).trans ?_
    · have h1 : 2 ≤ (j 1).val := hn.1
      omega
    · refine Eq.trans (b := (0 : EReal)) ?_ (Eq.symm ?_)
      · show (((0#32 : BitVec 32).toInt : ℝ) : EReal) = 0
        simp
      · refine Finset.sum_eq_zero fun k _ => ?_
        rw [show prev x0 s p q k = 0 from dif_neg hq, zero_mul]

theorem weight0_at (c : Fin 5632) : val_main_v6 (F := Ideal) x2 (ix3 s p c) = x2 (ix2 0 c) := by
  rw [val_main_v6_apply, val_main_v5_apply, val_main_v3_apply, val_main_v2_apply]
  exact congrArg x2 ((ValueIdx.eq_ix2 _).trans (congrArg (ix2 (0 : Fin 3)) (Fin.ext (Nat.mod_eq_of_lt c.isLt))))

theorem weight1_at (c : Fin 5632) : val_main_v12 (F := Ideal) x2 (ix3 s p c) = x2 (ix2 1 c) := by
  rw [val_main_v12_apply, val_main_v11_apply, val_main_v9_apply, val_main_v8_apply]
  exact congrArg x2 ((ValueIdx.eq_ix2 _).trans (congrArg (ix2 (1 : Fin 3)) (Fin.ext (Nat.mod_eq_of_lt c.isLt))))

theorem weight2_at (c : Fin 5632) : val_main_v19 (F := Ideal) x2 (ix3 s p c) = x2 (ix2 2 c) := by
  rw [val_main_v19_apply, val_main_v18_apply, val_main_v16_apply, val_main_v15_apply]
  exact congrArg x2 ((ValueIdx.eq_ix2 _).trans (congrArg (ix2 (2 : Fin 3)) (Fin.ext (Nat.mod_eq_of_lt c.isLt))))

theorem conv_at (c : Fin 5632) : val_main_v24 (F := Ideal) x0 x1 x2 x3 (ix3 s p c)
    = conv (prev x0 s p 0) (prev x0 s p 1) (prev x0 s p 2) (fun k c => x1 (ix2 k c)) (fun o c => x2 (ix2 o c)) (fun c => x3 (ix1 c)) c := by
  rw [val_main_v24_apply, val_main_v21_apply, val_main_v14_apply, val_main_v7_apply, val_main_v13_apply, val_main_v20_apply,
    val_main_v4_apply, val_main_v10_apply, val_main_v17_apply,
    padded_at x0 x1 s p 2 0 rfl (idx_main_v4 (ix3 s p c)) c rfl (Nat.zero_add _).symm rfl, padded_at x0 x1 s p 1 1 rfl (idx_main_v10 (ix3 s p c)) c rfl rfl rfl,
    padded_at x0 x1 s p 0 2 rfl (idx_main_v17 (ix3 s p c)) c rfl rfl rfl,
    weight0_at, weight1_at, weight2_at, val_main_v23_apply, val_main_v22_apply, show idx_main_v22 _ = ix1 c from ValueIdx.eq_ix1 _]
  unfold conv
  generalize up _ _ c = u0
  generalize up _ _ c = u1
  generalize up _ _ c = u2
  exact congrArg (· + x3 (ix1 c)) ((add_comm _ _).trans ((congrArg (_ + ·) (add_comm _ _)).trans (add_assoc _ _ _).symm))

theorem gated_at (j : Fin 2816) : val_main_v28 (F := Ideal) x0 x1 x2 x3 (ix3 s p j)
    = feat (prev x0 s p 0) (prev x0 s p 1) (prev x0 s p 2) (fun k c => x1 (ix2 k c)) (fun o c => x2 (ix2 o c)) (fun c => x3 (ix1 c)) j := by
  refine Eq.trans (b := silu (val_main_v25 (F := Ideal) x0 x1 x2 x3 (ix3 s p j)) * val_main_v26 (F := Ideal) x0 x1 x2 x3 (ix3 s p j)) rfl ?_
  rw [val_main_v25_apply, val_main_v26_apply, show idx_main_v25 (ix3 s p j) = ix3 s p (⟨j, by omega⟩ : Fin 5632) from ValueIdx.eq_ix3 _,
    show idx_main_v26 (ix3 s p j) = ix3 s p (⟨2816 + j, by omega⟩ : Fin 5632) from ValueIdx.eq_ix3 _, conv_at, conv_at]
  rfl

/-- The row before its normalisation. -/
abbrev blended : Fin 1024 → EReal := blend (prev x0 s p 0) fun d => ∑ j, feat (prev x0 s p 0) (prev x0 s p 1) (prev x0 s p 2)
  (fun k c => x1 (ix2 k c)) (fun o c => x2 (ix2 o c)) (fun c => x3 (ix1 c)) j * x4 (ix2 j d)

theorem blended_at : val_main_v32 (F := Ideal) x0 x1 x2 x3 x4 (ix3 s p d) = blended x0 x1 x2 x3 x4 s p d := by
  have h29 : val_main_v29 (F := Ideal) x0 x1 x2 x3 x4 (ix3 s p d) = ∑ j, feat (prev x0 s p 0) (prev x0 s p 1) (prev x0 s p 2)
      (fun k c => x1 (ix2 k c)) (fun o c => x2 (ix2 o c)) (fun c => x3 (ix1 c)) j * x4 (ix2 j d) := by
    rw [val_main_v29_apply]
    refine Finset.sum_congr rfl fun j _ => ?_
    rw [← gated_at]
    exact congrArg₂ (fun a b => val_main_v28 (F := Ideal) x0 x1 x2 x3 a * x4 b) (ValueIdx.eq_ix3 _) (ValueIdx.eq_ix2 _)
  have h0 : prev x0 s p 0 d = x0 (ix3 s p d) := dif_pos (Nat.zero_le _)
  rw [val_main_v32_apply, val_main_v31_apply, val_main_v30_apply, h29, ← h0]
  rfl

theorem mean_at (z : Fin 1) : val_main_v36 (F := Ideal) x0 x1 x2 x3 x4 (ix3 s p z) = mean (blended x0 x1 x2 x3 x4 s p) := by
  rw [val_main_v36_apply, val_main_v34_apply, val_main_v33_apply, show val_main_cst_0 (F := Ideal) _ = (0 : EReal) from Ideal.ofBits_zero_f32, zero_add]
  refine congrArg (fun u => Ideal.div u (Ideal.ofBits .f32 0x44800000#32)) (Finset.sum_congr rfl fun k _ => ?_)
  rw [← blended_at]
  exact congrArg _ (ValueIdx.eq_ix3 _)

theorem centred_at : val_main_v38 (F := Ideal) x0 x1 x2 x3 x4 (ix3 s p d) = blended x0 x1 x2 x3 x4 s p d - mean (blended x0 x1 x2 x3 x4 s p) := by
  rw [val_main_v38_apply, blended_at, val_main_v37_apply, ← mean_at x0 x1 x2 x3 x4 s p 0]
  exact congrArg (fun j => blended x0 x1 x2 x3 x4 s p d - val_main_v36 (F := Ideal) x0 x1 x2 x3 x4 j) (ValueIdx.eq_ix3 _)

theorem factor_at (z : Fin 1) : val_main_v46 (F := Ideal) x0 x1 x2 x3 x4 (ix3 s p z)
    = Ideal.rsqrt (mean (fun k => (blended x0 x1 x2 x3 x4 s p k - mean (blended x0 x1 x2 x3 x4 s p))
        * (blended x0 x1 x2 x3 x4 s p k - mean (blended x0 x1 x2 x3 x4 s p))) + Ideal.ofBits .f32 0x3727C5AC#32) := by
  rw [val_main_v46_apply, val_main_v45_apply, val_main_v43_apply, val_main_v41_apply, val_main_v40_apply,
    show val_main_cst_2 (F := Ideal) _ = (0 : EReal) from Ideal.ofBits_zero_f32, zero_add]
  refine congrArg (fun u => Ideal.rsqrt (Ideal.div u (Ideal.ofBits .f32 0x44800000#32) + Ideal.ofBits .f32 0x3727C5AC#32))
    (Finset.sum_congr rfl fun k _ => ?_)
  rw [show idx_main_v40 _ k = ix3 s p k from ValueIdx.eq_ix3 _, val_main_v39_apply, centred_at]
  rfl

theorem result_at : val_main_v54 (F := Ideal) x0 x1 x2 x3 x4 x5 x6 (ix3 s p d) = result x0 x1 x2 x3 x4 x5 x6 s p d := by
  rw [val_main_v54_apply, val_main_v51_apply, val_main_v48_apply, centred_at, val_main_v47_apply,
    show idx_main_v47 (ix3 s p d) = ix3 s p (0 : Fin 1) from ValueIdx.eq_ix3 _, factor_at, val_main_v50_apply, val_main_v49_apply,
    val_main_v53_apply, val_main_v52_apply, show idx_main_v49 _ = ix1 d from ValueIdx.eq_ix1 _, show idx_main_v52 _ = ix1 d from ValueIdx.eq_ix1 _]
  rfl

/-- The reference's result is the same array. -/
theorem result_eq : val_main_v55 (F := Ideal) x0 x1 x2 x3 x4 x5 x6 = resultArr x0 x1 x2 x3 x4 x5 x6 := by
  funext i
  have h0 : (i 0).val < 65536 := (i 0).isLt
  have h1 : (i 1).val < 1024 := (i 1).isLt
  rw [val_main_v55_apply, show idx_main_v55 i = ix3 (⟨(i 0).val / 2048, by omega⟩ : Fin 32) (⟨(i 0).val % 2048, by omega⟩ : Fin 2048) (⟨(i 1).val, h1⟩ : Fin 1024) from ?_, result_at]
  · rfl
  · refine (ValueIdx.eq_ix3 _).trans ?_
    congr 1 <;> apply Fin.ext
    · show ((i 0).val * 1024 + (i 1).val) / 2097152 = (i 0).val / 2048; omega
    · show ((i 0).val * 1024 + (i 1).val) / 1024 % 2048 = (i 0).val % 2048; omega
    · show ((i 0).val * 1024 + (i 1).val) % 1024 = (i 1).val; omega

end Cert.FfnRefIdeal.Rows
-- ==== Proof.FfnClaim.lean ====
/-
  The feed-forward's claims: its programs' frames, and that the tiled kernel and the reference compute the same array.
-/
module

public import proofs.«01_k».proof.Defs
public import proofs.«01_k».proof.Proof.Gen.Ffn.Frame
public import proofs.«01_k».proof.Proof.FfnValue
public import proofs.«01_k».proof.Proof.FfnRef

@[expose] public section

noncomputable section

namespace Cert.FfnClaim

open Idealize.ShloMosaic Idealize.SL.Sem

/-- The reference's run, with its counters: the program declares no semaphore. -/
theorem frame_ref : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run m ρ)

/-- Over the extended reals the feed-forward kernel and its reference leave the same array, for any arguments. -/
theorem equal : Cert.algebraic_FfnIdeal_FfnRefIdeal (hFfnIdeal := Cert.FfnIdeal.Gen.facts)
    (hFfnRefIdeal := Cert.FfnRefIdeal.Gen.facts) := by
  intro m g m' g' _ hargs
  refine ⟨fun c => (Cert.FfnIdeal.Gen.dats m 0 c).arrAt 8 Cert.FfnIdeal.cfg0.N, Cert.FfnIdeal.Value.run_blocks m g, ?_⟩
  refine (θ_run Cert.FfnRefIdeal.defs _ _).mono (fun r h c => ⟨(h c).1.trans ?_, (h c).2⟩) (Cert.FfnRefIdeal.Value.run m' g')
  obtain ⟨h0, h1, h2, h3, h4, h5, h6⟩ := hargs c
  refine ((Cert.FfnRefIdeal.Read.val_main_v55_eq m' c).trans
    (Cert.FfnRefIdeal.Rows.result_eq _ _ _ _ _ _ _)).trans ?_
  rw [h0, h1, h2, h3, h4, h5, h6]
  exact (Cert.FfnIdeal.Tile.final m c).symm

end Cert.FfnClaim
-- ==== Proof.lean ====
/-
  The certificate: each program's frame, the idealizations, and the value claims, put together.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.MlaClaim
public import proofs.«01_k».proof.Proof.MergeClaim
public import proofs.«01_k».proof.Proof.ProjClaim
public import proofs.«01_k».proof.Proof.FfnClaim

@[expose] public section

noncomputable section

namespace Cert.Proof

open Idealize.ShloMosaic Idealize.SL.Sem

/-- The attention's mask constant stands for minus infinity. -/
theorem mask_named : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Merge.Gen.facts, Cert.MergeIdeal.Gen.facts, Cert.MergeRefIdeal.Gen.facts,
  Cert.Proj.Gen.facts, Cert.ProjIdeal.Gen.facts, Cert.ProjRefIdeal.Gen.facts, Cert.MlaClaim.pre_facts,
  fun m ρ _ => Cert.Kernel.Gen.frame m ρ, fun m ρ _ => Cert.KernelIdeal.Gen.frame m ρ,
  fun m ρ _ => Cert.KernelIdeal.Gen.frame m ρ, Cert.MlaClaim.frame_ref, fun m ρ _ => Cert.MlaClaim.frame_ref m ρ trivial,
  fun m ρ _ => Cert.Ffn.Gen.frame m ρ, fun m ρ _ => Cert.FfnIdeal.Gen.frame m ρ, Cert.FfnClaim.frame_ref,
  fun m ρ _ => Cert.Merge.Gen.frame m ρ, fun m ρ _ => Cert.MergeIdeal.Gen.frame m ρ, Cert.MergeClaim.frame_ref,
  fun m ρ _ => Cert.Proj.Gen.frame m ρ, fun m ρ _ => Cert.ProjIdeal.Gen.frame m ρ, Cert.ProjClaim.frame_ref,
  mask_named, Cert.MlaClaim.equal, trivial, Cert.FfnClaim.equal, trivial, Cert.MergeClaim.equal,
  Cert.ProjClaim.named, Cert.ProjClaim.equal⟩

end Cert.Proof

end
